-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_weights [hPre_finite_weights : Cert.Pre_finite_weights.Facts] (m : (ℓ : Loc Cert.KernelIdeal.nD Cert.KernelIdeal.τ Cert.KernelIdeal.sig) → Buf (Elt Ideal) ℓ) : Prop :=
  ∀ c : Dev Cert.KernelIdeal.nD,
    (Cert.Pre_finite_weights.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_weights [hPre_finite_weights : Cert.Pre_finite_weights.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_weights.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))
      ∧ r.2.sem = fun _ => 0)

def quiescent_KernelIdeal_pre_finite_weights [hKernelIdeal : Cert.KernelIdeal.Facts] [hPre_finite_weights : Cert.Pre_finite_weights.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_weights m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12))
      ∧ r.2.sem = fun _ => 0)

def quiescent_ReferenceIdeal_pre_finite_weights [hReferenceIdeal : Cert.ReferenceIdeal.Facts] [hPre_finite_weights : Cert.Pre_finite_weights.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_weights m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12))
      ∧ r.2.sem = fun _ => 0)

def preserves_Kernel_KernelIdeal : Prop :=
  IdealRules.named_const.Statement Cert.KernelIdeal.κ "rope" .f32 0xBE935D8E#32 (((-1 / 32) * (Real.log 10000) : ℝ) : EReal)
  ∧ IdealRules.named_const.Statement Cert.KernelIdeal.κ "log2e_8" .f32 0x3E38AA3B#32 (((8 * (Real.log 2))⁻¹ : ℝ) : EReal)

def algebraic_KernelIdeal_ReferenceIdeal_pre_finite_weights [hKernelIdeal : Cert.KernelIdeal.Facts] [hReferenceIdeal : Cert.ReferenceIdeal.Facts] [hPre_finite_weights : Cert.Pre_finite_weights.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_weights m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v118) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12))

def Claim : Prop :=
  ∃ (hKernel : Cert.Kernel.Facts) (hKernelIdeal : Cert.KernelIdeal.Facts) (hReferenceIdeal : Cert.ReferenceIdeal.Facts) (hPre_finite_weights : Cert.Pre_finite_weights.Facts),
    quiescent_Kernel (hKernel := hKernel)
    ∧ quiescent_KernelIdeal (hKernelIdeal := hKernelIdeal)
    ∧ quiescent_KernelIdeal_pre_finite_weights (hKernelIdeal := hKernelIdeal) (hPre_finite_weights := hPre_finite_weights)
    ∧ quiescent_ReferenceIdeal (hReferenceIdeal := hReferenceIdeal)
    ∧ quiescent_ReferenceIdeal_pre_finite_weights (hReferenceIdeal := hReferenceIdeal) (hPre_finite_weights := hPre_finite_weights)
    ∧ preserves_Kernel_KernelIdeal
    ∧ algebraic_KernelIdeal_ReferenceIdeal_pre_finite_weights (hKernelIdeal := hKernelIdeal) (hReferenceIdeal := hReferenceIdeal) (hPre_finite_weights := hPre_finite_weights)
-- ==== Pre_finite_weights.lean ====
abbrev S1x2048x1024 : Shape := ⟨3, ![1, 2048, 1024]⟩
abbrev S1x2048 : Shape := ⟨2, ![1, 2048]⟩
abbrev S1024 : Shape := ⟨1, ![1024]⟩
abbrev S1024x1024 : Shape := ⟨2, ![1024, 1024]⟩
abbrev S1024x512 : Shape := ⟨2, ![1024, 512]⟩
abbrev S1024x2048 : Shape := ⟨2, ![1024, 2048]⟩
abbrev S2048x1024 : Shape := ⟨2, ![2048, 1024]⟩
abbrev S1024x1536 : Shape := ⟨2, ![1024, 1536]⟩
abbrev S_ : Shape := ⟨0, ![]⟩
abbrev S1024x1 : Shape := ⟨2, ![1024, 1]⟩

class Facts : Prop where
  concatenates_S1024x1024_S1024x512_S1024x1536_d1 : Shape.Concatenates [S1024x1024, S1024x512] S1024x1536 1
  bcast_S_S1024x1536 : S_.BroadcastsInDim S1024x1536 (![] : Fin 0 → Fin S1024x1536.rank)
  bcast_S1024_S1024x1_0 : S1024.BroadcastsInDim S1024x1 (![0] : Fin 1 → Fin S1024x1.rank)
  bcast_S_S1024x1 : S_.BroadcastsInDim S1024x1 (![] : Fin 0 → Fin S1024x1.rank)
  bcast_S1024x1_S1024x1536_0_1 : S1024x1.BroadcastsInDim S1024x1536 (![0, 1] : Fin 2 → Fin S1024x1536.rank)

variable [Facts]

def fn {F : FTy → Type} [FloatOps F] (main_arg0 : FVec F S1x2048x1024 .f32) (main_arg1 : IVec S1x2048 32) (main_arg2 : IVec S1x2048 1) (main_arg3 : FVec F S1x2048 .f32) (main_arg4 : FVec F S1024 .f32) (main_arg5 : FVec F S1024x1024 .f32) (main_arg6 : FVec F S1024x512 .f32) (main_arg7 : FVec F S1024x512 .f32) (main_arg8 : FVec F S1024x1024 .f32) (main_arg9 : FVec F S1024 .f32) (main_arg10 : FVec F S1024x2048 .f32) (main_arg11 : FVec F S1024x2048 .f32) (main_arg12 : FVec F S2048x1024 .f32) : IVec S1024x1536 1 :=
  let main_v0 : FVec F S1024x1536 .f32 := (fun a b => concatenate S1024x1536 1 [⟨S1024x1024, a⟩, ⟨S1024x512, b⟩] concatenates_S1024x1024_S1024x512_S1024x1536_d1) main_arg5 main_arg6
  let main_v1 : FVec F S1024x1536 .f32 := Host.absf main_v0
  let main_cst : FVec F S_ .f32 := constant S_ .f32 0x7F800000#32
  let main_v2 : FVec F S1024x1536 .f32 := broadcastInDim S1024x1536 ![] bcast_S_S1024x1536 main_cst
  let main_v3 : IVec S1024x1536 1 := cmpf .olt main_v1 main_v2
  let main_v4 : FVec F S1024 .f32 := Host.absf main_arg4
  let main_v5 : FVec F S1024x1 .f32 := broadcastInDim S1024x1 ![0] bcast_S1024_S1024x1_0 main_v4
  let main_cst_0 : FVec F S_ .f32 := constant S_ .f32 0x7F800000#32
  let main_v6 : FVec F S1024x1 .f32 := broadcastInDim S1024x1 ![] bcast_S_S1024x1 main_cst_0
  let main_v7 : IVec S1024x1 1 := cmpf .olt main_v5 main_v6
  let main_v8 : IVec S1024x1536 1 := broadcastInDim S1024x1536 ![0, 1] bcast_S1024x1_S1024x1536_0_1 main_v7
  let main_v9 : IVec S1024x1536 1 := andi main_v3 main_v8
  main_v9
-- ==== Kernel.lean ====
abbrev S1x2048x1024 : Shape := ⟨3, ![1, 2048, 1024]⟩
abbrev S1x2048 : Shape := ⟨2, ![1, 2048]⟩
abbrev S1024 : Shape := ⟨1, ![1024]⟩
abbrev S1024x1024 : Shape := ⟨2, ![1024, 1024]⟩
abbrev S1024x512 : Shape := ⟨2, ![1024, 512]⟩
abbrev S1024x2048 : Shape := ⟨2, ![1024, 2048]⟩
abbrev S2048x1024 : Shape := ⟨2, ![2048, 1024]⟩
abbrev S2048 : Shape := ⟨1, ![2048]⟩
abbrev S2048x1 : Shape := ⟨2, ![2048, 1]⟩
abbrev S2048x128 : Shape := ⟨2, ![2048, 128]⟩
abbrev S1x1024 : Shape := ⟨2, ![1, 1024]⟩
abbrev S2048x2048 : Shape := ⟨2, ![2048, 2048]⟩
abbrev S2048x512 : Shape := ⟨2, ![2048, 512]⟩
abbrev S2048x8x64 : Shape := ⟨3, ![2048, 8, 64]⟩
abbrev S8x2048x64 : Shape := ⟨3, ![8, 2048, 64]⟩
abbrev S256x1024 : Shape := ⟨2, ![256, 1024]⟩
abbrev S256x128 : Shape := ⟨2, ![256, 128]⟩
abbrev S256x2048 : Shape := ⟨2, ![256, 2048]⟩
abbrev S256 : Shape := ⟨1, ![256]⟩
abbrev S256x1 : Shape := ⟨2, ![256, 1]⟩
abbrev S1x32 : Shape := ⟨2, ![1, 32]⟩
abbrev S256x32 : Shape := ⟨2, ![256, 32]⟩
abbrev S256x512 : Shape := ⟨2, ![256, 512]⟩
abbrev S512x128 : Shape := ⟨2, ![512, 128]⟩
abbrev S1x2048x64 : Shape := ⟨3, ![1, 2048, 64]⟩
abbrev S2048x64 : Shape := ⟨2, ![2048, 64]⟩
abbrev S512x64 : Shape := ⟨2, ![512, 64]⟩
abbrev S1024x64 : Shape := ⟨2, ![1024, 64]⟩
abbrev S1024x128 : Shape := ⟨2, ![1024, 128]⟩
abbrev S1x512x64 : Shape := ⟨3, ![1, 512, 64]⟩
abbrev S512x1 : Shape := ⟨2, ![512, 1]⟩
abbrev S1024x4096 : Shape := ⟨2, ![1024, 4096]⟩
abbrev S256x4096 : Shape := ⟨2, ![256, 4096]⟩

abbrev nBuf : Space → Nat
  | .hbm => 37
  | .vmem => 39
  | .smem => 0
  | _ => 0

abbrev bufTy : (tb : Table) → Fin (tcTables nBuf tb) → BufTy
  | .hbm, ⟨0, _⟩ => ⟨S1x2048x1024, .f32⟩
  | .hbm, ⟨1, _⟩ => ⟨S1x2048, .i32⟩
  | .hbm, ⟨2, _⟩ => ⟨S1x2048, .i1⟩
  | .hbm, ⟨3, _⟩ => ⟨S1x2048, .f32⟩
  | .hbm, ⟨4, _⟩ => ⟨S1024, .f32⟩
  | .hbm, ⟨5, _⟩ => ⟨S1024x1024, .f32⟩
  | .hbm, ⟨6, _⟩ => ⟨S1024x512, .f32⟩
  | .hbm, ⟨7, _⟩ => ⟨S1024x512, .f32⟩
  | .hbm, ⟨8, _⟩ => ⟨S1024x1024, .f32⟩
  | .hbm, ⟨9, _⟩ => ⟨S1024, .f32⟩
  | .hbm, ⟨10, _⟩ => ⟨S1024x2048, .f32⟩
  | .hbm, ⟨11, _⟩ => ⟨S1024x2048, .f32⟩
  | .hbm, ⟨12, _⟩ => ⟨S2048x1024, .f32⟩
  | .hbm, ⟨13, _⟩ => ⟨S2048x1024, .f32⟩
  | .hbm, ⟨14, _⟩ => ⟨S2048, .i32⟩
  | .hbm, ⟨15, _⟩ => ⟨S2048, .f32⟩
  | .hbm, ⟨16, _⟩ => ⟨S2048x1, .f32⟩
  | .hbm, ⟨17, _⟩ => ⟨S2048x128, .f32⟩
  | .hbm, ⟨18, _⟩ => ⟨S2048, .i1⟩
  | .hbm, ⟨19, _⟩ => ⟨S2048, .f32⟩
  | .hbm, ⟨20, _⟩ => ⟨S2048x1, .f32⟩
  | .hbm, ⟨21, _⟩ => ⟨S2048x128, .f32⟩
  | .hbm, ⟨22, _⟩ => ⟨S2048, .f32⟩
  | .hbm, ⟨23, _⟩ => ⟨S2048x1, .f32⟩
  | .hbm, ⟨24, _⟩ => ⟨S2048x128, .f32⟩
  | .hbm, ⟨25, _⟩ => ⟨S1x1024, .f32⟩
  | .hbm, ⟨26, _⟩ => ⟨S2048x2048, .bf16⟩
  | .hbm, ⟨27, _⟩ => ⟨S2048x512, .bf16⟩
  | .hbm, ⟨28, _⟩ => ⟨S2048x8x64, .bf16⟩
  | .hbm, ⟨29, _⟩ => ⟨S8x2048x64, .bf16⟩
  | .hbm, ⟨30, _⟩ => ⟨S2048x512, .bf16⟩
  | .hbm, ⟨31, _⟩ => ⟨S2048x8x64, .bf16⟩
  | .hbm, ⟨32, _⟩ => ⟨S8x2048x64, .bf16⟩
  | .hbm, ⟨33, _⟩ => ⟨S2048x1024, .bf16⟩
  | .hbm, ⟨34, _⟩ => ⟨S1x1024, .f32⟩
  | .hbm, ⟨35, _⟩ => ⟨S2048x1024, .f32⟩
  | .hbm, ⟨36, _⟩ => ⟨S1x2048x1024, .f32⟩
  | .local _ .vmem, ⟨0, _⟩ => ⟨S256x1024, .f32⟩
  | .local _ .vmem, ⟨1, _⟩ => ⟨S256x1024, .f32⟩
  | .local _ .vmem, ⟨2, _⟩ => ⟨S1x1024, .f32⟩
  | .local _ .vmem, ⟨3, _⟩ => ⟨S1024x1024, .f32⟩
  | .local _ .vmem, ⟨4, _⟩ => ⟨S1024x512, .f32⟩
  | .local _ .vmem, ⟨5, _⟩ => ⟨S1024x512, .f32⟩
  | .local _ .vmem, ⟨6, _⟩ => ⟨S256x128, .f32⟩
  | .local _ .vmem, ⟨7, _⟩ => ⟨S256x128, .f32⟩
  | .local _ .vmem, ⟨8, _⟩ => ⟨S256x2048, .bf16⟩
  | .local _ .vmem, ⟨9, _⟩ => ⟨S256x2048, .bf16⟩
  | .local _ .vmem, ⟨10, _⟩ => ⟨S1024x2048, .bf16⟩
  | .local _ .vmem, ⟨11, _⟩ => ⟨S512x128, .bf16⟩
  | .local _ .vmem, ⟨12, _⟩ => ⟨S512x128, .bf16⟩
  | .local _ .vmem, ⟨13, _⟩ => ⟨S1x2048x64, .bf16⟩
  | .local _ .vmem, ⟨14, _⟩ => ⟨S1x2048x64, .bf16⟩
  | .local _ .vmem, ⟨15, _⟩ => ⟨S1x2048x64, .bf16⟩
  | .local _ .vmem, ⟨16, _⟩ => ⟨S1x2048x64, .bf16⟩
  | .local _ .vmem, ⟨17, _⟩ => ⟨S512x128, .bf16⟩
  | .local _ .vmem, ⟨18, _⟩ => ⟨S512x128, .bf16⟩
  | .local _ .vmem, ⟨19, _⟩ => ⟨S2048x128, .fp8e4m3⟩
  | .local _ .vmem, ⟨20, _⟩ => ⟨S1024x512, .f32⟩
  | .local _ .vmem, ⟨21, _⟩ => ⟨S256x1024, .bf16⟩
  | .local _ .vmem, ⟨22, _⟩ => ⟨S256x1024, .bf16⟩
  | .local _ .vmem, ⟨23, _⟩ => ⟨S256x1024, .f32⟩
  | .local _ .vmem, ⟨24, _⟩ => ⟨S256x1024, .f32⟩
  | .local _ .vmem, ⟨25, _⟩ => ⟨S1024x1024, .f32⟩
  | .local _ .vmem, ⟨26, _⟩ => ⟨S1x1024, .f32⟩
  | .local _ .vmem, ⟨27, _⟩ => ⟨S1024x2048, .f32⟩
  | .local _ .vmem, ⟨28, _⟩ => ⟨S1024x2048, .f32⟩
  | .local _ .vmem, ⟨29, _⟩ => ⟨S2048x1024, .f32⟩
  | .local _ .vmem, ⟨30, _⟩ => ⟨S256x128, .f32⟩
  | .local _ .vmem, ⟨31, _⟩ => ⟨S256x128, .f32⟩
  | .local _ .vmem, ⟨32, _⟩ => ⟨S256x128, .f32⟩
  | .local _ .vmem, ⟨33, _⟩ => ⟨S256x128, .f32⟩
  | .local _ .vmem, ⟨34, _⟩ => ⟨S256x1024, .f32⟩
  | .local _ .vmem, ⟨35, _⟩ => ⟨S256x1024, .f32⟩
  | .local _ .vmem, ⟨36, _⟩ => ⟨S1024x1024, .bf16⟩
  | .local _ .vmem, ⟨37, _⟩ => ⟨S1024x4096, .bf16⟩
  | .local _ .vmem, ⟨38, _⟩ => ⟨S2048x1024, .bf16⟩
  | _, _ => ⟨S1x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | _, _ => false

abbrev semScoped : Fin 0 → Bool
  | ⟨_, h⟩ => absurd h (Nat.not_lt_zero _)

abbrev dmaSemScoped : Fin 33 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | _ => false

abbrev sig : RefSig :=
  ofTc nBuf bufTy 0 33 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_call0_v0 : Ref sig .tc := ⟨.hbm, 13, rfl⟩
abbrev main_call0_v1 : Ref sig .tc := ⟨.hbm, 14, rfl⟩
abbrev main_call0_v2 : Ref sig .tc := ⟨.hbm, 15, rfl⟩
abbrev main_call0_v3 : Ref sig .tc := ⟨.hbm, 16, rfl⟩
abbrev main_call0_v4 : Ref sig .tc := ⟨.hbm, 17, rfl⟩
abbrev main_call0_v5 : Ref sig .tc := ⟨.hbm, 18, rfl⟩
abbrev main_call0_v6 : Ref sig .tc := ⟨.hbm, 19, rfl⟩
abbrev main_call0_v7 : Ref sig .tc := ⟨.hbm, 20, rfl⟩
abbrev main_call0_v8 : Ref sig .tc := ⟨.hbm, 21, rfl⟩
abbrev main_call0_v9 : Ref sig .tc := ⟨.hbm, 22, rfl⟩
abbrev main_call0_v10 : Ref sig .tc := ⟨.hbm, 23, rfl⟩
abbrev main_call0_v11 : Ref sig .tc := ⟨.hbm, 24, rfl⟩
abbrev main_call0_v12 : Ref sig .tc := ⟨.hbm, 25, rfl⟩
abbrev main_call0_v13 : Ref sig .tc := ⟨.hbm, 26, rfl⟩
abbrev main_call0_v14 : Ref sig .tc := ⟨.hbm, 27, rfl⟩
abbrev main_call0_v15 : Ref sig .tc := ⟨.hbm, 28, rfl⟩
abbrev main_call0_v16 : Ref sig .tc := ⟨.hbm, 29, rfl⟩
abbrev main_call0_v17 : Ref sig .tc := ⟨.hbm, 30, rfl⟩
abbrev main_call0_v18 : Ref sig .tc := ⟨.hbm, 31, rfl⟩
abbrev main_call0_v19 : Ref sig .tc := ⟨.hbm, 32, rfl⟩
abbrev main_call0_v20 : Ref sig .tc := ⟨.hbm, 33, rfl⟩
abbrev main_call0_v21 : Ref sig .tc := ⟨.hbm, 34, rfl⟩
abbrev main_call0_v22 : Ref sig .tc := ⟨.hbm, 35, rfl⟩
abbrev main_v0 : Ref sig .tc := ⟨.hbm, 36, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_stg6_0 : Ref sig .tc := ⟨.vmem, 8, rfl⟩
abbrev cc0_stg6_1 : Ref sig .tc := ⟨.vmem, 9, rfl⟩
abbrev cc0_scratch0 : Ref sig .tc := ⟨.vmem, 10, rfl⟩
abbrev cc1_stg0_0 : Ref sig .tc := ⟨.vmem, 11, rfl⟩
abbrev cc1_stg0_1 : Ref sig .tc := ⟨.vmem, 12, rfl⟩
abbrev cc1_stg1_0 : Ref sig .tc := ⟨.vmem, 13, rfl⟩
abbrev cc1_stg1_1 : Ref sig .tc := ⟨.vmem, 14, rfl⟩
abbrev cc1_stg2_0 : Ref sig .tc := ⟨.vmem, 15, rfl⟩
abbrev cc1_stg2_1 : Ref sig .tc := ⟨.vmem, 16, rfl⟩
abbrev cc1_stg3_0 : Ref sig .tc := ⟨.vmem, 17, rfl⟩
abbrev cc1_stg3_1 : Ref sig .tc := ⟨.vmem, 18, rfl⟩
abbrev cc1_scratch0 : Ref sig .tc := ⟨.vmem, 19, rfl⟩
abbrev cc1_scratch1 : Ref sig .tc := ⟨.vmem, 20, rfl⟩
abbrev cc2_stg0_0 : Ref sig .tc := ⟨.vmem, 21, rfl⟩
abbrev cc2_stg0_1 : Ref sig .tc := ⟨.vmem, 22, rfl⟩
abbrev cc2_stg1_0 : Ref sig .tc := ⟨.vmem, 23, rfl⟩
abbrev cc2_stg1_1 : Ref sig .tc := ⟨.vmem, 24, rfl⟩
abbrev cc2_stg2_0 : Ref sig .tc := ⟨.vmem, 25, rfl⟩
abbrev cc2_stg3_0 : Ref sig .tc := ⟨.vmem, 26, rfl⟩
abbrev cc2_stg4_0 : Ref sig .tc := ⟨.vmem, 27, rfl⟩
abbrev cc2_stg5_0 : Ref sig .tc := ⟨.vmem, 28, rfl⟩
abbrev cc2_stg6_0 : Ref sig .tc := ⟨.vmem, 29, rfl⟩
abbrev cc2_stg7_0 : Ref sig .tc := ⟨.vmem, 30, rfl⟩
abbrev cc2_stg7_1 : Ref sig .tc := ⟨.vmem, 31, rfl⟩
abbrev cc2_stg8_0 : Ref sig .tc := ⟨.vmem, 32, rfl⟩
abbrev cc2_stg8_1 : Ref sig .tc := ⟨.vmem, 33, rfl⟩
abbrev cc2_stg9_0 : Ref sig .tc := ⟨.vmem, 34, rfl⟩
abbrev cc2_stg9_1 : Ref sig .tc := ⟨.vmem, 35, rfl⟩
abbrev cc2_scratch0 : Ref sig .tc := ⟨.vmem, 36, rfl⟩
abbrev cc2_scratch1 : Ref sig .tc := ⟨.vmem, 37, rfl⟩
abbrev cc2_scratch2 : Ref sig .tc := ⟨.vmem, 38, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7
abbrev cc0_sem6_0 : DmaSem sig := 8
abbrev cc0_sem6_1 : DmaSem sig := 9
abbrev cc1_sem0_0 : DmaSem sig := 10
abbrev cc1_sem0_1 : DmaSem sig := 11
abbrev cc1_sem1_0 : DmaSem sig := 12
abbrev cc1_sem1_1 : DmaSem sig := 13
abbrev cc1_sem2_0 : DmaSem sig := 14
abbrev cc1_sem2_1 : DmaSem sig := 15
abbrev cc1_sem3_0 : DmaSem sig := 16
abbrev cc1_sem3_1 : DmaSem sig := 17
abbrev cc2_sem0_0 : DmaSem sig := 18
abbrev cc2_sem0_1 : DmaSem sig := 19
abbrev cc2_sem1_0 : DmaSem sig := 20
abbrev cc2_sem1_1 : DmaSem sig := 21
abbrev cc2_sem2_0 : DmaSem sig := 22
abbrev cc2_sem3_0 : DmaSem sig := 23
abbrev cc2_sem4_0 : DmaSem sig := 24
abbrev cc2_sem5_0 : DmaSem sig := 25
abbrev cc2_sem6_0 : DmaSem sig := 26
abbrev cc2_sem7_0 : DmaSem sig := 27
abbrev cc2_sem7_1 : DmaSem sig := 28
abbrev cc2_sem8_0 : DmaSem sig := 29
abbrev cc2_sem8_1 : DmaSem sig := 30
abbrev cc2_sem9_0 : DmaSem sig := 31
abbrev cc2_sem9_1 : DmaSem sig := 32

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1024x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S256x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x2048 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev grid1 : Pipeline.Grid := ⟨2, ![8, 4], ![false, false]⟩

@[reducible] def k1_t1_loop (i : grid1.Coords) : Scf.Loop 32 :=
  let c1_i32_9 : BitVec 32 := 1#32
  let arg1 : BitVec 32 := BitVec.ofNat 32 (i 1).val
  let c1_i32 : BitVec 32 := 1#32
  let v15 : BitVec 32 := Scalar.addi arg1 c1_i32
  let v20 : BitVec 32 := Scalar.subi v15 c1_i32_9
  let c1_i32_10 : BitVec 32 := 1#32
  let v22 : BitVec 32 := Scalar.divsi v20 c1_i32_10
  let v23 : BitVec 32 := Scalar.muli v22 c1_i32_10
  let v24 : BitVec 32 := Scalar.addi c1_i32_9 v23
  let c1_i32_11 : BitVec 32 := 1#32
  ⟨c1_i32_9, v24, c1_i32_11⟩
def k1_off1 (i : grid1.Coords) (k1_t1 : Fin (k1_t1_loop i).trips) : Fin 3 → Nat :=
  let c0_20 : Index := 0#32
  let c1_i32_9 : BitVec 32 := 1#32
  let c1_i32_11 : BitVec 32 := 1#32
  let arg8 : BitVec 32 := Scf.iv c1_i32_9 c1_i32_11 k1_t1
  let c512_i32_19 : BitVec 32 := 512#32
  let v47 : BitVec 32 := Scalar.muli arg8 c512_i32_19
  let v48 : Index := Scalar.indexCast v47
  let c0_21 : Index := 0#32
  ![0, v48.toNat, 0]
def k1_off2 (i : grid1.Coords) (k1_t1 : Fin (k1_t1_loop i).trips) : Fin 2 → Nat :=
  let c1_i32_9 : BitVec 32 := 1#32
  let c1_i32_11 : BitVec 32 := 1#32
  let arg8 : BitVec 32 := Scf.iv c1_i32_9 c1_i32_11 k1_t1
  let c1_i32_23 : BitVec 32 := 1#32
  let v55 : BitVec 32 := Scalar.subi arg8 c1_i32_23
  let c512_i32_24 : BitVec 32 := 512#32
  let v56 : BitVec 32 := Scalar.muli v55 c512_i32_24
  let v57 : Index := Scalar.indexCast v56
  let c0_25 : Index := 0#32
  ![v57.toNat, 0]
@[reducible] def k1_t2_loop (i : grid1.Coords) : Scf.Loop 32 :=
  let c1_i32_9 : BitVec 32 := 1#32
  let arg1 : BitVec 32 := BitVec.ofNat 32 (i 1).val
  let c1_i32 : BitVec 32 := 1#32
  let v15 : BitVec 32 := Scalar.addi arg1 c1_i32
  let v20 : BitVec 32 := Scalar.subi v15 c1_i32_9
  let c1_i32_10 : BitVec 32 := 1#32
  let v22 : BitVec 32 := Scalar.divsi v20 c1_i32_10
  let v23 : BitVec 32 := Scalar.muli v22 c1_i32_10
  let v24 : BitVec 32 := Scalar.addi c1_i32_9 v23
  let v21 : BitVec 32 := Scalar.addi c1_i32_9 v20
  let c1_i32_12 : BitVec 32 := 1#32
  ⟨v24, v21, c1_i32_12⟩
def k1_off3 (i : grid1.Coords) (k1_t2 : Fin (k1_t2_loop i).trips) : Fin 3 → Nat :=
  let c0_20 : Index := 0#32
  let c1_i32_9 : BitVec 32 := 1#32
  let arg1 : BitVec 32 := BitVec.ofNat 32 (i 1).val
  let c1_i32 : BitVec 32 := 1#32
  let v15 : BitVec 32 := Scalar.addi arg1 c1_i32
  let v20 : BitVec 32 := Scalar.subi v15 c1_i32_9
  let c1_i32_10 : BitVec 32 := 1#32
  let v22 : BitVec 32 := Scalar.divsi v20 c1_i32_10
  let v23 : BitVec 32 := Scalar.muli v22 c1_i32_10
  let v24 : BitVec 32 := Scalar.addi c1_i32_9 v23
  let c1_i32_12 : BitVec 32 := 1#32
  let arg8 : BitVec 32 := Scf.iv v24 c1_i32_12 k1_t2
  let c512_i32_19 : BitVec 32 := 512#32
  let v47 : BitVec 32 := Scalar.muli arg8 c512_i32_19
  let v48 : Index := Scalar.indexCast v47
  let c0_21 : Index := 0#32
  ![0, v48.toNat, 0]
def k1_off4 (i : grid1.Coords) (k1_t2 : Fin (k1_t2_loop i).trips) : Fin 2 → Nat :=
  let c1_i32_9 : BitVec 32 := 1#32
  let arg1 : BitVec 32 := BitVec.ofNat 32 (i 1).val
  let c1_i32 : BitVec 32 := 1#32
  let v15 : BitVec 32 := Scalar.addi arg1 c1_i32
  let v20 : BitVec 32 := Scalar.subi v15 c1_i32_9
  let c1_i32_10 : BitVec 32 := 1#32
  let v22 : BitVec 32 := Scalar.divsi v20 c1_i32_10
  let v23 : BitVec 32 := Scalar.muli v22 c1_i32_10
  let v24 : BitVec 32 := Scalar.addi c1_i32_9 v23
  let c1_i32_12 : BitVec 32 := 1#32
  let arg8 : BitVec 32 := Scf.iv v24 c1_i32_12 k1_t2
  let c1_i32_23 : BitVec 32 := 1#32
  let v55 : BitVec 32 := Scalar.subi arg8 c1_i32_23
  let c512_i32_24 : BitVec 32 := 512#32
  let v56 : BitVec 32 := Scalar.muli v55 c512_i32_24
  let v57 : Index := Scalar.indexCast v56
  let c0_25 : Index := 0#32
  ![v57.toNat, 0]
def k1_off5 (i : grid1.Coords) : Fin 2 → Nat :=
  let arg1 : BitVec 32 := BitVec.ofNat 32 (i 1).val
  let c512_i32 : BitVec 32 := 512#32
  let v31 : BitVec 32 := Scalar.muli arg1 c512_i32
  let v32 : Index := Scalar.indexCast v31
  let c0_15 : Index := 0#32
  ![v32.toNat, 0]
def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc1_transform_1 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc1_transform_2 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage1_0 : Fin 2 → Memref sig .tc .vmem S512x128 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S1x2048x64 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, false]

abbrev stage1_2 : Fin 2 → Memref sig .tc .vmem S1x2048x64 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, false]

abbrev stage1_3 : Fin 2 → Memref sig .tc .vmem S512x128 .bf16 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true]

abbrev grid2 : Pipeline.Grid := ⟨1, ![8], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_7 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_8 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_9 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S256x1024 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S256x1024 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S1024x1024 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S1x1024 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S1024x2048 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S1024x2048 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 1 → Memref sig .tc .vmem S2048x1024 .f32 := fun | 0 => Memref.whole cc2_stg6_0 | ⟨_ + 1, h⟩ => absurd h (Nat.not_lt.2 (Nat.le_add_left _ _))
abbrev sem2_6 : Fin 1 → DmaSem sig := fun | 0 => cc2_sem6_0 | ⟨_ + 1, h⟩ => absurd h (Nat.not_lt.2 (Nat.le_add_left _ _))
abbrev reads2_6 : Fin grid2.rank → Bool := ![false]

abbrev stage2_7 : Fin 2 → Memref sig .tc .vmem S256x128 .f32 := fun | 0 => Memref.whole cc2_stg7_0 | 1 => Memref.whole cc2_stg7_1 | ⟨_ + 2, h⟩ => absurd h (Nat.not_lt.2 (Nat.le_add_left _ _))
abbrev sem2_7 : Fin 2 → DmaSem sig := fun | 0 => cc2_sem7_0 | 1 => cc2_sem7_1 | ⟨_ + 2, h⟩ => absurd h (Nat.not_lt.2 (Nat.le_add_left _ _))
abbrev reads2_7 : Fin grid2.rank → Bool := ![true]

abbrev stage2_8 : Fin 2 → Memref sig .tc .vmem S256x128 .f32 := fun | 0 => Memref.whole cc2_stg8_0 | 1 => Memref.whole cc2_stg8_1 | ⟨_ + 2, h⟩ => absurd h (Nat.not_lt.2 (Nat.le_add_left _ _))
abbrev sem2_8 : Fin 2 → DmaSem sig := fun | 0 => cc2_sem8_0 | 1 => cc2_sem8_1 | ⟨_ + 2, h⟩ => absurd h (Nat.not_lt.2 (Nat.le_add_left _ _))
abbrev reads2_8 : Fin grid2.rank → Bool := ![true]

abbrev stage2_9 : Fin 2 → Memref sig .tc .vmem S256x1024 .f32 := fun | 0 => Memref.whole cc2_stg9_0 | 1 => Memref.whole cc2_stg9_1 | ⟨_ + 2, h⟩ => absurd h (Nat.not_lt.2 (Nat.le_add_left _ _))
abbrev sem2_9 : Fin 2 → DmaSem sig := fun | 0 => cc2_sem9_0 | 1 => cc2_sem9_1 | ⟨_ + 2, h⟩ => absurd h (Nat.not_lt.2 (Nat.le_add_left _ _))
abbrev reads2_9 : Fin grid2.rank → Bool := ![true]
-- ==== KernelIdeal.lean ====
variable {F : FTy → Type} [FloatOps F] [Named F]
def κ : String → Option EReal := fun
  | "log2e_8" => some (((8 * (Real.log 2))⁻¹ : ℝ) : EReal)
  | "rope" => some (((-1 / 32) * (Real.log 10000) : ℝ) : EReal)
  | _ => none
-- ==== ReferenceIdeal.lean ====
abbrev S1x2048x1024 : Shape := ⟨3, ![1, 2048, 1024]⟩
abbrev S1x2048 : Shape := ⟨2, ![1, 2048]⟩
abbrev S1024 : Shape := ⟨1, ![1024]⟩
abbrev S1024x1024 : Shape := ⟨2, ![1024, 1024]⟩
abbrev S1024x512 : Shape := ⟨2, ![1024, 512]⟩
abbrev S1024x2048 : Shape := ⟨2, ![1024, 2048]⟩
abbrev S2048x1024 : Shape := ⟨2, ![2048, 1024]⟩
abbrev S_ : Shape := ⟨0, ![]⟩
abbrev S1x2048x1 : Shape := ⟨3, ![1, 2048, 1]⟩
abbrev S1x1x1024 : Shape := ⟨3, ![1, 1, 1024]⟩
abbrev S1x2048x16x64 : Shape := ⟨4, ![1, 2048, 16, 64]⟩
abbrev S1x16x2048x64 : Shape := ⟨4, ![1, 16, 2048, 64]⟩
abbrev S1x2048x512 : Shape := ⟨3, ![1, 2048, 512]⟩
abbrev S1x2048x8x64 : Shape := ⟨4, ![1, 2048, 8, 64]⟩
abbrev S1x8x2048x64 : Shape := ⟨4, ![1, 8, 2048, 64]⟩
abbrev S32 : Shape := ⟨1, ![32]⟩
abbrev S1x1x32 : Shape := ⟨3, ![1, 1, 32]⟩
abbrev S1x2048x32 : Shape := ⟨3, ![1, 2048, 32]⟩
abbrev S1x2048x64 : Shape := ⟨3, ![1, 2048, 64]⟩
abbrev S1x1x2048x64 : Shape := ⟨4, ![1, 1, 2048, 64]⟩
abbrev S1x16x2048x32 : Shape := ⟨4, ![1, 16, 2048, 32]⟩
abbrev S1x8x2048x32 : Shape := ⟨4, ![1, 8, 2048, 32]⟩
abbrev S1x8x2x2048x64 : Shape := ⟨5, ![1, 8, 2, 2048, 64]⟩
abbrev S1x16x2048x2048 : Shape := ⟨4, ![1, 16, 2048, 2048]⟩
abbrev S2048x2048 : Shape := ⟨2, ![2048, 2048]⟩
abbrev S1x1x2048x2048 : Shape := ⟨4, ![1, 1, 2048, 2048]⟩
abbrev S1x16x2048 : Shape := ⟨3, ![1, 16, 2048]⟩
abbrev S1x16x2048x1 : Shape := ⟨4, ![1, 16, 2048, 1]⟩
abbrev S1x2048x2048 : Shape := ⟨3, ![1, 2048, 2048]⟩

abbrev nBuf : Space → Nat
  | .hbm => 175
  | .vmem => 0
  | .smem => 0
  | _ => 0

abbrev hbmTy0_0 (i : Nat) : BufTy := match i % 128 with
  | 0 => ⟨S1x2048x1024, .f32⟩
  | 1 => ⟨S1x2048, .i32⟩
  | 2 => ⟨S1x2048, .i1⟩
  | 3 => ⟨S1x2048, .f32⟩
  | 4 => ⟨S1024, .f32⟩
  | 5 => ⟨S1024x1024, .f32⟩
  | 6 => ⟨S1024x512, .f32⟩
  | 7 => ⟨S1024x512, .f32⟩
  | 8 => ⟨S1024x1024, .f32⟩
  | 9 => ⟨S1024, .f32⟩
  | 10 => ⟨S1024x2048, .f32⟩
  | 11 => ⟨S1024x2048, .f32⟩
  | 12 => ⟨S2048x1024, .f32⟩
  | 13 => ⟨S1x2048x1024, .f32⟩
  | 14 => ⟨S_, .f32⟩
  | 15 => ⟨S1x2048, .f32⟩
  | 16 => ⟨S1x2048x1, .f32⟩
  | 17 => ⟨S_, .f32⟩
  | 18 => ⟨S1x2048x1, .f32⟩
  | 19 => ⟨S1x2048x1, .f32⟩
  | 20 => ⟨S_, .f32⟩
  | 21 => ⟨S1x2048x1, .f32⟩
  | 22 => ⟨S1x2048x1, .f32⟩
  | 23 => ⟨S1x2048x1, .f32⟩
  | 24 => ⟨S1x2048x1024, .f32⟩
  | 25 => ⟨S1x2048x1024, .f32⟩
  | 26 => ⟨S1x1x1024, .f32⟩
  | 27 => ⟨S1x2048x1024, .f32⟩
  | 28 => ⟨S1x2048x1024, .f32⟩
  | 29 => ⟨S1x2048x1024, .f32⟩
  | 30 => ⟨S1x2048x16x64, .f32⟩
  | 31 => ⟨S1x16x2048x64, .f32⟩
  | 32 => ⟨S1x2048x512, .f32⟩
  | 33 => ⟨S1x2048x8x64, .f32⟩
  | 34 => ⟨S1x8x2048x64, .f32⟩
  | 35 => ⟨S1x2048x512, .f32⟩
  | 36 => ⟨S1x2048x8x64, .f32⟩
  | 37 => ⟨S1x8x2048x64, .f32⟩
  | 38 => ⟨S32, .f32⟩
  | 39 => ⟨S_, .f32⟩
  | 40 => ⟨S32, .f32⟩
  | 41 => ⟨S32, .f32⟩
  | 42 => ⟨S_, .f32⟩
  | 43 => ⟨S32, .f32⟩
  | 44 => ⟨S32, .f32⟩
  | 45 => ⟨S_, .f32⟩
  | 46 => ⟨S32, .f32⟩
  | 47 => ⟨S32, .f32⟩
  | 48 => ⟨S_, .f32⟩
  | 49 => ⟨S32, .f32⟩
  | 50 => ⟨S32, .f32⟩
  | 51 => ⟨S_, .f32⟩
  | 52 => ⟨S32, .f32⟩
  | 53 => ⟨S32, .f32⟩
  | 54 => ⟨S1x2048, .f32⟩
  | 55 => ⟨S1x2048x1, .f32⟩
  | 56 => ⟨S1x1x32, .f32⟩
  | 57 => ⟨S1x2048x32, .f32⟩
  | 58 => ⟨S1x2048x32, .f32⟩
  | 59 => ⟨S1x2048x32, .f32⟩
  | 60 => ⟨S1x2048x64, .f32⟩
  | 61 => ⟨S1x2048x64, .f32⟩
  | 62 => ⟨S1x1x2048x64, .f32⟩
  | 63 => ⟨S1x2048x64, .f32⟩
  | 64 => ⟨S1x1x2048x64, .f32⟩
  | 65 => ⟨S1x16x2048x64, .f32⟩
  | 66 => ⟨S1x16x2048x64, .f32⟩
  | 67 => ⟨S1x16x2048x32, .f32⟩
  | 68 => ⟨S1x16x2048x32, .f32⟩
  | 69 => ⟨S1x16x2048x32, .f32⟩
  | 70 => ⟨S1x16x2048x64, .f32⟩
  | 71 => ⟨S1x16x2048x64, .f32⟩
  | 72 => ⟨S1x16x2048x64, .f32⟩
  | 73 => ⟨S1x16x2048x64, .f32⟩
  | 74 => ⟨S1x8x2048x64, .f32⟩
  | 75 => ⟨S1x8x2048x64, .f32⟩
  | 76 => ⟨S1x8x2048x32, .f32⟩
  | 77 => ⟨S1x8x2048x32, .f32⟩
  | 78 => ⟨S1x8x2048x32, .f32⟩
  | 79 => ⟨S1x8x2048x64, .f32⟩
  | 80 => ⟨S1x8x2048x64, .f32⟩
  | 81 => ⟨S1x8x2048x64, .f32⟩
  | 82 => ⟨S1x8x2048x64, .f32⟩
  | 83 => ⟨S1x8x2x2048x64, .f32⟩
  | 84 => ⟨S1x16x2048x64, .f32⟩
  | 85 => ⟨S1x8x2x2048x64, .f32⟩
  | 86 => ⟨S1x16x2048x64, .f32⟩
  | 87 => ⟨S1x16x2048x2048, .f32⟩
  | 88 => ⟨S_, .f32⟩
  | 89 => ⟨S1x16x2048x2048, .f32⟩
  | 90 => ⟨S1x16x2048x2048, .f32⟩
  | 91 => ⟨S_, .i1⟩
  | 92 => ⟨S2048x2048, .i1⟩
  | 93 => ⟨S2048x2048, .i32⟩
  | 94 => ⟨S_, .i32⟩
  | 95 => ⟨S2048x2048, .i32⟩
  | 96 => ⟨S2048x2048, .i32⟩
  | 97 => ⟨S2048x2048, .i32⟩
  | 98 => ⟨S2048x2048, .i1⟩
  | 99 => ⟨S_, .i1⟩
  | 100 => ⟨S2048x2048, .i1⟩
  | 101 => ⟨S2048x2048, .i1⟩
  | 102 => ⟨S1x1x2048x2048, .i1⟩
  | 103 => ⟨S_, .f32⟩
  | 104 => ⟨S_, .f32⟩
  | 105 => ⟨S1x16x2048x2048, .i1⟩
  | 106 => ⟨S1x16x2048x2048, .f32⟩
  | 107 => ⟨S1x16x2048x2048, .f32⟩
  | 108 => ⟨S_, .f32⟩
  | 109 => ⟨S1x16x2048, .f32⟩
  | 110 => ⟨S_, .f32⟩
  | 111 => ⟨S1x16x2048, .f32⟩
  | 112 => ⟨S1x16x2048, .f32⟩
  | 113 => ⟨S1x16x2048x1, .f32⟩
  | 114 => ⟨S1x16x2048x2048, .f32⟩
  | 115 => ⟨S1x16x2048x2048, .f32⟩
  | 116 => ⟨S1x16x2048x2048, .f32⟩
  | 117 => ⟨S_, .f32⟩
  | 118 => ⟨S1x16x2048, .f32⟩
  | 119 => ⟨S1x16x2048x1, .f32⟩
  | 120 => ⟨S1x16x2048x2048, .f32⟩
  | 121 => ⟨S1x16x2048x2048, .f32⟩
  | 122 => ⟨S1x16x2048x64, .f32⟩
  | 123 => ⟨S1x2048x16x64, .f32⟩
  | 124 => ⟨S1x2048x1024, .f32⟩
  | 125 => ⟨S1x2048x1024, .f32⟩
  | 126 => ⟨S1x2048x1024, .f32⟩
  | 127 => ⟨S1x2048x1024, .f32⟩
  | _ => ⟨S1x2048x1024, .f32⟩

abbrev hbmTy0_1 (i : Nat) : BufTy := match i % 128 with
  | 0 => ⟨S_, .f32⟩
  | 1 => ⟨S1x2048, .f32⟩
  | 2 => ⟨S1x2048x1, .f32⟩
  | 3 => ⟨S_, .f32⟩
  | 4 => ⟨S1x2048x1, .f32⟩
  | 5 => ⟨S1x2048x1, .f32⟩
  | 6 => ⟨S_, .f32⟩
  | 7 => ⟨S1x2048x1, .f32⟩
  | 8 => ⟨S1x2048x1, .f32⟩
  | 9 => ⟨S1x2048x1, .f32⟩
  | 10 => ⟨S1x2048x1024, .f32⟩
  | 11 => ⟨S1x2048x1024, .f32⟩
  | 12 => ⟨S1x1x1024, .f32⟩
  | 13 => ⟨S1x2048x1024, .f32⟩
  | 14 => ⟨S1x2048x1024, .f32⟩
  | 15 => ⟨S1x2048x2048, .f32⟩
  | 16 => ⟨S1x2048x2048, .f32⟩
  | 17 => ⟨S1x2048x2048, .f32⟩
  | 18 => ⟨S_, .f32⟩
  | 19 => ⟨S1x2048x2048, .f32⟩
  | 20 => ⟨S1x2048x2048, .f32⟩
  | 21 => ⟨S_, .f32⟩
  | 22 => ⟨S1x2048x2048, .f32⟩
  | 23 => ⟨S1x2048x2048, .f32⟩
  | 24 => ⟨S1x2048x2048, .f32⟩
  | 25 => ⟨S1x2048x2048, .f32⟩
  | 26 => ⟨S1x2048x2048, .f32⟩
  | 27 => ⟨S1x2048x1024, .f32⟩
  | 28 => ⟨S_, .f32⟩
  | 29 => ⟨S1x2048, .f32⟩
  | 30 => ⟨S1x2048, .f32⟩
  | 31 => ⟨S_, .f32⟩
  | 32 => ⟨S1x2048, .f32⟩
  | 33 => ⟨S1x2048, .f32⟩
  | 34 => ⟨S_, .f32⟩
  | 35 => ⟨S1x2048, .f32⟩
  | 36 => ⟨S1x2048, .f32⟩
  | 37 => ⟨S1x2048x1, .i1⟩
  | 38 => ⟨S1x2048x1, .f32⟩
  | 39 => ⟨S1x2048x1024, .f32⟩
  | 40 => ⟨S1x2048x1024, .f32⟩
  | 41 => ⟨S_, .f32⟩
  | 42 => ⟨S_, .f32⟩
  | 43 => ⟨S1x2048x1024, .i1⟩
  | 44 => ⟨S1x2048x1024, .f32⟩
  | 45 => ⟨S1x2048x1024, .f32⟩
  | 46 => ⟨S1x2048x1024, .f32⟩
  | _ => ⟨S1x2048x1024, .f32⟩

abbrev hbmTy (i : Nat) : BufTy := match i / 128 with
  | 0 => hbmTy0_0 i
  | 1 => hbmTy0_1 i
  | _ => ⟨S1x2048x1024, .f32⟩

abbrev bufTy : (tb : Table) → Fin (tcTables nBuf tb) → BufTy
  | .hbm, ⟨i, _⟩ => hbmTy i
  | _, _ => ⟨S1x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_cst : Ref sig .tc := ⟨.hbm, 14, rfl⟩
abbrev main_v1 : Ref sig .tc := ⟨.hbm, 15, rfl⟩
abbrev main_v2 : Ref sig .tc := ⟨.hbm, 16, rfl⟩
abbrev main_cst_0 : Ref sig .tc := ⟨.hbm, 17, rfl⟩
abbrev main_v3 : Ref sig .tc := ⟨.hbm, 18, rfl⟩
abbrev main_v4 : Ref sig .tc := ⟨.hbm, 19, rfl⟩
abbrev main_cst_1 : Ref sig .tc := ⟨.hbm, 20, rfl⟩
abbrev main_v5 : Ref sig .tc := ⟨.hbm, 21, rfl⟩
abbrev main_v6 : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_cst_2 : Ref sig .tc := ⟨.hbm, 39, rfl⟩
abbrev main_v23 : Ref sig .tc := ⟨.hbm, 40, rfl⟩
abbrev main_v24 : Ref sig .tc := ⟨.hbm, 41, rfl⟩
abbrev main_cst_3 : Ref sig .tc := ⟨.hbm, 42, rfl⟩
abbrev main_v25 : Ref sig .tc := ⟨.hbm, 43, rfl⟩
abbrev main_v26 : Ref sig .tc := ⟨.hbm, 44, rfl⟩
abbrev main_cst_4 : Ref sig .tc := ⟨.hbm, 45, rfl⟩
abbrev main_v27 : Ref sig .tc := ⟨.hbm, 46, rfl⟩
abbrev main_v28 : Ref sig .tc := ⟨.hbm, 47, rfl⟩
abbrev main_cst_5 : Ref sig .tc := ⟨.hbm, 48, rfl⟩
abbrev main_v29 : Ref sig .tc := ⟨.hbm, 49, rfl⟩
abbrev main_v30 : Ref sig .tc := ⟨.hbm, 50, rfl⟩
abbrev main_cst_6 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_v55 : Ref sig .tc := ⟨.hbm, 76, rfl⟩
abbrev main_v56 : Ref sig .tc := ⟨.hbm, 77, rfl⟩
abbrev main_v57 : Ref sig .tc := ⟨.hbm, 78, rfl⟩
abbrev main_v58 : Ref sig .tc := ⟨.hbm, 79, rfl⟩
abbrev main_v59 : Ref sig .tc := ⟨.hbm, 80, rfl⟩
abbrev main_v60 : Ref sig .tc := ⟨.hbm, 81, rfl⟩
abbrev main_v61 : Ref sig .tc := ⟨.hbm, 82, rfl⟩
abbrev main_v62 : Ref sig .tc := ⟨.hbm, 83, rfl⟩
abbrev main_v63 : Ref sig .tc := ⟨.hbm, 84, rfl⟩
abbrev main_v64 : Ref sig .tc := ⟨.hbm, 85, rfl⟩
abbrev main_v65 : Ref sig .tc := ⟨.hbm, 86, rfl⟩
abbrev main_v66 : Ref sig .tc := ⟨.hbm, 87, rfl⟩
abbrev main_cst_7 : Ref sig .tc := ⟨.hbm, 88, rfl⟩
abbrev main_v67 : Ref sig .tc := ⟨.hbm, 89, rfl⟩
abbrev main_v68 : Ref sig .tc := ⟨.hbm, 90, rfl⟩
abbrev main_c : Ref sig .tc := ⟨.hbm, 91, rfl⟩
abbrev main_v69 : Ref sig .tc := ⟨.hbm, 92, rfl⟩
abbrev main_call0_v0 : Ref sig .tc := ⟨.hbm, 93, rfl⟩
abbrev main_call0_c : Ref sig .tc := ⟨.hbm, 94, rfl⟩
abbrev main_call0_v1 : Ref sig .tc := ⟨.hbm, 95, rfl⟩
abbrev main_call0_v2 : Ref sig .tc := ⟨.hbm, 96, rfl⟩
abbrev main_call0_v3 : Ref sig .tc := ⟨.hbm, 97, rfl⟩
abbrev main_call0_v4 : Ref sig .tc := ⟨.hbm, 98, rfl⟩
abbrev main_call0_c_0 : Ref sig .tc := ⟨.hbm, 99, rfl⟩
abbrev main_call0_v5 : Ref sig .tc := ⟨.hbm, 100, rfl⟩
abbrev main_v70 : Ref sig .tc := ⟨.hbm, 101, rfl⟩
abbrev main_v71 : Ref sig .tc := ⟨.hbm, 102, rfl⟩
abbrev main_cst_8 : Ref sig .tc := ⟨.hbm, 103, rfl⟩
abbrev main_call1_v0 : Ref sig .tc := ⟨.hbm, 104, rfl⟩
abbrev main_call1_v1 : Ref sig .tc := ⟨.hbm, 105, rfl⟩
abbrev main_call1_v2 : Ref sig .tc := ⟨.hbm, 106, rfl⟩
abbrev main_v72 : Ref sig .tc := ⟨.hbm, 107, rfl⟩
abbrev main_cst_9 : Ref sig .tc := ⟨.hbm, 108, rfl⟩
abbrev main_v73 : Ref sig .tc := ⟨.hbm, 109, rfl⟩
abbrev main_cst_10 : Ref sig .tc := ⟨.hbm, 110, rfl⟩
abbrev main_v74 : Ref sig .tc := ⟨.hbm, 111, rfl⟩
abbrev main_v75 : Ref sig .tc := ⟨.hbm, 112, rfl⟩
abbrev main_v76 : Ref sig .tc := ⟨.hbm, 113, rfl⟩
abbrev main_v77 : Ref sig .tc := ⟨.hbm, 114, rfl⟩
abbrev main_v78 : Ref sig .tc := ⟨.hbm, 115, rfl⟩
abbrev main_v79 : Ref sig .tc := ⟨.hbm, 116, rfl⟩
abbrev main_cst_11 : Ref sig .tc := ⟨.hbm, 117, rfl⟩
abbrev main_v80 : Ref sig .tc := ⟨.hbm, 118, rfl⟩
abbrev main_v81 : Ref sig .tc := ⟨.hbm, 119, rfl⟩
abbrev main_v82 : Ref sig .tc := ⟨.hbm, 120, rfl⟩
abbrev main_v83 : Ref sig .tc := ⟨.hbm, 121, rfl⟩
abbrev main_v84 : Ref sig .tc := ⟨.hbm, 122, rfl⟩
abbrev main_v85 : Ref sig .tc := ⟨.hbm, 123, rfl⟩
abbrev main_v86 : Ref sig .tc := ⟨.hbm, 124, rfl⟩
abbrev main_v87 : Ref sig .tc := ⟨.hbm, 125, rfl⟩
abbrev main_v88 : Ref sig .tc := ⟨.hbm, 126, rfl⟩
abbrev main_v89 : Ref sig .tc := ⟨.hbm, 127, rfl⟩
abbrev main_cst_12 : Ref sig .tc := ⟨.hbm, 128, rfl⟩
abbrev main_v90 : Ref sig .tc := ⟨.hbm, 129, rfl⟩
abbrev main_v91 : Ref sig .tc := ⟨.hbm, 130, rfl⟩
abbrev main_cst_13 : Ref sig .tc := ⟨.hbm, 131, rfl⟩
abbrev main_v92 : Ref sig .tc := ⟨.hbm, 132, rfl⟩
abbrev main_v93 : Ref sig .tc := ⟨.hbm, 133, rfl⟩
abbrev main_cst_14 : Ref sig .tc := ⟨.hbm, 134, rfl⟩
abbrev main_v94 : Ref sig .tc := ⟨.hbm, 135, rfl⟩
abbrev main_v95 : Ref sig .tc := ⟨.hbm, 136, rfl⟩
abbrev main_v96 : Ref sig .tc := ⟨.hbm, 137, rfl⟩
abbrev main_v97 : Ref sig .tc := ⟨.hbm, 138, rfl⟩
abbrev main_v98 : Ref sig .tc := ⟨.hbm, 139, rfl⟩
abbrev main_v99 : Ref sig .tc := ⟨.hbm, 140, rfl⟩
abbrev main_v100 : Ref sig .tc := ⟨.hbm, 141, rfl⟩
abbrev main_v101 : Ref sig .tc := ⟨.hbm, 142, rfl⟩
abbrev main_v102 : Ref sig .tc := ⟨.hbm, 143, rfl⟩
abbrev main_call2_v0 : Ref sig .tc := ⟨.hbm, 144, rfl⟩
abbrev main_call2_v1 : Ref sig .tc := ⟨.hbm, 145, rfl⟩
abbrev main_call2_cst : Ref sig .tc := ⟨.hbm, 146, rfl⟩
abbrev main_call2_v2 : Ref sig .tc := ⟨.hbm, 147, rfl⟩
abbrev main_call2_v3 : Ref sig .tc := ⟨.hbm, 148, rfl⟩
abbrev main_call2_cst_0 : Ref sig .tc := ⟨.hbm, 149, rfl⟩
abbrev main_call2_v4 : Ref sig .tc := ⟨.hbm, 150, rfl⟩
abbrev main_call2_v5 : Ref sig .tc := ⟨.hbm, 151, rfl⟩
abbrev main_v103 : Ref sig .tc := ⟨.hbm, 152, rfl⟩
abbrev main_v104 : Ref sig .tc := ⟨.hbm, 153, rfl⟩
abbrev main_v105 : Ref sig .tc := ⟨.hbm, 154, rfl⟩
abbrev main_v106 : Ref sig .tc := ⟨.hbm, 155, rfl⟩
abbrev main_cst_15 : Ref sig .tc := ⟨.hbm, 156, rfl⟩
abbrev main_v107 : Ref sig .tc := ⟨.hbm, 157, rfl⟩
abbrev main_v108 : Ref sig .tc := ⟨.hbm, 158, rfl⟩
abbrev main_cst_16 : Ref sig .tc := ⟨.hbm, 159, rfl⟩
abbrev main_v109 : Ref sig .tc := ⟨.hbm, 160, rfl⟩
abbrev main_v110 : Ref sig .tc := ⟨.hbm, 161, rfl⟩
abbrev main_cst_17 : Ref sig .tc := ⟨.hbm, 162, rfl⟩
abbrev main_v111 : Ref sig .tc := ⟨.hbm, 163, rfl⟩
abbrev main_v112 : Ref sig .tc := ⟨.hbm, 164, rfl⟩
abbrev main_v113 : Ref sig .tc := ⟨.hbm, 165, rfl⟩
abbrev main_v114 : Ref sig .tc := ⟨.hbm, 166, rfl⟩
abbrev main_v115 : Ref sig .tc := ⟨.hbm, 167, rfl⟩
abbrev main_v116 : Ref sig .tc := ⟨.hbm, 168, rfl⟩
abbrev main_cst_18 : Ref sig .tc := ⟨.hbm, 169, rfl⟩
abbrev main_call3_v0 : Ref sig .tc := ⟨.hbm, 170, rfl⟩
abbrev main_call3_v1 : Ref sig .tc := ⟨.hbm, 171, rfl⟩
abbrev main_call3_v2 : Ref sig .tc := ⟨.hbm, 172, rfl⟩
abbrev main_v117 : Ref sig .tc := ⟨.hbm, 173, rfl⟩
abbrev main_v118 : Ref sig .tc := ⟨.hbm, 174, rfl⟩

abbrev nD : Nat := 1
abbrev τ : Topo := Topo.v7x

variable {F : FTy → Type} [FloatOps F]
-- ==== Proof.Ideal.Qkv.lean ====
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Ring
public import Idealize.ShloMosaic.Lib.Tactic
public import Idealize.ShloMosaic.Lib.WordCmp

/-! Region 0 of @main, the projection call (normalised rows times the query, key and value weights, rotated): what its body leaves, over any contents at its entry. -/

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

/-! ## The conditions of the body, over the points -/

abbrev cond0_0 (i : grid0.Coords) : Prop := (Scalar.cmpi .ne (Scalar.extui (Scalar.cmpi .eq (BitVec.ofNat 32 (i 0).val) 0#32)) 0#32) = 1#1
theorem hcond0_0 : ∀ t : Fin cfg0.N, cond0_0 (grid0.coords t) ↔ t.val % 8 = 0 :=
  (fun t => by
    have ht : t.val < 8 := Nat.lt_of_lt_of_eq t.isLt N_0
    have e0 : (grid0.coords t 0).val = t.val / 1 % 8 := Pipeline.Grid.coords_val t 0 (by decide) rfl
    simp only [cond0_0, e0]
    word_cmp
   : ∀ t : Fin grid0.N, cond0_0 (grid0.coords t) ↔ t.val % 8 = 0)

/-! ## The memrefs the body is called with -/

abbrev ms0_0 (t : Fin cfg0.N) : Memref sig .tc .vmem S256x1024 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1x1024 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1024x1024 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1024x512 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1024x512 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S256x128 .f32 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S256x2048 .bf16 := win0_6.stage (cfg0.slots t 6)
abbrev hs0_6 (t : Fin cfg0.N) : (ms0_6 t).IsWhole := hstage0_6 ((cfg0.slots t 6).cast nbuf0_6)
abbrev VO0 : View sig .tc .vmem S256x2048 .bf16 := (Memref.whole cc0_stg6_0 : Memref sig .tc .vmem S256x2048 .bf16).view
abbrev scM0_0 : Memref sig .tc .vmem S1024x2048 .bf16 := Memref.whole cc0_scratch0

/-- The scoped buffers this call does not stage, its own scratch set apart. -/
abbrev rest0 (c : Dev nD) : sProp 𝕄 := Pipeline.scopedRestBut (Ix := Unit) (Name := ℕ) (U := UR sig nD τ) (Lvl := ℕ) (Val := Elt F) spec0 c [cc0_scratch0]

/-- What the launch hands the region, the scratch buffers owned at some contents. -/
theorem PhiA0_eq (c : Dev nD) :
    (Pipeline.ΦA spec0 c : sProp 𝕄) = iprop(iprop(iprop((∃ d, owns (c : Thread nD τ) scM0_0 fullShare d)) ∗ rest0 c) ∗ (∃ r, prngReg c r)) := by
  unfold Pipeline.ΦA; rw [show (Pipeline.scopedRest (Ix := Unit) (Name := ℕ) (U := UR sig nD τ) (Lvl := ℕ) (Val := Elt F) spec0 c : sProp 𝕄) = _ from Pipeline.scopedRest_split_of_list spec0 c [cc0_scratch0] (by decide) (by decide)]
  simp only [scM0_0, owns_whole]; try rfl

set_option maxHeartbeats 1000000 in
/-- What the body's stores leave in this case, found by running it. -/
def kernelRun0_A (c : Dev nD) (i : grid0.Coords) (arg1 : Memref sig .tc .vmem S256x1024 .f32) (harg1 : arg1.IsWhole) (arg2 : Memref sig .tc .vmem S1x1024 .f32) (harg2 : arg2.IsWhole) (arg3 : Memref sig .tc .vmem S1024x1024 .f32) (harg3 : arg3.IsWhole) (arg4 : Memref sig .tc .vmem S1024x512 .f32) (harg4 : arg4.IsWhole) (arg5 : Memref sig .tc .vmem S1024x512 .f32) (harg5 : arg5.IsWhole) (arg6 : Memref sig .tc .vmem S256x128 .f32) (harg6 : arg6.IsWhole) (arg7 : Memref sig .tc .vmem S256x2048 .bf16) (harg7 : arg7.IsWhole) (arg8 : Memref sig .tc .vmem S1024x2048 .bf16) (harg8 : arg8.IsWhole) (hc0 : cond0_0 i)
    (x0 : Vec F S256x1024 .f32) (x1 : Vec F S1x1024 .f32) (x2 : Vec F S1024x1024 .f32) (x3 : Vec F S1024x512 .f32) (x4 : Vec F S1024x512 .f32) (x5 : Vec F S256x128 .f32) :
    Σ' (L6 : List (View.Piece (Elt F) S256x2048 .bf16)), { LS0 : List (View.Piece (Elt F) S1024x2048 .bf16) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ d, owns (c : Thread nD τ) arg7 fullShare d) ∗ (∃ d, owns (c : Thread nD τ) arg8 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ f, arg7.view.loc (c : Thread nD τ) ↦[arg7.view.set]{fullShare} arg7.view.writes (Elt F) f L6) ∗ (∃ f, arg8.view.loc (c : Thread nD τ) ↦[arg8.view.set]{fullShare} arg8.view.writes (Elt F) f LS0)) -∗ K ⟨⟩))
          ⊢ wp frame (wpE (defs₀ (F := F)) Variants.none c none) E (cc0__qkv_body i arg1 harg1 arg2 harg2 arg3 harg3 arg4 harg4 arg5 harg5 arg6 harg6 arg7 harg7 arg8 harg8) K } := by
  refine ⟨?_, ?_, fun E K => ?run⟩
  case run =>
    simp only [cc0__qkv_body_eq_skeleton]; unfold cc0__qkv_body_skel
    simp only [k0_part1_eq_skeleton, k0_part2_eq_skeleton, k0_part3_eq_skeleton, k0_part4_eq_skeleton, k0_part5_eq_skeleton, k0_part6_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%ds0, %fs0, -, HS0⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5
    sl_exec (disch := first | sl_exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]; · iexists _; iexact H6
    iexists _; iexact HS0

set_option maxHeartbeats 1000000 in
/-- What the body's stores leave in this case, found by running it. -/
def kernelRun0_B (c : Dev nD) (i : grid0.Coords) (arg1 : Memref sig .tc .vmem S256x1024 .f32) (harg1 : arg1.IsWhole) (arg2 : Memref sig .tc .vmem S1x1024 .f32) (harg2 : arg2.IsWhole) (arg3 : Memref sig .tc .vmem S1024x1024 .f32) (harg3 : arg3.IsWhole) (arg4 : Memref sig .tc .vmem S1024x512 .f32) (harg4 : arg4.IsWhole) (arg5 : Memref sig .tc .vmem S1024x512 .f32) (harg5 : arg5.IsWhole) (arg6 : Memref sig .tc .vmem S256x128 .f32) (harg6 : arg6.IsWhole) (arg7 : Memref sig .tc .vmem S256x2048 .bf16) (harg7 : arg7.IsWhole) (arg8 : Memref sig .tc .vmem S1024x2048 .bf16) (harg8 : arg8.IsWhole) (hc0 : ¬cond0_0 i)
    (x0 : Vec F S256x1024 .f32) (x1 : Vec F S1x1024 .f32) (x2 : Vec F S1024x1024 .f32) (x3 : Vec F S1024x512 .f32) (x4 : Vec F S1024x512 .f32) (x5 : Vec F S256x128 .f32) (xs0 : Vec F S1024x2048 .bf16) :
    Σ' (L6 : List (View.Piece (Elt F) S256x2048 .bf16)), { LS0 : List (View.Piece (Elt F) S1024x2048 .bf16) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ d, owns (c : Thread nD τ) arg7 fullShare d) ∗ owns (c : Thread nD τ) arg8 fullShare xs0
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ f, arg7.view.loc (c : Thread nD τ) ↦[arg7.view.set]{fullShare} arg7.view.writes (Elt F) f L6) ∗ owns (c : Thread nD τ) arg8 fullShare xs0) -∗ K ⟨⟩))
          ⊢ wp frame (wpE (defs₀ (F := F)) Variants.none c none) E (cc0__qkv_body i arg1 harg1 arg2 harg2 arg3 harg3 arg4 harg4 arg5 harg5 arg6 harg6 arg7 harg7 arg8 harg8) K } := by
  refine ⟨?_, [], fun E K => ?run⟩
  case run =>
    simp only [cc0__qkv_body_eq_skeleton]; unfold cc0__qkv_body_skel
    simp only [k0_part1_eq_skeleton, k0_part2_eq_skeleton, k0_part3_eq_skeleton, k0_part4_eq_skeleton, k0_part5_eq_skeleton, k0_part6_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%fs0, %hfs0, HS0⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg8.eq_unread hfs0
    sl_exec (disch := first | sl_exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]; · iexists _; iexact H6
    iexists _; isplitr; · ipureintro; exact harg8.read_unread _
    iexact HS0

/-- The run of this case at point `t`'s memrefs. -/
abbrev run0_A (c : Dev nD) (t : Fin cfg0.N) (h0 : t.val % 8 = 0) (x0 : Vec F S256x1024 .f32) (x1 : Vec F S1x1024 .f32) (x2 : Vec F S1024x1024 .f32) (x3 : Vec F S1024x512 .f32) (x4 : Vec F S1024x512 .f32) (x5 : Vec F S256x128 .f32) :=
  kernelRun0_A c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) ((hcond0_0 t).mpr h0) x0 x1 x2 x3 x4 x5
theorem cover0_A (c : Dev nD) (t : Fin cfg0.N) (h0 : t.val % 8 = 0) (x0 : Vec F S256x1024 .f32) (x1 : Vec F S1x1024 .f32) (x2 : Vec F S1024x1024 .f32) (x3 : Vec F S1024x512 .f32) (x4 : Vec F S1024x512 .f32) (x5 : Vec F S256x128 .f32) (y : S256x2048.Idx) : ∃ pc ∈ (run0_A c t h0 x0 x1 x2 x3 x4 x5).1, y ∈ pc.1.set :=
  View.cover_of_tiledL (run0_A c t h0 x0 x1 x2 x3 x4 x5).1 S256x2048.size (by sl_kernel_rfl) y
/-- What this case leaves in the output's buffer. -/
def out0_A (c : Dev nD) (t : Fin cfg0.N) (h0 : t.val % 8 = 0) (x0 : Vec F S256x1024 .f32) (x1 : Vec F S1x1024 .f32) (x2 : Vec F S1024x1024 .f32) (x3 : Vec F S1024x512 .f32) (x4 : Vec F S1024x512 .f32) (x5 : Vec F S256x128 .f32) : Vec F S256x2048 .bf16 :=
  VO0.read (Elt F) (VO0.writes (Elt F) VO0.junk (run0_A c t h0 x0 x1 x2 x3 x4 x5).1)
theorem scover0_A_0 (c : Dev nD) (t : Fin cfg0.N) (h0 : t.val % 8 = 0) (x0 : Vec F S256x1024 .f32) (x1 : Vec F S1x1024 .f32) (x2 : Vec F S1024x1024 .f32) (x3 : Vec F S1024x512 .f32) (x4 : Vec F S1024x512 .f32) (x5 : Vec F S256x128 .f32) (y : S1024x2048.Idx) : ∃ pc ∈ (run0_A c t h0 x0 x1 x2 x3 x4 x5).2.1, y ∈ pc.1.set :=
  View.cover_of_tiledBy (run0_A c t h0 x0 x1 x2 x3 x4 x5).2.1 ![1024, 512] (by sl_kernel_rfl) y
/-- What this case leaves in scratch 0. -/
def sout0_A_0 (c : Dev nD) (t : Fin cfg0.N) (h0 : t.val % 8 = 0) (x0 : Vec F S256x1024 .f32) (x1 : Vec F S1x1024 .f32) (x2 : Vec F S1024x1024 .f32) (x3 : Vec F S1024x512 .f32) (x4 : Vec F S1024x512 .f32) (x5 : Vec F S256x128 .f32) : Vec F S1024x2048 .bf16 :=
  scM0_0.view.read (Elt F) (scM0_0.view.writes (Elt F) scM0_0.view.junk (run0_A c t h0 x0 x1 x2 x3 x4 x5).2.1)

/-- The run of this case at point `t`'s memrefs. -/
abbrev run0_B (c : Dev nD) (t : Fin cfg0.N) (h0 : ¬ t.val % 8 = 0) (x0 : Vec F S256x1024 .f32) (x1 : Vec F S1x1024 .f32) (x2 : Vec F S1024x1024 .f32) (x3 : Vec F S1024x512 .f32) (x4 : Vec F S1024x512 .f32) (x5 : Vec F S256x128 .f32) (xs0 : Vec F S1024x2048 .bf16) :=
  kernelRun0_B c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) (fun h => h0 ((hcond0_0 t).mp h)) x0 x1 x2 x3 x4 x5 xs0
theorem cover0_B (c : Dev nD) (t : Fin cfg0.N) (h0 : ¬ t.val % 8 = 0) (x0 : Vec F S256x1024 .f32) (x1 : Vec F S1x1024 .f32) (x2 : Vec F S1024x1024 .f32) (x3 : Vec F S1024x512 .f32) (x4 : Vec F S1024x512 .f32) (x5 : Vec F S256x128 .f32) (xs0 : Vec F S1024x2048 .bf16) (y : S256x2048.Idx) : ∃ pc ∈ (run0_B c t h0 x0 x1 x2 x3 x4 x5 xs0).1, y ∈ pc.1.set :=
  View.cover_of_tiledL (run0_B c t h0 x0 x1 x2 x3 x4 x5 xs0).1 S256x2048.size (by sl_kernel_rfl) y
/-- What this case leaves in the output's buffer. -/
def out0_B (c : Dev nD) (t : Fin cfg0.N) (h0 : ¬ t.val % 8 = 0) (x0 : Vec F S256x1024 .f32) (x1 : Vec F S1x1024 .f32) (x2 : Vec F S1024x1024 .f32) (x3 : Vec F S1024x512 .f32) (x4 : Vec F S1024x512 .f32) (x5 : Vec F S256x128 .f32) (xs0 : Vec F S1024x2048 .bf16) : Vec F S256x2048 .bf16 :=
  VO0.read (Elt F) (VO0.writes (Elt F) VO0.junk (run0_B c t h0 x0 x1 x2 x3 x4 x5 xs0).1)

/-! ## The contents over the points, from any entry contents -/

variable (V : (c : Dev nD) → (b : Ref sig .tc) → Buf (Elt F) ((c : Thread nD τ).loc b))

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The first point. -/
def t0 : Fin cfg0.N := ⟨0, by rw [show cfg0.N = 8 from N_0]; decide⟩
/-- Scratch 0 from the first point on. -/
def sc0_0 (c : Dev nD) : Vec F S1024x2048 .bf16 := sout0_A_0 c t0 rfl (iblk0 V c 0 t0) (iblk0 V c 1 t0) (iblk0 V c 2 t0) (iblk0 V c 3 t0) (iblk0 V c 4 t0) (iblk0 V c 5 t0)
/-- What the output's buffer holds after point `t`. -/
def outAt0 (c : Dev nD) (t : Fin cfg0.N) : Vec F S256x2048 .bf16 :=
  if h : t.val % 8 = 0 then out0_A c t h (iblk0 V c 0 t) (iblk0 V c 1 t) (iblk0 V c 2 t) (iblk0 V c 3 t) (iblk0 V c 4 t) (iblk0 V c 5 t) else out0_B c t h (iblk0 V c 0 t) (iblk0 V c 1 t) (iblk0 V c 2 t) (iblk0 V c 3 t) (iblk0 V c 4 t) (iblk0 V c 5 t) (sc0_0 V c)

/-- The invariant between points: the scratch at anything before the first, at its contents afterwards. -/
def Phi0 (c : Dev nD) : ℕ → sProp 𝕄
  | 0 => Pipeline.ΦA spec0 c
  | n + 1 => iprop(iprop(iprop(owns (c : Thread nD τ) scM0_0 fullShare (sc0_0 V c)) ∗ rest0 c) ∗ (∃ r, prngReg c r))

/-- The region's proof data. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => iblk0 V c 5 t
    | ⟨6, _⟩ => outAt0 V c t
  Φ t := Phi0 V c t.val
  q _ := fullShare
  owed _ := 0

theorem A_eq0 (c : Dev nD) (w : Fin cfg0.W) : (dat0 V c).A w = V c (Pipeline.arrRef spec0 w) := by dsimp only [dat0]
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) : (dat0 V c).after 5 t = iblk0 V c 5 t := by dsimp only [dat0]
theorem after0_6 (c : Dev nD) (t : Fin cfg0.N) : (dat0 V c).after 6 t = outAt0 V c t := by dsimp only [dat0]
theorem before0_0 (c : Dev nD) (t : Fin cfg0.N) (d) : (dat0 V c).before 0 t d = iblk0 V c 0 t :=
  ((dat0 V c).before_in_eq_fetched 0 rfl (fun _ => rfl) (fun _ _ _ => rfl) (fun t => by rw [after0_0]; unfold Dat.blockOf iblk0; rw [A_eq0]; try rfl) t d).trans
    (by unfold Dat.fetched Dat.blockOf iblk0; rw [A_eq0]; try rfl)
theorem before0_1 (c : Dev nD) (t : Fin cfg0.N) (d) : (dat0 V c).before 1 t d = iblk0 V c 1 t :=
  ((dat0 V c).before_in_eq_fetched 1 rfl (fun _ => rfl) (fun _ _ _ => rfl) (fun t => by rw [after0_1]; unfold Dat.blockOf iblk0; rw [A_eq0]; try rfl) t d).trans
    (by unfold Dat.fetched Dat.blockOf iblk0; rw [A_eq0]; try rfl)
theorem before0_2 (c : Dev nD) (t : Fin cfg0.N) (d) : (dat0 V c).before 2 t d = iblk0 V c 2 t :=
  ((dat0 V c).before_in_eq_fetched 2 rfl (fun _ => rfl) (fun _ _ _ => rfl) (fun t => by rw [after0_2]; unfold Dat.blockOf iblk0; rw [A_eq0]; try rfl) t d).trans
    (by unfold Dat.fetched Dat.blockOf iblk0; rw [A_eq0]; try rfl)
theorem before0_3 (c : Dev nD) (t : Fin cfg0.N) (d) : (dat0 V c).before 3 t d = iblk0 V c 3 t :=
  ((dat0 V c).before_in_eq_fetched 3 rfl (fun _ => rfl) (fun _ _ _ => rfl) (fun t => by rw [after0_3]; unfold Dat.blockOf iblk0; rw [A_eq0]; try rfl) t d).trans
    (by unfold Dat.fetched Dat.blockOf iblk0; rw [A_eq0]; try rfl)
theorem before0_4 (c : Dev nD) (t : Fin cfg0.N) (d) : (dat0 V c).before 4 t d = iblk0 V c 4 t :=
  ((dat0 V c).before_in_eq_fetched 4 rfl (fun _ => rfl) (fun _ _ _ => rfl) (fun t => by rw [after0_4]; unfold Dat.blockOf iblk0; rw [A_eq0]; try rfl) t d).trans
    (by unfold Dat.fetched Dat.blockOf iblk0; rw [A_eq0]; try rfl)
theorem before0_5 (c : Dev nD) (t : Fin cfg0.N) (d) : (dat0 V c).before 5 t d = iblk0 V c 5 t :=
  ((dat0 V c).before_in_eq_fetched 5 rfl (fun _ => rfl) (fun _ _ _ => rfl) (fun t => by rw [after0_5]; unfold Dat.blockOf iblk0; rw [A_eq0]; try rfl) t d).trans
    (by unfold Dat.fetched Dat.blockOf iblk0; rw [A_eq0]; try rfl)

/-! ## The body obligation -/

def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d))
    ∗ (∃ d, owns (c : Thread nD τ) (ms0_3 t) fullShare ((dat0 V c).before 3 t d))
    ∗ (∃ d, owns (c : Thread nD τ) (ms0_4 t) fullShare ((dat0 V c).before 4 t d))
    ∗ (∃ d, owns (c : Thread nD τ) (ms0_5 t) fullShare ((dat0 V c).before 5 t d))
    ∗ (∃ d, owns (c : Thread nD τ) (ms0_6 t) fullShare ((dat0 V c).before 6 t d)))
def bodyPost0 (c : Dev nD) (t : Fin cfg0.N) : sProp 𝕄 :=
  iprop((dat0 V c).Φ t.succ ∗ (dat0 V c).owesAt () t.succ
    ∗ owns (c : Thread nD τ) (ms0_0 t) fullShare ((dat0 V c).after 0 t)
    ∗ owns (c : Thread nD τ) (ms0_1 t) fullShare ((dat0 V c).after 1 t)
    ∗ owns (c : Thread nD τ) (ms0_2 t) fullShare ((dat0 V c).after 2 t)
    ∗ owns (c : Thread nD τ) (ms0_3 t) fullShare ((dat0 V c).after 3 t)
    ∗ owns (c : Thread nD τ) (ms0_4 t) fullShare ((dat0 V c).after 4 t)
    ∗ owns (c : Thread nD τ) (ms0_5 t) fullShare ((dat0 V c).after 5 t)
    ∗ owns (c : Thread nD τ) (ms0_6 t) fullShare ((dat0 V c).after 6 t))

set_option maxHeartbeats 6400000 in
/-- The body in this case. -/
theorem sound0_A (c : Dev nD) (t : Fin cfg0.N) (h0 : t.val % 8 = 0) :
    bodyPre0 V c t ⊢ wp frame (wpE (defs₀ (F := F)) Variants.none c none) Set.univ (bodyAt0 t) (fun _ => bodyPost0 V c t) := by
  have hN : t.val < 8 := lt_of_lt_of_eq t.isLt (show cfg0.N = 8 from N_0)
  have ht : t = t0 := Fin.ext (by show t.val = 0; omega)
  subst ht
  have hout : outAt0 V c t0 = out0_A c t0 h0 (iblk0 V c 0 t0) (iblk0 V c 1 t0) (iblk0 V c 2 t0) (iblk0 V c 3 t0) (iblk0 V c 4 t0) (iblk0 V c 5 t0) := dif_pos h0
  unfold bodyPre0 bodyPost0 bodyAt0
  simp only [before0_0, before0_1, before0_2, before0_3, before0_4, before0_5]
  rw [show (dat0 V c).owesAt () t0.succ = (dat0 V c).owesAt () t0.castSucc from rfl,
    after0_0, after0_1, after0_2, after0_3, after0_4, after0_5, after0_6, hout]
  rw [show (dat0 V c).Φ t0.succ = iprop(iprop(iprop(owns (c : Thread nD τ) scM0_0 fullShare (sc0_0 V c)) ∗ rest0 c) ∗ (∃ r, prngReg c r)) from rfl]
  rw [show (dat0 V c).Φ t0.castSucc = Pipeline.ΦA spec0 c from rfl, PhiA0_eq]
  unfold sc0_0 out0_A sout0_A_0
  iintro ⟨⟨⟨HS0, Hrest⟩, Hg⟩, Ho, ⟨%d0, H0⟩, ⟨%d1, H1⟩, ⟨%d2, H2⟩, ⟨%d3, H3⟩, ⟨%d4, H4⟩, ⟨%d5, H5⟩, ⟨%d6, H6⟩⟩
  iapply ((run0_A c t0 h0 (iblk0 V c 0 t0) (iblk0 V c 1 t0) (iblk0 V c 2 t0) (iblk0 V c 3 t0) (iblk0 V c 4 t0) (iblk0 V c 5 t0) ).2.2 Set.univ _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  isplitl [HS0]; · iexact HS0
  iintro ⟨H0, H1, H2, H3, H4, H5, ⟨%e6, H6⟩, ⟨%es0, HS0⟩⟩
  isplitl [HS0 Hrest Hg]
  · isplitl [HS0 Hrest]
    · isplitr [Hrest]
      · unfold owns; iexists _; isplitr
        swap; · iexact HS0
        ipureintro; exact View.read_writes_of_cover _ _ _ _ _ (scover0_A_0 c t0 h0 (iblk0 V c 0 t0) (iblk0 V c 1 t0) (iblk0 V c 2 t0) (iblk0 V c 3 t0) (iblk0 V c 4 t0) (iblk0 V c 5 t0))
      iexact Hrest
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  unfold owns; iexists _; isplitr
  swap; · iexact H6
  ipureintro; exact View.read_writes_of_cover _ _ _ _ _ (cover0_A c t0 h0 (iblk0 V c 0 t0) (iblk0 V c 1 t0) (iblk0 V c 2 t0) (iblk0 V c 3 t0) (iblk0 V c 4 t0) (iblk0 V c 5 t0) )

set_option maxHeartbeats 6400000 in
/-- The body in this case. -/
theorem sound0_B (c : Dev nD) (t : Fin cfg0.N) (h0 : ¬ t.val % 8 = 0) :
    bodyPre0 V c t ⊢ wp frame (wpE (defs₀ (F := F)) Variants.none c none) Set.univ (bodyAt0 t) (fun _ => bodyPost0 V c t) := by
  have hN : t.val < 8 := lt_of_lt_of_eq t.isLt (show cfg0.N = 8 from N_0)
  have hout : outAt0 V c t = out0_B c t h0 (iblk0 V c 0 t) (iblk0 V c 1 t) (iblk0 V c 2 t) (iblk0 V c 3 t) (iblk0 V c 4 t) (iblk0 V c 5 t) (sc0_0 V c) := dif_neg h0
  have hΦ : (dat0 V c).Φ t.castSucc = iprop(iprop(iprop(owns (c : Thread nD τ) scM0_0 fullShare (sc0_0 V c)) ∗ rest0 c) ∗ (∃ r, prngReg c r)) := by
    show Phi0 V c t.val = _
    obtain ⟨n, hn⟩ : ∃ n, t.val = n + 1 := ⟨t.val - 1, by omega⟩
    rw [hn]; rfl
  unfold bodyPre0 bodyPost0 bodyAt0
  simp only [before0_0, before0_1, before0_2, before0_3, before0_4, before0_5]
  rw [show (dat0 V c).owesAt () t.succ = (dat0 V c).owesAt () t.castSucc from rfl,
    after0_0, after0_1, after0_2, after0_3, after0_4, after0_5, after0_6, hout]
  rw [show (dat0 V c).Φ t.succ = iprop(iprop(iprop(owns (c : Thread nD τ) scM0_0 fullShare (sc0_0 V c)) ∗ rest0 c) ∗ (∃ r, prngReg c r)) from rfl]
  rw [hΦ]
  unfold out0_B
  iintro ⟨⟨⟨HS0, Hrest⟩, Hg⟩, Ho, ⟨%d0, H0⟩, ⟨%d1, H1⟩, ⟨%d2, H2⟩, ⟨%d3, H3⟩, ⟨%d4, H4⟩, ⟨%d5, H5⟩, ⟨%d6, H6⟩⟩
  iapply ((run0_B c t h0 (iblk0 V c 0 t) (iblk0 V c 1 t) (iblk0 V c 2 t) (iblk0 V c 3 t) (iblk0 V c 4 t) (iblk0 V c 5 t) _).2.2 Set.univ _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  isplitl [HS0]; · iexact HS0
  iintro ⟨H0, H1, H2, H3, H4, H5, ⟨%e6, H6⟩, HS0⟩
  isplitl [HS0 Hrest Hg]
  · isplitl [HS0 Hrest]
    · isplitr [Hrest]
      · iexact HS0
      iexact Hrest
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  unfold owns; iexists _; isplitr
  swap; · iexact H6
  ipureintro; exact View.read_writes_of_cover _ _ _ _ _ (cover0_B c t h0 (iblk0 V c 0 t) (iblk0 V c 1 t) (iblk0 V c 2 t) (iblk0 V c 3 t) (iblk0 V c 4 t) (iblk0 V c 5 t) _)

theorem sound0 (c : Dev nD) (t : Fin cfg0.N) :
    bodyPre0 V c t ⊢ wp frame (wpE (defs₀ (F := F)) Variants.none c none) Set.univ (bodyAt0 t) (fun _ => bodyPost0 V c t) := by
  by_cases h0 : t.val % 8 = 0
  · exact sound0_A V c t h0
  · exact sound0_B V c t h0

theorem defs₀_row0 (t : Fin cfg0.N) :
    defs₀ (F := F) .tc cfg0.body (cfg0.bodyArgs t (cfg0.slots t)) = bodyAt0 t := by
  unfold defs₀; rw [Defs.onTc_tc]

/-- The body meets its obligation at every point. -/
theorem body_obligation0 (c : Dev nD) : BodyObligation (dat0 (F := F) V c) (defs₀ (F := F)) Variants.none () Set.univ := fun t => by
  rw [bigSep_W0, bigSep_W0, defs₀_row0]
  exact triple_restated (sound0 V c t) rfl .rfl fun _ => .rfl

/-- The invariant before the first point is what the launch hands over. -/
theorem hin0 (c : Dev nD) : Pipeline.ΦA spec0 c ⊢ (dat0 V c).Φ 0 := .rfl

/-- After the last point the scratch's contents are forgotten. -/
theorem hout0 (c : Dev nD) : (dat0 V c).Φ (Fin.last cfg0.N) ⊢ Pipeline.ΦA spec0 c := by
  rw [PhiA0_eq]
  have hn : (Fin.last cfg0.N).val = 7 + 1 := by rw [Fin.val_last]; exact N_0
  show Phi0 V c (Fin.last cfg0.N).val ⊢ _
  rw [hn]
  show iprop(iprop(iprop(owns (c : Thread nD τ) scM0_0 fullShare (sc0_0 V c)) ∗ rest0 c) ∗ (∃ r, prngReg c r)) ⊢ _
  iintro ⟨⟨HS0, Hrest⟩, Hg⟩
  isplitr [Hg]
  · isplitr [Hrest]
    · iexists _; iexact HS0
    iexact Hrest
  iexact Hg

end Cert.KernelIdeal.Gen

end
-- ==== Proof.Ideal.Attn.lean ====
module

public import proofs.«01_k».proof.Proof.Gen.KernelIdeal.Launch
public import proofs.«01_k».proof.Proof.Gen.KernelIdeal.Skeleton
public import proofs.«01_k».proof.Proof.Gen.KernelIdeal.Points
public import proofs.«01_k».proof.Proof.Gen.KernelIdeal.Loops
public import Idealize.ShloMosaic.Lib.Pipeline.FrameBody
public import Idealize.ShloMosaic.Lib.Ring
public import Idealize.ShloMosaic.Lib.Tactic
public import Idealize.ShloMosaic.Lib.WordCmp

/-! Region 1 of @main, the attention call: what its body leaves, over any contents at its entry. -/

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

/-! ## The conditions of the body, over the points -/

abbrev cond1_0 (i : grid1.Coords) : Prop := (Scalar.cmpi .ne (Scalar.extui (Scalar.cmpi .eq (BitVec.ofNat 32 (i 1).val) 0#32)) 0#32) = 1#1
theorem hcond1_0 : ∀ t : Fin cfg1.N, cond1_0 (grid1.coords t) ↔ t.val % 4 = 0 :=
  (fun t => by
    have ht : t.val < 32 := Nat.lt_of_lt_of_eq t.isLt N_1
    have e0 : (grid1.coords t 0).val = t.val / 4 % 8 := Pipeline.Grid.coords_val t 0 (by decide) rfl
    have e1 : (grid1.coords t 1).val = t.val / 1 % 4 := Pipeline.Grid.coords_val t 1 (by decide) rfl
    simp only [cond1_0, e0, e1]
    word_cmp
   : ∀ t : Fin grid1.N, cond1_0 (grid1.coords t) ↔ t.val % 4 = 0)

abbrev cond1_1 (i : grid1.Coords) : Prop := (Scalar.cmpi .ne (Scalar.extui (Scalar.andi (Scalar.cmpi .eq (BitVec.ofNat 32 (i 0).val) 0#32) (Scalar.cmpi .eq (BitVec.ofNat 32 (i 1).val) 0#32))) 0#32) = 1#1
theorem hcond1_1 : ∀ t : Fin cfg1.N, cond1_1 (grid1.coords t) ↔ t.val % 32 = 0 :=
  (fun t => by
    have ht : t.val < 32 := Nat.lt_of_lt_of_eq t.isLt N_1
    have e0 : (grid1.coords t 0).val = t.val / 4 % 8 := Pipeline.Grid.coords_val t 0 (by decide) rfl
    have e1 : (grid1.coords t 1).val = t.val / 1 % 4 := Pipeline.Grid.coords_val t 1 (by decide) rfl
    simp only [cond1_1, e0, e1]
    word_cmp
   : ∀ t : Fin grid1.N, cond1_1 (grid1.coords t) ↔ t.val % 32 = 0)

/-! ## The memrefs the body is called with -/

abbrev ms1_0 (t : Fin cfg1.N) : Memref sig .tc .vmem S512x128 .bf16 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S1x2048x64 .bf16 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S1x2048x64 .bf16 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S512x128 .bf16 := win1_3.stage (cfg1.slots t 3)
abbrev hs1_3 (t : Fin cfg1.N) : (ms1_3 t).IsWhole := hstage1_3 ((cfg1.slots t 3).cast nbuf1_3)
abbrev VO1 : View sig .tc .vmem S512x128 .bf16 := (Memref.whole cc1_stg3_0 : Memref sig .tc .vmem S512x128 .bf16).view
abbrev scM1_0 : Memref sig .tc .vmem S2048x128 .fp8e4m3 := Memref.whole cc1_scratch0
abbrev scM1_1 : Memref sig .tc .vmem S1024x512 .f32 := Memref.whole cc1_scratch1

/-- The scoped buffers this call does not stage, its own scratch set apart. -/
abbrev rest1 (c : Dev nD) : sProp 𝕄 := Pipeline.scopedRestBut (Ix := Unit) (Name := ℕ) (U := UR sig nD τ) (Lvl := ℕ) (Val := Elt F) spec1 c [cc1_scratch0, cc1_scratch1]

/-- What the launch hands the region, the scratch buffers owned at some contents. -/
theorem PhiA1_eq (c : Dev nD) :
    (Pipeline.ΦA spec1 c : sProp 𝕄) = iprop(iprop(iprop((∃ d, owns (c : Thread nD τ) scM1_0 fullShare d) ∗ (∃ d, owns (c : Thread nD τ) scM1_1 fullShare d)) ∗ rest1 c) ∗ (∃ r, prngReg c r)) := by
  unfold Pipeline.ΦA; rw [show (Pipeline.scopedRest (Ix := Unit) (Name := ℕ) (U := UR sig nD τ) (Lvl := ℕ) (Val := Elt F) spec1 c : sProp 𝕄) = _ from Pipeline.scopedRest_split_of_list spec1 c [cc1_scratch0, cc1_scratch1] (by decide) (by decide)]
  simp only [scM1_0, scM1_1, owns_whole]; try rfl

set_option maxHeartbeats 1000000 in
/-- What the body's stores leave in this case, found by running it. -/
def kernelRun1_A (c : Dev nD) (i : grid1.Coords) (arg2 : Memref sig .tc .vmem S512x128 .bf16) (harg2 : arg2.IsWhole) (arg3 : Memref sig .tc .vmem S1x2048x64 .bf16) (harg3 : arg3.IsWhole) (arg4 : Memref sig .tc .vmem S1x2048x64 .bf16) (harg4 : arg4.IsWhole) (arg5 : Memref sig .tc .vmem S512x128 .bf16) (harg5 : arg5.IsWhole) (arg6 : Memref sig .tc .vmem S2048x128 .fp8e4m3) (harg6 : arg6.IsWhole) (arg7 : Memref sig .tc .vmem S1024x512 .f32) (harg7 : arg7.IsWhole) (hc0 : cond1_0 i) (hc1 : cond1_1 i)
    (x0 : Vec F S512x128 .bf16) (x1 : Vec F S1x2048x64 .bf16) (x2 : Vec F S1x2048x64 .bf16) :
    Σ' (L3 : List (View.Piece (Elt F) S512x128 .bf16)), Σ' (LS0 : List (View.Piece (Elt F) S2048x128 .fp8e4m3)), { LS1 : List (View.Piece (Elt F) S1024x512 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ (∃ d, owns (c : Thread nD τ) arg5 fullShare d) ∗ (∃ d, owns (c : Thread nD τ) arg6 fullShare d) ∗ (∃ d, owns (c : Thread nD τ) arg7 fullShare d)
            ∗ (iprop(owns (c : Thread nD τ) arg2 fullShare x0 ∗ owns (c : Thread nD τ) arg3 fullShare x1 ∗ owns (c : Thread nD τ) arg4 fullShare x2 ∗ (∃ f, arg5.view.loc (c : Thread nD τ) ↦[arg5.view.set]{fullShare} arg5.view.writes (Elt F) f L3) ∗ (∃ f, arg6.view.loc (c : Thread nD τ) ↦[arg6.view.set]{fullShare} arg6.view.writes (Elt F) f LS0) ∗ (∃ f, arg7.view.loc (c : Thread nD τ) ↦[arg7.view.set]{fullShare} arg7.view.writes (Elt F) f LS1)) -∗ K ⟨⟩))
          ⊢ wp frame (wpE (defs₀ (F := F)) Variants.none c none) E (cc1__attn_body i arg2 harg2 arg3 harg3 arg4 harg4 arg5 harg5 arg6 harg6 arg7 harg7) K } := by
  refine ⟨?_, ?_, ?_, fun E K => ?run⟩
  case run =>
    simp only [cc1__attn_body_eq_skeleton]; unfold cc1__attn_body_skel
    simp only [k1_part1_eq_skeleton]
    unfold owns
    iintro ⟨⟨%f0, %hf0, H0⟩, ⟨%f1, %hf1, H1⟩, ⟨%f2, %hf2, H2⟩, ⟨%d3, %f3, -, H3⟩, ⟨%ds0, %fs0, -, HS0⟩, ⟨%ds1, %fs1, -, HS1⟩, Hk⟩
    obtain rfl := harg2.eq_unread hf0; obtain rfl := harg3.eq_unread hf1; obtain rfl := harg4.eq_unread hf2
    sl_exec (disch := first | sl_exact hc0 | sl_exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]; · iexists _; iexact H3
    isplitl [HS0]; · iexists _; iexact HS0
    iexists _; iexact HS1

set_option maxHeartbeats 1000000 in
/-- What the body's stores leave in this case, found by running it. -/
def kernelRun1_B (c : Dev nD) (i : grid1.Coords) (arg2 : Memref sig .tc .vmem S512x128 .bf16) (harg2 : arg2.IsWhole) (arg3 : Memref sig .tc .vmem S1x2048x64 .bf16) (harg3 : arg3.IsWhole) (arg4 : Memref sig .tc .vmem S1x2048x64 .bf16) (harg4 : arg4.IsWhole) (arg5 : Memref sig .tc .vmem S512x128 .bf16) (harg5 : arg5.IsWhole) (arg6 : Memref sig .tc .vmem S2048x128 .fp8e4m3) (harg6 : arg6.IsWhole) (arg7 : Memref sig .tc .vmem S1024x512 .f32) (harg7 : arg7.IsWhole) (hc0 : ¬cond1_0 i) (hc1 : ¬cond1_1 i)
    (x0 : Vec F S512x128 .bf16) (x1 : Vec F S1x2048x64 .bf16) (x2 : Vec F S1x2048x64 .bf16) (xs0 : Vec F S2048x128 .fp8e4m3) (xs1 : Vec F S1024x512 .f32) :
    Σ' (L3 : List (View.Piece (Elt F) S512x128 .bf16)), Σ' (LS0 : List (View.Piece (Elt F) S2048x128 .fp8e4m3)), { LS1 : List (View.Piece (Elt F) S1024x512 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ (∃ d, owns (c : Thread nD τ) arg5 fullShare d) ∗ owns (c : Thread nD τ) arg6 fullShare xs0 ∗ owns (c : Thread nD τ) arg7 fullShare xs1
            ∗ (iprop(owns (c : Thread nD τ) arg2 fullShare x0 ∗ owns (c : Thread nD τ) arg3 fullShare x1 ∗ owns (c : Thread nD τ) arg4 fullShare x2 ∗ (∃ f, arg5.view.loc (c : Thread nD τ) ↦[arg5.view.set]{fullShare} arg5.view.writes (Elt F) f L3) ∗ owns (c : Thread nD τ) arg6 fullShare xs0 ∗ owns (c : Thread nD τ) arg7 fullShare xs1) -∗ K ⟨⟩))
          ⊢ wp frame (wpE (defs₀ (F := F)) Variants.none c none) E (cc1__attn_body i arg2 harg2 arg3 harg3 arg4 harg4 arg5 harg5 arg6 harg6 arg7 harg7) K } := by
  refine ⟨?_, [], [], fun E K => ?run⟩
  case run =>
    simp only [cc1__attn_body_eq_skeleton]; unfold cc1__attn_body_skel
    simp only [k1_part1_eq_skeleton]
    unfold owns
    iintro ⟨⟨%f0, %hf0, H0⟩, ⟨%f1, %hf1, H1⟩, ⟨%f2, %hf2, H2⟩, ⟨%d3, %f3, -, H3⟩, ⟨%fs0, %hfs0, HS0⟩, ⟨%fs1, %hfs1, HS1⟩, Hk⟩
    obtain rfl := harg2.eq_unread hf0; obtain rfl := harg3.eq_unread hf1; obtain rfl := harg4.eq_unread hf2; obtain rfl := harg6.eq_unread hfs0; obtain rfl := harg7.eq_unread hfs1
    sl_exec (disch := first | sl_exact hc0 | sl_exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]; · iexists _; iexact H3
    isplitl [HS0]
    · iexists _; isplitr; · ipureintro; exact harg6.read_unread _
      iexact HS0
    iexists _; isplitr; · ipureintro; exact harg7.read_unread _
    iexact HS1

set_option maxHeartbeats 1000000 in
/-- What the body's stores leave in this case, found by running it. -/
def kernelRun1_C (c : Dev nD) (i : grid1.Coords) (arg2 : Memref sig .tc .vmem S512x128 .bf16) (harg2 : arg2.IsWhole) (arg3 : Memref sig .tc .vmem S1x2048x64 .bf16) (harg3 : arg3.IsWhole) (arg4 : Memref sig .tc .vmem S1x2048x64 .bf16) (harg4 : arg4.IsWhole) (arg5 : Memref sig .tc .vmem S512x128 .bf16) (harg5 : arg5.IsWhole) (arg6 : Memref sig .tc .vmem S2048x128 .fp8e4m3) (harg6 : arg6.IsWhole) (arg7 : Memref sig .tc .vmem S1024x512 .f32) (harg7 : arg7.IsWhole) (hc0 : cond1_0 i) (hc1 : ¬cond1_1 i)
    (x0 : Vec F S512x128 .bf16) (x1 : Vec F S1x2048x64 .bf16) (x2 : Vec F S1x2048x64 .bf16) (xs1 : Vec F S1024x512 .f32) :
    Σ' (L3 : List (View.Piece (Elt F) S512x128 .bf16)), Σ' (LS0 : List (View.Piece (Elt F) S2048x128 .fp8e4m3)), { LS1 : List (View.Piece (Elt F) S1024x512 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ (∃ d, owns (c : Thread nD τ) arg5 fullShare d) ∗ (∃ d, owns (c : Thread nD τ) arg6 fullShare d) ∗ owns (c : Thread nD τ) arg7 fullShare xs1
            ∗ (iprop(owns (c : Thread nD τ) arg2 fullShare x0 ∗ owns (c : Thread nD τ) arg3 fullShare x1 ∗ owns (c : Thread nD τ) arg4 fullShare x2 ∗ (∃ f, arg5.view.loc (c : Thread nD τ) ↦[arg5.view.set]{fullShare} arg5.view.writes (Elt F) f L3) ∗ (∃ f, arg6.view.loc (c : Thread nD τ) ↦[arg6.view.set]{fullShare} arg6.view.writes (Elt F) f LS0) ∗ owns (c : Thread nD τ) arg7 fullShare xs1) -∗ K ⟨⟩))
          ⊢ wp frame (wpE (defs₀ (F := F)) Variants.none c none) E (cc1__attn_body i arg2 harg2 arg3 harg3 arg4 harg4 arg5 harg5 arg6 harg6 arg7 harg7) K } := by
  refine ⟨?_, ?_, [], fun E K => ?run⟩
  case run =>
    simp only [cc1__attn_body_eq_skeleton]; unfold cc1__attn_body_skel
    simp only [k1_part1_eq_skeleton]
    unfold owns
    iintro ⟨⟨%f0, %hf0, H0⟩, ⟨%f1, %hf1, H1⟩, ⟨%f2, %hf2, H2⟩, ⟨%d3, %f3, -, H3⟩, ⟨%ds0, %fs0, -, HS0⟩, ⟨%fs1, %hfs1, HS1⟩, Hk⟩
    obtain rfl := harg2.eq_unread hf0; obtain rfl := harg3.eq_unread hf1; obtain rfl := harg4.eq_unread hf2; obtain rfl := harg7.eq_unread hfs1
    sl_exec (disch := first | sl_exact hc0 | sl_exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]; · iexists _; iexact H3
    isplitl [HS0]; · iexists _; iexact HS0
    iexists _; isplitr; · ipureintro; exact harg7.read_unread _
    iexact HS1

/-- The run of this case at point `t`'s memrefs. -/
abbrev run1_A (c : Dev nD) (t : Fin cfg1.N) (h0 : t.val % 4 = 0) (h1 : t.val % 32 = 0) (x0 : Vec F S512x128 .bf16) (x1 : Vec F S1x2048x64 .bf16) (x2 : Vec F S1x2048x64 .bf16) :=
  kernelRun1_A c (grid1.coords t) (ms1_0 t) (hs1_0 t) (ms1_1 t) (hs1_1 t) (ms1_2 t) (hs1_2 t) (ms1_3 t) (hs1_3 t) scM1_0 (Memref.isWhole_whole _) scM1_1 (Memref.isWhole_whole _) ((hcond1_0 t).mpr h0) ((hcond1_1 t).mpr h1) x0 x1 x2
theorem cover1_A (c : Dev nD) (t : Fin cfg1.N) (h0 : t.val % 4 = 0) (h1 : t.val % 32 = 0) (x0 : Vec F S512x128 .bf16) (x1 : Vec F S1x2048x64 .bf16) (x2 : Vec F S1x2048x64 .bf16) (y : S512x128.Idx) : ∃ pc ∈ (run1_A c t h0 h1 x0 x1 x2).1, y ∈ pc.1.set :=
  View.cover_of_tiledL (run1_A c t h0 h1 x0 x1 x2).1 S512x128.size (by sl_kernel_rfl) y
/-- What this case leaves in the output's buffer. -/
def out1_A (c : Dev nD) (t : Fin cfg1.N) (h0 : t.val % 4 = 0) (h1 : t.val % 32 = 0) (x0 : Vec F S512x128 .bf16) (x1 : Vec F S1x2048x64 .bf16) (x2 : Vec F S1x2048x64 .bf16) : Vec F S512x128 .bf16 :=
  VO1.read (Elt F) (VO1.writes (Elt F) VO1.junk (run1_A c t h0 h1 x0 x1 x2).1)
theorem scover1_A_0 (c : Dev nD) (t : Fin cfg1.N) (h0 : t.val % 4 = 0) (h1 : t.val % 32 = 0) (x0 : Vec F S512x128 .bf16) (x1 : Vec F S1x2048x64 .bf16) (x2 : Vec F S1x2048x64 .bf16) (y : S2048x128.Idx) : ∃ pc ∈ (run1_A c t h0 h1 x0 x1 x2).2.1, y ∈ pc.1.set :=
  View.cover_of_tiledL (run1_A c t h0 h1 x0 x1 x2).2.1 S2048x128.size (by sl_kernel_rfl) y
/-- What this case leaves in scratch 0. -/
def sout1_A_0 (c : Dev nD) (t : Fin cfg1.N) (h0 : t.val % 4 = 0) (h1 : t.val % 32 = 0) (x0 : Vec F S512x128 .bf16) (x1 : Vec F S1x2048x64 .bf16) (x2 : Vec F S1x2048x64 .bf16) : Vec F S2048x128 .fp8e4m3 :=
  scM1_0.view.read (Elt F) (scM1_0.view.writes (Elt F) scM1_0.view.junk (run1_A c t h0 h1 x0 x1 x2).2.1)
theorem scover1_A_1 (c : Dev nD) (t : Fin cfg1.N) (h0 : t.val % 4 = 0) (h1 : t.val % 32 = 0) (x0 : Vec F S512x128 .bf16) (x1 : Vec F S1x2048x64 .bf16) (x2 : Vec F S1x2048x64 .bf16) (y : S1024x512.Idx) : ∃ pc ∈ (run1_A c t h0 h1 x0 x1 x2).2.2.1, y ∈ pc.1.set :=
  View.cover_of_tiledL (run1_A c t h0 h1 x0 x1 x2).2.2.1 S1024x512.size (by sl_kernel_rfl) y
/-- What this case leaves in scratch 1. -/
def sout1_A_1 (c : Dev nD) (t : Fin cfg1.N) (h0 : t.val % 4 = 0) (h1 : t.val % 32 = 0) (x0 : Vec F S512x128 .bf16) (x1 : Vec F S1x2048x64 .bf16) (x2 : Vec F S1x2048x64 .bf16) : Vec F S1024x512 .f32 :=
  scM1_1.view.read (Elt F) (scM1_1.view.writes (Elt F) scM1_1.view.junk (run1_A c t h0 h1 x0 x1 x2).2.2.1)

/-- The run of this case at point `t`'s memrefs. -/
abbrev run1_B (c : Dev nD) (t : Fin cfg1.N) (h0 : ¬ t.val % 4 = 0) (h1 : ¬ t.val % 32 = 0) (x0 : Vec F S512x128 .bf16) (x1 : Vec F S1x2048x64 .bf16) (x2 : Vec F S1x2048x64 .bf16) (xs0 : Vec F S2048x128 .fp8e4m3) (xs1 : Vec F S1024x512 .f32) :=
  kernelRun1_B c (grid1.coords t) (ms1_0 t) (hs1_0 t) (ms1_1 t) (hs1_1 t) (ms1_2 t) (hs1_2 t) (ms1_3 t) (hs1_3 t) scM1_0 (Memref.isWhole_whole _) scM1_1 (Memref.isWhole_whole _) (fun h => h0 ((hcond1_0 t).mp h)) (fun h => h1 ((hcond1_1 t).mp h)) x0 x1 x2 xs0 xs1
theorem cover1_B (c : Dev nD) (t : Fin cfg1.N) (h0 : ¬ t.val % 4 = 0) (h1 : ¬ t.val % 32 = 0) (x0 : Vec F S512x128 .bf16) (x1 : Vec F S1x2048x64 .bf16) (x2 : Vec F S1x2048x64 .bf16) (xs0 : Vec F S2048x128 .fp8e4m3) (xs1 : Vec F S1024x512 .f32) (y : S512x128.Idx) : ∃ pc ∈ (run1_B c t h0 h1 x0 x1 x2 xs0 xs1).1, y ∈ pc.1.set :=
  View.cover_of_tiledL (run1_B c t h0 h1 x0 x1 x2 xs0 xs1).1 S512x128.size (by sl_kernel_rfl) y
/-- What this case leaves in the output's buffer. -/
def out1_B (c : Dev nD) (t : Fin cfg1.N) (h0 : ¬ t.val % 4 = 0) (h1 : ¬ t.val % 32 = 0) (x0 : Vec F S512x128 .bf16) (x1 : Vec F S1x2048x64 .bf16) (x2 : Vec F S1x2048x64 .bf16) (xs0 : Vec F S2048x128 .fp8e4m3) (xs1 : Vec F S1024x512 .f32) : Vec F S512x128 .bf16 :=
  VO1.read (Elt F) (VO1.writes (Elt F) VO1.junk (run1_B c t h0 h1 x0 x1 x2 xs0 xs1).1)

/-- The run of this case at point `t`'s memrefs. -/
abbrev run1_C (c : Dev nD) (t : Fin cfg1.N) (h0 : t.val % 4 = 0) (h1 : ¬ t.val % 32 = 0) (x0 : Vec F S512x128 .bf16) (x1 : Vec F S1x2048x64 .bf16) (x2 : Vec F S1x2048x64 .bf16) (xs1 : Vec F S1024x512 .f32) :=
  kernelRun1_C c (grid1.coords t) (ms1_0 t) (hs1_0 t) (ms1_1 t) (hs1_1 t) (ms1_2 t) (hs1_2 t) (ms1_3 t) (hs1_3 t) scM1_0 (Memref.isWhole_whole _) scM1_1 (Memref.isWhole_whole _) ((hcond1_0 t).mpr h0) (fun h => h1 ((hcond1_1 t).mp h)) x0 x1 x2 xs1
theorem cover1_C (c : Dev nD) (t : Fin cfg1.N) (h0 : t.val % 4 = 0) (h1 : ¬ t.val % 32 = 0) (x0 : Vec F S512x128 .bf16) (x1 : Vec F S1x2048x64 .bf16) (x2 : Vec F S1x2048x64 .bf16) (xs1 : Vec F S1024x512 .f32) (y : S512x128.Idx) : ∃ pc ∈ (run1_C c t h0 h1 x0 x1 x2 xs1).1, y ∈ pc.1.set :=
  View.cover_of_tiledL (run1_C c t h0 h1 x0 x1 x2 xs1).1 S512x128.size (by sl_kernel_rfl) y
/-- What this case leaves in the output's buffer. -/
def out1_C (c : Dev nD) (t : Fin cfg1.N) (h0 : t.val % 4 = 0) (h1 : ¬ t.val % 32 = 0) (x0 : Vec F S512x128 .bf16) (x1 : Vec F S1x2048x64 .bf16) (x2 : Vec F S1x2048x64 .bf16) (xs1 : Vec F S1024x512 .f32) : Vec F S512x128 .bf16 :=
  VO1.read (Elt F) (VO1.writes (Elt F) VO1.junk (run1_C c t h0 h1 x0 x1 x2 xs1).1)
theorem scover1_C_0 (c : Dev nD) (t : Fin cfg1.N) (h0 : t.val % 4 = 0) (h1 : ¬ t.val % 32 = 0) (x0 : Vec F S512x128 .bf16) (x1 : Vec F S1x2048x64 .bf16) (x2 : Vec F S1x2048x64 .bf16) (xs1 : Vec F S1024x512 .f32) (y : S2048x128.Idx) : ∃ pc ∈ (run1_C c t h0 h1 x0 x1 x2 xs1).2.1, y ∈ pc.1.set :=
  View.cover_of_tiledL (run1_C c t h0 h1 x0 x1 x2 xs1).2.1 S2048x128.size (by sl_kernel_rfl) y
/-- What this case leaves in scratch 0. -/
def sout1_C_0 (c : Dev nD) (t : Fin cfg1.N) (h0 : t.val % 4 = 0) (h1 : ¬ t.val % 32 = 0) (x0 : Vec F S512x128 .bf16) (x1 : Vec F S1x2048x64 .bf16) (x2 : Vec F S1x2048x64 .bf16) (xs1 : Vec F S1024x512 .f32) : Vec F S2048x128 .fp8e4m3 :=
  scM1_0.view.read (Elt F) (scM1_0.view.writes (Elt F) scM1_0.view.junk (run1_C c t h0 h1 x0 x1 x2 xs1).2.1)

/-! ## The contents over the points, from any entry contents -/

variable (V : (c : Dev nD) → (b : Ref sig .tc) → Buf (Elt F) ((c : Thread nD τ).loc b))

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The first point. -/
def t1 : Fin cfg1.N := ⟨0, by rw [show cfg1.N = 32 from N_1]; decide⟩
/-- The point that starts `n`'s group of four. -/
def gs1 (n : ℕ) : Fin cfg1.N := ⟨4 * (n / 4) % 32, lt_of_lt_of_eq (Nat.mod_lt _ (by decide)) N_1.symm⟩
theorem gs1_mod (n : ℕ) : (gs1 n).val % 4 = 0 := by unfold gs1; dsimp only; omega
theorem gs1_self (t : Fin cfg1.N) (h : t.val % 4 = 0) : gs1 t.val = t := by
  have := lt_of_lt_of_eq t.isLt N_1; apply Fin.ext; unfold gs1; dsimp only; omega
/-- The values beside their ones column, as the point `g` that starts a group stores them. -/
def vx1 (c : Dev nD) (g : Fin cfg1.N) (hg : g.val % 4 = 0) : Vec F S2048x128 .fp8e4m3 :=
  if h : g.val % 32 = 0 then sout1_A_0 c g hg h (iblk1 V c 0 g) (iblk1 V c 1 g) (iblk1 V c 2 g)
  else sout1_C_0 c g hg h (iblk1 V c 0 g) (iblk1 V c 1 g) (iblk1 V c 2 g) (sout1_A_1 c t1 rfl rfl (iblk1 V c 0 t1) (iblk1 V c 1 t1) (iblk1 V c 2 t1))
theorem vx1_congr (c : Dev nD) (g g' : Fin cfg1.N) (e : g = g') (hg : g.val % 4 = 0) (hg' : g'.val % 4 = 0) :
    vx1 V c g hg = vx1 V c g' hg' := by subst e; rfl
/-- The values beside their ones column after point `n`: as the start of `n`'s group stored them. -/
def sc1_0 (c : Dev nD) (n : ℕ) : Vec F S2048x128 .fp8e4m3 := vx1 V c (gs1 n) (gs1_mod n)
/-- The mask, from the first point on. -/
def sc1_1 (c : Dev nD) : Vec F S1024x512 .f32 := sout1_A_1 c t1 rfl rfl (iblk1 V c 0 t1) (iblk1 V c 1 t1) (iblk1 V c 2 t1)
/-- What the output's buffer holds after point `t`. -/
def outAt1 (c : Dev nD) (t : Fin cfg1.N) : Vec F S512x128 .bf16 :=
  if h : t.val % 4 = 0 then
    if h1 : t.val % 32 = 0 then out1_A c t h h1 (iblk1 V c 0 t) (iblk1 V c 1 t) (iblk1 V c 2 t)
    else out1_C c t h h1 (iblk1 V c 0 t) (iblk1 V c 1 t) (iblk1 V c 2 t) (sc1_1 V c)
  else out1_B c t h (fun h1 => h (by omega)) (iblk1 V c 0 t) (iblk1 V c 1 t) (iblk1 V c 2 t) (sc1_0 V c t.val) (sc1_1 V c)

/-- The invariant between points: the scratch at anything before the first, at its contents afterwards. -/
def Phi1 (c : Dev nD) : ℕ → sProp 𝕄
  | 0 => Pipeline.ΦA spec1 c
  | n + 1 => iprop(iprop(iprop(owns (c : Thread nD τ) scM1_0 fullShare (sc1_0 V c n) ∗ owns (c : Thread nD τ) scM1_1 fullShare (sc1_1 V c)) ∗ rest1 c) ∗ (∃ r, prngReg c r))

/-- The region's proof data. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => outAt1 V c t
  Φ t := Phi1 V c t.val
  q _ := fullShare
  owed _ := 0

theorem A_eq1 (c : Dev nD) (w : Fin cfg1.W) : (dat1 V c).A w = V c (Pipeline.arrRef spec1 w) := by dsimp only [dat1]
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = outAt1 V c t := by dsimp only [dat1]
theorem before1_0 (c : Dev nD) (t : Fin cfg1.N) (d) : (dat1 V c).before 0 t d = iblk1 V c 0 t :=
  ((dat1 V c).before_in_eq_fetched 0 rfl (fun _ => rfl) (fun _ _ _ => rfl) (fun t => by rw [after1_0]; unfold Dat.blockOf iblk1; rw [A_eq1]; try rfl) t d).trans
    (by unfold Dat.fetched Dat.blockOf iblk1; rw [A_eq1]; try rfl)
theorem before1_1 (c : Dev nD) (t : Fin cfg1.N) (d) : (dat1 V c).before 1 t d = iblk1 V c 1 t :=
  ((dat1 V c).before_in_eq_fetched 1 rfl (fun _ => rfl) (fun _ _ _ => rfl) (fun t => by rw [after1_1]; unfold Dat.blockOf iblk1; rw [A_eq1]; try rfl) t d).trans
    (by unfold Dat.fetched Dat.blockOf iblk1; rw [A_eq1]; try rfl)
theorem before1_2 (c : Dev nD) (t : Fin cfg1.N) (d) : (dat1 V c).before 2 t d = iblk1 V c 2 t :=
  ((dat1 V c).before_in_eq_fetched 2 rfl (fun _ => rfl) (fun _ _ _ => rfl) (fun t => by rw [after1_2]; unfold Dat.blockOf iblk1; rw [A_eq1]; try rfl) t d).trans
    (by unfold Dat.fetched Dat.blockOf iblk1; rw [A_eq1]; try rfl)

/-! ## The body obligation -/

def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d)))
def bodyPost1 (c : Dev nD) (t : Fin cfg1.N) : sProp 𝕄 :=
  iprop((dat1 V c).Φ t.succ ∗ (dat1 V c).owesAt () t.succ
    ∗ owns (c : Thread nD τ) (ms1_0 t) fullShare ((dat1 V c).after 0 t)
    ∗ owns (c : Thread nD τ) (ms1_1 t) fullShare ((dat1 V c).after 1 t)
    ∗ owns (c : Thread nD τ) (ms1_2 t) fullShare ((dat1 V c).after 2 t)
    ∗ owns (c : Thread nD τ) (ms1_3 t) fullShare ((dat1 V c).after 3 t))

set_option maxHeartbeats 6400000 in
/-- The body in this case. -/
theorem sound1_A (c : Dev nD) (t : Fin cfg1.N) (h0 : t.val % 4 = 0) (h1 : t.val % 32 = 0) :
    bodyPre1 V c t ⊢ wp frame (wpE (defs₀ (F := F)) Variants.none c none) Set.univ (bodyAt1 t) (fun _ => bodyPost1 V c t) := by
  have hN : t.val < 32 := lt_of_lt_of_eq t.isLt (show cfg1.N = 32 from N_1)
  have ht : t = t1 := Fin.ext (by show t.val = 0; omega)
  subst ht
  have hout : outAt1 V c t1 = out1_A c t1 h0 h1 (iblk1 V c 0 t1) (iblk1 V c 1 t1) (iblk1 V c 2 t1) := (dif_pos h0).trans (dif_pos h1)
  have hvx : sc1_0 V c t1.val = sout1_A_0 c t1 h0 h1 (iblk1 V c 0 t1) (iblk1 V c 1 t1) (iblk1 V c 2 t1) := (vx1_congr V c _ _ (gs1_self t1 h0) _ h0).trans (dif_pos h1)
  unfold bodyPre1 bodyPost1 bodyAt1
  simp only [before1_0, before1_1, before1_2]
  rw [show (dat1 V c).owesAt () t1.succ = (dat1 V c).owesAt () t1.castSucc from rfl,
    after1_0, after1_1, after1_2, after1_3, hout]
  rw [show (dat1 V c).Φ t1.succ = iprop(iprop(iprop(owns (c : Thread nD τ) scM1_0 fullShare (sc1_0 V c t1.val) ∗ owns (c : Thread nD τ) scM1_1 fullShare (sc1_1 V c)) ∗ rest1 c) ∗ (∃ r, prngReg c r)) from rfl]
  rw [show (dat1 V c).Φ t1.castSucc = Pipeline.ΦA spec1 c from rfl, PhiA1_eq]
  rw [hvx]
  unfold sc1_1 out1_A sout1_A_0 sout1_A_1
  iintro ⟨⟨⟨⟨HS0, HS1⟩, Hrest⟩, Hg⟩, Ho, ⟨%d0, H0⟩, ⟨%d1, H1⟩, ⟨%d2, H2⟩, ⟨%d3, H3⟩⟩
  iapply ((run1_A c t1 h0 h1 (iblk1 V c 0 t1) (iblk1 V c 1 t1) (iblk1 V c 2 t1) ).2.2.2 Set.univ _)
  isplitl [H0]; · iexact H0
  isplitl [H1]; · iexact H1
  isplitl [H2]; · iexact H2
  isplitl [H3]; · iexists _; iexact H3
  isplitl [HS0]; · iexact HS0
  isplitl [HS1]; · iexact HS1
  iintro ⟨H0, H1, H2, ⟨%e3, H3⟩, ⟨%es0, HS0⟩, ⟨%es1, HS1⟩⟩
  isplitl [HS0 HS1 Hrest Hg]
  · isplitl [HS0 HS1 Hrest]
    · isplitr [Hrest]
      · isplitl [HS0]
        · unfold owns; iexists _; isplitr
          swap; · iexact HS0
          ipureintro; exact View.read_writes_of_cover _ _ _ _ _ (scover1_A_0 c t1 h0 h1 (iblk1 V c 0 t1) (iblk1 V c 1 t1) (iblk1 V c 2 t1))
        unfold owns; iexists _; isplitr
        swap; · iexact HS1
        ipureintro; exact View.read_writes_of_cover _ _ _ _ _ (scover1_A_1 c t1 h0 h1 (iblk1 V c 0 t1) (iblk1 V c 1 t1) (iblk1 V c 2 t1))
      iexact Hrest
    iexact Hg
  isplitl [Ho]; · iexact Ho
  isplitl [H0]; · iexact H0
  isplitl [H1]; · iexact H1
  isplitl [H2]; · iexact H2
  unfold owns; iexists _; isplitr
  swap; · iexact H3
  ipureintro; exact View.read_writes_of_cover _ _ _ _ _ (cover1_A c t1 h0 h1 (iblk1 V c 0 t1) (iblk1 V c 1 t1) (iblk1 V c 2 t1) )

set_option maxHeartbeats 6400000 in
/-- The body in this case. -/
theorem sound1_B (c : Dev nD) (t : Fin cfg1.N) (h0 : ¬ t.val % 4 = 0) (h1 : ¬ t.val % 32 = 0) :
    bodyPre1 V c t ⊢ wp frame (wpE (defs₀ (F := F)) Variants.none c none) Set.univ (bodyAt1 t) (fun _ => bodyPost1 V c t) := by
  have hN : t.val < 32 := lt_of_lt_of_eq t.isLt (show cfg1.N = 32 from N_1)
  have hvp : sc1_0 V c (t.val - 1) = sc1_0 V c t.val := by
    have : gs1 (t.val - 1) = gs1 t.val := Fin.ext (by unfold gs1; dsimp only; omega)
    exact vx1_congr V c _ _ this _ _
  have hout : outAt1 V c t = out1_B c t h0 h1 (iblk1 V c 0 t) (iblk1 V c 1 t) (iblk1 V c 2 t) (sc1_0 V c t.val) (sc1_1 V c) := dif_neg h0
  have hΦ : (dat1 V c).Φ t.castSucc = iprop(iprop(iprop(owns (c : Thread nD τ) scM1_0 fullShare (sc1_0 V c (t.val - 1)) ∗ owns (c : Thread nD τ) scM1_1 fullShare (sc1_1 V c)) ∗ rest1 c) ∗ (∃ r, prngReg c r)) := by
    show Phi1 V c t.val = _
    obtain ⟨n, hn⟩ : ∃ n, t.val = n + 1 := ⟨t.val - 1, by omega⟩
    rw [hn]; rfl
  unfold bodyPre1 bodyPost1 bodyAt1
  simp only [before1_0, before1_1, before1_2]
  rw [show (dat1 V c).owesAt () t.succ = (dat1 V c).owesAt () t.castSucc from rfl,
    after1_0, after1_1, after1_2, after1_3, hout]
  rw [show (dat1 V c).Φ t.succ = iprop(iprop(iprop(owns (c : Thread nD τ) scM1_0 fullShare (sc1_0 V c t.val) ∗ owns (c : Thread nD τ) scM1_1 fullShare (sc1_1 V c)) ∗ rest1 c) ∗ (∃ r, prngReg c r)) from rfl]
  rw [hΦ, hvp]
  unfold out1_B
  iintro ⟨⟨⟨⟨HS0, HS1⟩, Hrest⟩, Hg⟩, Ho, ⟨%d0, H0⟩, ⟨%d1, H1⟩, ⟨%d2, H2⟩, ⟨%d3, H3⟩⟩
  iapply ((run1_B c t h0 h1 (iblk1 V c 0 t) (iblk1 V c 1 t) (iblk1 V c 2 t) _ _).2.2.2 Set.univ _)
  isplitl [H0]; · iexact H0
  isplitl [H1]; · iexact H1
  isplitl [H2]; · iexact H2
  isplitl [H3]; · iexists _; iexact H3
  isplitl [HS0]; · iexact HS0
  isplitl [HS1]; · iexact HS1
  iintro ⟨H0, H1, H2, ⟨%e3, H3⟩, HS0, HS1⟩
  isplitl [HS0 HS1 Hrest Hg]
  · isplitl [HS0 HS1 Hrest]
    · isplitr [Hrest]
      · isplitl [HS0]
        · iexact HS0
        iexact HS1
      iexact Hrest
    iexact Hg
  isplitl [Ho]; · iexact Ho
  isplitl [H0]; · iexact H0
  isplitl [H1]; · iexact H1
  isplitl [H2]; · iexact H2
  unfold owns; iexists _; isplitr
  swap; · iexact H3
  ipureintro; exact View.read_writes_of_cover _ _ _ _ _ (cover1_B c t h0 h1 (iblk1 V c 0 t) (iblk1 V c 1 t) (iblk1 V c 2 t) _ _)

set_option maxHeartbeats 6400000 in
/-- The body in this case. -/
theorem sound1_C (c : Dev nD) (t : Fin cfg1.N) (h0 : t.val % 4 = 0) (h1 : ¬ t.val % 32 = 0) :
    bodyPre1 V c t ⊢ wp frame (wpE (defs₀ (F := F)) Variants.none c none) Set.univ (bodyAt1 t) (fun _ => bodyPost1 V c t) := by
  have hN : t.val < 32 := lt_of_lt_of_eq t.isLt (show cfg1.N = 32 from N_1)
  have hout : outAt1 V c t = out1_C c t h0 h1 (iblk1 V c 0 t) (iblk1 V c 1 t) (iblk1 V c 2 t) (sc1_1 V c) := (dif_pos h0).trans (dif_neg h1)
  have hvx : sc1_0 V c t.val = sout1_C_0 c t h0 h1 (iblk1 V c 0 t) (iblk1 V c 1 t) (iblk1 V c 2 t) (sc1_1 V c) := by
    exact (vx1_congr V c _ _ (gs1_self t h0) _ h0).trans (dif_neg h1)
  have hΦ : (dat1 V c).Φ t.castSucc = iprop(iprop(iprop(owns (c : Thread nD τ) scM1_0 fullShare (sc1_0 V c (t.val - 1)) ∗ owns (c : Thread nD τ) scM1_1 fullShare (sc1_1 V c)) ∗ rest1 c) ∗ (∃ r, prngReg c r)) := by
    show Phi1 V c t.val = _
    obtain ⟨n, hn⟩ : ∃ n, t.val = n + 1 := ⟨t.val - 1, by omega⟩
    rw [hn]; rfl
  unfold bodyPre1 bodyPost1 bodyAt1
  simp only [before1_0, before1_1, before1_2]
  rw [show (dat1 V c).owesAt () t.succ = (dat1 V c).owesAt () t.castSucc from rfl,
    after1_0, after1_1, after1_2, after1_3, hout]
  rw [show (dat1 V c).Φ t.succ = iprop(iprop(iprop(owns (c : Thread nD τ) scM1_0 fullShare (sc1_0 V c t.val) ∗ owns (c : Thread nD τ) scM1_1 fullShare (sc1_1 V c)) ∗ rest1 c) ∗ (∃ r, prngReg c r)) from rfl]
  rw [hΦ]
  rw [hvx]
  unfold out1_C sout1_C_0
  iintro ⟨⟨⟨⟨HS0, HS1⟩, Hrest⟩, Hg⟩, Ho, ⟨%d0, H0⟩, ⟨%d1, H1⟩, ⟨%d2, H2⟩, ⟨%d3, H3⟩⟩
  iapply ((run1_C c t h0 h1 (iblk1 V c 0 t) (iblk1 V c 1 t) (iblk1 V c 2 t) _).2.2.2 Set.univ _)
  isplitl [H0]; · iexact H0
  isplitl [H1]; · iexact H1
  isplitl [H2]; · iexact H2
  isplitl [H3]; · iexists _; iexact H3
  isplitl [HS0]; · iexists _; iexact HS0
  isplitl [HS1]; · iexact HS1
  iintro ⟨H0, H1, H2, ⟨%e3, H3⟩, ⟨%es0, HS0⟩, HS1⟩
  isplitl [HS0 HS1 Hrest Hg]
  · isplitl [HS0 HS1 Hrest]
    · isplitr [Hrest]
      · isplitl [HS0]
        · unfold owns; iexists _; isplitr
          swap; · iexact HS0
          ipureintro; exact View.read_writes_of_cover _ _ _ _ _ (scover1_C_0 c t h0 h1 (iblk1 V c 0 t) (iblk1 V c 1 t) (iblk1 V c 2 t) _)
        iexact HS1
      iexact Hrest
    iexact Hg
  isplitl [Ho]; · iexact Ho
  isplitl [H0]; · iexact H0
  isplitl [H1]; · iexact H1
  isplitl [H2]; · iexact H2
  unfold owns; iexists _; isplitr
  swap; · iexact H3
  ipureintro; exact View.read_writes_of_cover _ _ _ _ _ (cover1_C c t h0 h1 (iblk1 V c 0 t) (iblk1 V c 1 t) (iblk1 V c 2 t) _)

theorem sound1 (c : Dev nD) (t : Fin cfg1.N) :
    bodyPre1 V c t ⊢ wp frame (wpE (defs₀ (F := F)) Variants.none c none) Set.univ (bodyAt1 t) (fun _ => bodyPost1 V c t) := by
  by_cases h0 : t.val % 4 = 0
  · by_cases h1 : t.val % 32 = 0
    · exact sound1_A V c t h0 h1
    · exact sound1_C V c t h0 h1
  · exact sound1_B V c t h0 (fun h1 => h0 (by omega))

theorem defs₀_row1 (t : Fin cfg1.N) :
    defs₀ (F := F) .tc cfg1.body (cfg1.bodyArgs t (cfg1.slots t)) = bodyAt1 t := by
  unfold defs₀; rw [Defs.onTc_tc]

/-- The body meets its obligation at every point. -/
theorem body_obligation1 (c : Dev nD) : BodyObligation (dat1 (F := F) V c) (defs₀ (F := F)) Variants.none () Set.univ := fun t => by
  rw [bigSep_W1, bigSep_W1, defs₀_row1]
  exact triple_restated (sound1 V c t) rfl .rfl fun _ => .rfl

/-- The invariant before the first point is what the launch hands over. -/
theorem hin1 (c : Dev nD) : Pipeline.ΦA spec1 c ⊢ (dat1 V c).Φ 0 := .rfl

/-- After the last point the scratch's contents are forgotten. -/
theorem hout1 (c : Dev nD) : (dat1 V c).Φ (Fin.last cfg1.N) ⊢ Pipeline.ΦA spec1 c := by
  rw [PhiA1_eq]
  have hn : (Fin.last cfg1.N).val = 31 + 1 := by rw [Fin.val_last]; exact N_1
  show Phi1 V c (Fin.last cfg1.N).val ⊢ _
  rw [hn]
  show iprop(iprop(iprop(owns (c : Thread nD τ) scM1_0 fullShare (sc1_0 V c 31) ∗ owns (c : Thread nD τ) scM1_1 fullShare (sc1_1 V c)) ∗ rest1 c) ∗ (∃ r, prngReg c r)) ⊢ _
  iintro ⟨⟨⟨HS0, HS1⟩, Hrest⟩, Hg⟩
  isplitr [Hg]
  · isplitr [Hrest]
    · isplitl [HS0]; · iexists _; iexact HS0
      iexists _; iexact HS1
    iexact Hrest
  iexact Hg

end Cert.KernelIdeal.Gen

end
-- ==== Proof.Ideal.Mlp.lean ====
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Ring
public import Idealize.ShloMosaic.Lib.Tactic
public import Idealize.ShloMosaic.Lib.WordCmp

/-! Region 2 of @main, the output projection and gated layer call: what its body leaves, over any contents at its entry. -/

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

/-! ## The conditions of the body, over the points -/

abbrev cond2_0 (i : grid2.Coords) : Prop := (Scalar.cmpi .ne (Scalar.extui (Scalar.cmpi .eq (BitVec.ofNat 32 (i 0).val) 0#32)) 0#32) = 1#1
theorem hcond2_0 : ∀ t : Fin cfg2.N, cond2_0 (grid2.coords t) ↔ t.val % 8 = 0 :=
  (fun t => by
    have ht : t.val < 8 := Nat.lt_of_lt_of_eq t.isLt N_2
    have e0 : (grid2.coords t 0).val = t.val / 1 % 8 := Pipeline.Grid.coords_val t 0 (by decide) rfl
    simp only [cond2_0, e0]
    word_cmp
   : ∀ t : Fin grid2.N, cond2_0 (grid2.coords t) ↔ t.val % 8 = 0)

/-! ## The memrefs the body is called with -/

abbrev ms2_0 (t : Fin cfg2.N) : Memref sig .tc .vmem S256x1024 .bf16 := win2_0.stage (cfg2.slots t 0)
abbrev hs2_0 (t : Fin cfg2.N) : (ms2_0 t).IsWhole := hstage2_0 ((cfg2.slots t 0).cast nbuf2_0)
abbrev ms2_1 (t : Fin cfg2.N) : Memref sig .tc .vmem S256x1024 .f32 := win2_1.stage (cfg2.slots t 1)
abbrev hs2_1 (t : Fin cfg2.N) : (ms2_1 t).IsWhole := hstage2_1 ((cfg2.slots t 1).cast nbuf2_1)
abbrev ms2_2 (t : Fin cfg2.N) : Memref sig .tc .vmem S1024x1024 .f32 := win2_2.stage (cfg2.slots t 2)
abbrev hs2_2 (t : Fin cfg2.N) : (ms2_2 t).IsWhole := hstage2_2 ((cfg2.slots t 2).cast nbuf2_2)
abbrev ms2_3 (t : Fin cfg2.N) : Memref sig .tc .vmem S1x1024 .f32 := win2_3.stage (cfg2.slots t 3)
abbrev hs2_3 (t : Fin cfg2.N) : (ms2_3 t).IsWhole := hstage2_3 ((cfg2.slots t 3).cast nbuf2_3)
abbrev ms2_4 (t : Fin cfg2.N) : Memref sig .tc .vmem S1024x2048 .f32 := win2_4.stage (cfg2.slots t 4)
abbrev hs2_4 (t : Fin cfg2.N) : (ms2_4 t).IsWhole := hstage2_4 ((cfg2.slots t 4).cast nbuf2_4)
abbrev ms2_5 (t : Fin cfg2.N) : Memref sig .tc .vmem S1024x2048 .f32 := win2_5.stage (cfg2.slots t 5)
abbrev hs2_5 (t : Fin cfg2.N) : (ms2_5 t).IsWhole := hstage2_5 ((cfg2.slots t 5).cast nbuf2_5)
abbrev ms2_6 (t : Fin cfg2.N) : Memref sig .tc .vmem S2048x1024 .f32 := win2_6.stage (cfg2.slots t 6)
abbrev hs2_6 (t : Fin cfg2.N) : (ms2_6 t).IsWhole := hstage2_6 ((cfg2.slots t 6).cast nbuf2_6)
abbrev ms2_7 (t : Fin cfg2.N) : Memref sig .tc .vmem S256x128 .f32 := win2_7.stage (cfg2.slots t 7)
abbrev hs2_7 (t : Fin cfg2.N) : (ms2_7 t).IsWhole := hstage2_7 ((cfg2.slots t 7).cast nbuf2_7)
abbrev ms2_8 (t : Fin cfg2.N) : Memref sig .tc .vmem S256x128 .f32 := win2_8.stage (cfg2.slots t 8)
abbrev hs2_8 (t : Fin cfg2.N) : (ms2_8 t).IsWhole := hstage2_8 ((cfg2.slots t 8).cast nbuf2_8)
abbrev ms2_9 (t : Fin cfg2.N) : Memref sig .tc .vmem S256x1024 .f32 := win2_9.stage (cfg2.slots t 9)
abbrev hs2_9 (t : Fin cfg2.N) : (ms2_9 t).IsWhole := hstage2_9 ((cfg2.slots t 9).cast nbuf2_9)
abbrev VO2 : View sig .tc .vmem S256x1024 .f32 := (Memref.whole cc2_stg9_0 : Memref sig .tc .vmem S256x1024 .f32).view
abbrev scM2_0 : Memref sig .tc .vmem S1024x1024 .bf16 := Memref.whole cc2_scratch0
abbrev scM2_1 : Memref sig .tc .vmem S1024x4096 .bf16 := Memref.whole cc2_scratch1
abbrev scM2_2 : Memref sig .tc .vmem S2048x1024 .bf16 := Memref.whole cc2_scratch2

/-- The scoped buffers this call does not stage, its own scratch set apart. -/
abbrev rest2 (c : Dev nD) : sProp 𝕄 := Pipeline.scopedRestBut (Ix := Unit) (Name := ℕ) (U := UR sig nD τ) (Lvl := ℕ) (Val := Elt F) spec2 c [cc2_scratch0, cc2_scratch1, cc2_scratch2]

/-- What the launch hands the region, the scratch buffers owned at some contents. -/
theorem PhiA2_eq (c : Dev nD) :
    (Pipeline.ΦA spec2 c : sProp 𝕄) = iprop(iprop(iprop((∃ d, owns (c : Thread nD τ) scM2_0 fullShare d) ∗ (∃ d, owns (c : Thread nD τ) scM2_1 fullShare d) ∗ (∃ d, owns (c : Thread nD τ) scM2_2 fullShare d)) ∗ rest2 c) ∗ (∃ r, prngReg c r)) := by
  unfold Pipeline.ΦA; rw [show (Pipeline.scopedRest (Ix := Unit) (Name := ℕ) (U := UR sig nD τ) (Lvl := ℕ) (Val := Elt F) spec2 c : sProp 𝕄) = _ from Pipeline.scopedRest_split_of_list spec2 c [cc2_scratch0, cc2_scratch1, cc2_scratch2] (by decide) (by decide)]
  simp only [scM2_0, scM2_1, scM2_2, owns_whole]; try rfl

set_option maxHeartbeats 1000000 in
/-- What the body's stores leave in this case, found by running it. -/
def kernelRun2_A (c : Dev nD) (i : grid2.Coords) (arg1 : Memref sig .tc .vmem S256x1024 .bf16) (harg1 : arg1.IsWhole) (arg2 : Memref sig .tc .vmem S256x1024 .f32) (harg2 : arg2.IsWhole) (arg3 : Memref sig .tc .vmem S1024x1024 .f32) (harg3 : arg3.IsWhole) (arg4 : Memref sig .tc .vmem S1x1024 .f32) (harg4 : arg4.IsWhole) (arg5 : Memref sig .tc .vmem S1024x2048 .f32) (harg5 : arg5.IsWhole) (arg6 : Memref sig .tc .vmem S1024x2048 .f32) (harg6 : arg6.IsWhole) (arg7 : Memref sig .tc .vmem S2048x1024 .f32) (harg7 : arg7.IsWhole) (arg8 : Memref sig .tc .vmem S256x128 .f32) (harg8 : arg8.IsWhole) (arg9 : Memref sig .tc .vmem S256x128 .f32) (harg9 : arg9.IsWhole) (arg10 : Memref sig .tc .vmem S256x1024 .f32) (harg10 : arg10.IsWhole) (arg11 : Memref sig .tc .vmem S1024x1024 .bf16) (harg11 : arg11.IsWhole) (arg12 : Memref sig .tc .vmem S1024x4096 .bf16) (harg12 : arg12.IsWhole) (arg13 : Memref sig .tc .vmem S2048x1024 .bf16) (harg13 : arg13.IsWhole) (hc0 : cond2_0 i)
    (x0 : Vec F S256x1024 .bf16) (x1 : Vec F S256x1024 .f32) (x2 : Vec F S1024x1024 .f32) (x3 : Vec F S1x1024 .f32) (x4 : Vec F S1024x2048 .f32) (x5 : Vec F S1024x2048 .f32) (x6 : Vec F S2048x1024 .f32) (x7 : Vec F S256x128 .f32) (x8 : Vec F S256x128 .f32) :
    Σ' (L9 : List (View.Piece (Elt F) S256x1024 .f32)), Σ' (LS0 : List (View.Piece (Elt F) S1024x1024 .bf16)), Σ' (LS1 : List (View.Piece (Elt F) S1024x4096 .bf16)), { LS2 : List (View.Piece (Elt F) S2048x1024 .bf16) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ (∃ f, arg10.view.loc (c : Thread nD τ) ↦[arg10.view.set]{fullShare} arg10.view.writes (Elt F) f L9) ∗ (∃ f, arg11.view.loc (c : Thread nD τ) ↦[arg11.view.set]{fullShare} arg11.view.writes (Elt F) f LS0) ∗ (∃ f, arg12.view.loc (c : Thread nD τ) ↦[arg12.view.set]{fullShare} arg12.view.writes (Elt F) f LS1) ∗ (∃ f, arg13.view.loc (c : Thread nD τ) ↦[arg13.view.set]{fullShare} arg13.view.writes (Elt F) f LS2)) -∗ K ⟨⟩))
          ⊢ wp frame (wpE (defs₀ (F := F)) Variants.none c none) E (cc2__mlp_body i arg1 harg1 arg2 harg2 arg3 harg3 arg4 harg4 arg5 harg5 arg6 harg6 arg7 harg7 arg8 harg8 arg9 harg9 arg10 harg10 arg11 harg11 arg12 harg12 arg13 harg13) K } := by
  refine ⟨?_, ?_, ?_, ?_, fun E K => ?run⟩
  case run =>
    simp only [cc2__mlp_body_eq_skeleton]; unfold cc2__mlp_body_skel
    simp only [k2_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, ⟨%ds0, %fs0, -, HS0⟩, ⟨%ds1, %fs1, -, HS1⟩, ⟨%ds2, %fs2, -, HS2⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hf8
    sl_exec (disch := first | sl_exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]
    · iexists _; isplitr; · ipureintro; exact harg9.read_unread _
      iexact H8
    isplitl [H9]; · iexists _; iexact H9
    isplitl [HS0]; · iexists _; iexact HS0
    isplitl [HS1]; · iexists _; iexact HS1
    iexists _; iexact HS2

set_option maxHeartbeats 1200000 in
/-- What the body's stores leave in this case, found by running it. -/
def kernelRun2_B (c : Dev nD) (i : grid2.Coords) (arg1 : Memref sig .tc .vmem S256x1024 .bf16) (harg1 : arg1.IsWhole) (arg2 : Memref sig .tc .vmem S256x1024 .f32) (harg2 : arg2.IsWhole) (arg3 : Memref sig .tc .vmem S1024x1024 .f32) (harg3 : arg3.IsWhole) (arg4 : Memref sig .tc .vmem S1x1024 .f32) (harg4 : arg4.IsWhole) (arg5 : Memref sig .tc .vmem S1024x2048 .f32) (harg5 : arg5.IsWhole) (arg6 : Memref sig .tc .vmem S1024x2048 .f32) (harg6 : arg6.IsWhole) (arg7 : Memref sig .tc .vmem S2048x1024 .f32) (harg7 : arg7.IsWhole) (arg8 : Memref sig .tc .vmem S256x128 .f32) (harg8 : arg8.IsWhole) (arg9 : Memref sig .tc .vmem S256x128 .f32) (harg9 : arg9.IsWhole) (arg10 : Memref sig .tc .vmem S256x1024 .f32) (harg10 : arg10.IsWhole) (arg11 : Memref sig .tc .vmem S1024x1024 .bf16) (harg11 : arg11.IsWhole) (arg12 : Memref sig .tc .vmem S1024x4096 .bf16) (harg12 : arg12.IsWhole) (arg13 : Memref sig .tc .vmem S2048x1024 .bf16) (harg13 : arg13.IsWhole) (hc0 : ¬cond2_0 i)
    (x0 : Vec F S256x1024 .bf16) (x1 : Vec F S256x1024 .f32) (x2 : Vec F S1024x1024 .f32) (x3 : Vec F S1x1024 .f32) (x4 : Vec F S1024x2048 .f32) (x5 : Vec F S1024x2048 .f32) (x6 : Vec F S2048x1024 .f32) (x7 : Vec F S256x128 .f32) (x8 : Vec F S256x128 .f32) (xs0 : Vec F S1024x1024 .bf16) (xs1 : Vec F S1024x4096 .bf16) (xs2 : Vec F S2048x1024 .bf16) :
    Σ' (L9 : List (View.Piece (Elt F) S256x1024 .f32)), Σ' (LS0 : List (View.Piece (Elt F) S1024x1024 .bf16)), Σ' (LS1 : List (View.Piece (Elt F) S1024x4096 .bf16)), { LS2 : List (View.Piece (Elt F) S2048x1024 .bf16) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ (∃ d, owns (c : Thread nD τ) arg10 fullShare d) ∗ owns (c : Thread nD τ) arg11 fullShare xs0 ∗ owns (c : Thread nD τ) arg12 fullShare xs1 ∗ owns (c : Thread nD τ) arg13 fullShare xs2
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ (∃ f, arg10.view.loc (c : Thread nD τ) ↦[arg10.view.set]{fullShare} arg10.view.writes (Elt F) f L9) ∗ owns (c : Thread nD τ) arg11 fullShare xs0 ∗ owns (c : Thread nD τ) arg12 fullShare xs1 ∗ owns (c : Thread nD τ) arg13 fullShare xs2) -∗ K ⟨⟩))
          ⊢ wp frame (wpE (defs₀ (F := F)) Variants.none c none) E (cc2__mlp_body i arg1 harg1 arg2 harg2 arg3 harg3 arg4 harg4 arg5 harg5 arg6 harg6 arg7 harg7 arg8 harg8 arg9 harg9 arg10 harg10 arg11 harg11 arg12 harg12 arg13 harg13) K } := by
  refine ⟨?_, [], [], [], fun E K => ?run⟩
  case run =>
    simp only [cc2__mlp_body_eq_skeleton]; unfold cc2__mlp_body_skel
    simp only [k2_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, ⟨%fs0, %hfs0, HS0⟩, ⟨%fs1, %hfs1, HS1⟩, ⟨%fs2, %hfs2, HS2⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hf8; obtain rfl := harg11.eq_unread hfs0; obtain rfl := harg12.eq_unread hfs1; obtain rfl := harg13.eq_unread hfs2
    sl_exec (disch := first | sl_exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]
    · iexists _; isplitr; · ipureintro; exact harg9.read_unread _
      iexact H8
    isplitl [H9]; · iexists _; iexact H9
    isplitl [HS0]
    · iexists _; isplitr; · ipureintro; exact harg11.read_unread _
      iexact HS0
    isplitl [HS1]
    · iexists _; isplitr; · ipureintro; exact harg12.read_unread _
      iexact HS1
    iexists _; isplitr; · ipureintro; exact harg13.read_unread _
    iexact HS2

/-- The run of this case at point `t`'s memrefs. -/
abbrev run2_A (c : Dev nD) (t : Fin cfg2.N) (h0 : t.val % 8 = 0) (x0 : Vec F S256x1024 .bf16) (x1 : Vec F S256x1024 .f32) (x2 : Vec F S1024x1024 .f32) (x3 : Vec F S1x1024 .f32) (x4 : Vec F S1024x2048 .f32) (x5 : Vec F S1024x2048 .f32) (x6 : Vec F S2048x1024 .f32) (x7 : Vec F S256x128 .f32) (x8 : Vec F S256x128 .f32) :=
  kernelRun2_A c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (ms2_7 t) (hs2_7 t) (ms2_8 t) (hs2_8 t) (ms2_9 t) (hs2_9 t) scM2_0 (Memref.isWhole_whole _) scM2_1 (Memref.isWhole_whole _) scM2_2 (Memref.isWhole_whole _) ((hcond2_0 t).mpr h0) x0 x1 x2 x3 x4 x5 x6 x7 x8
theorem cover2_A (c : Dev nD) (t : Fin cfg2.N) (h0 : t.val % 8 = 0) (x0 : Vec F S256x1024 .bf16) (x1 : Vec F S256x1024 .f32) (x2 : Vec F S1024x1024 .f32) (x3 : Vec F S1x1024 .f32) (x4 : Vec F S1024x2048 .f32) (x5 : Vec F S1024x2048 .f32) (x6 : Vec F S2048x1024 .f32) (x7 : Vec F S256x128 .f32) (x8 : Vec F S256x128 .f32) (y : S256x1024.Idx) : ∃ pc ∈ (run2_A c t h0 x0 x1 x2 x3 x4 x5 x6 x7 x8).1, y ∈ pc.1.set :=
  View.cover_of_tiledL (run2_A c t h0 x0 x1 x2 x3 x4 x5 x6 x7 x8).1 S256x1024.size (by sl_kernel_rfl) y
/-- What this case leaves in the output's buffer. -/
def out2_A (c : Dev nD) (t : Fin cfg2.N) (h0 : t.val % 8 = 0) (x0 : Vec F S256x1024 .bf16) (x1 : Vec F S256x1024 .f32) (x2 : Vec F S1024x1024 .f32) (x3 : Vec F S1x1024 .f32) (x4 : Vec F S1024x2048 .f32) (x5 : Vec F S1024x2048 .f32) (x6 : Vec F S2048x1024 .f32) (x7 : Vec F S256x128 .f32) (x8 : Vec F S256x128 .f32) : Vec F S256x1024 .f32 :=
  VO2.read (Elt F) (VO2.writes (Elt F) VO2.junk (run2_A c t h0 x0 x1 x2 x3 x4 x5 x6 x7 x8).1)
theorem scover2_A_0 (c : Dev nD) (t : Fin cfg2.N) (h0 : t.val % 8 = 0) (x0 : Vec F S256x1024 .bf16) (x1 : Vec F S256x1024 .f32) (x2 : Vec F S1024x1024 .f32) (x3 : Vec F S1x1024 .f32) (x4 : Vec F S1024x2048 .f32) (x5 : Vec F S1024x2048 .f32) (x6 : Vec F S2048x1024 .f32) (x7 : Vec F S256x128 .f32) (x8 : Vec F S256x128 .f32) (y : S1024x1024.Idx) : ∃ pc ∈ (run2_A c t h0 x0 x1 x2 x3 x4 x5 x6 x7 x8).2.1, y ∈ pc.1.set :=
  View.cover_of_tiledL (run2_A c t h0 x0 x1 x2 x3 x4 x5 x6 x7 x8).2.1 S1024x1024.size (by sl_kernel_rfl) y
/-- What this case leaves in scratch 0. -/
def sout2_A_0 (c : Dev nD) (t : Fin cfg2.N) (h0 : t.val % 8 = 0) (x0 : Vec F S256x1024 .bf16) (x1 : Vec F S256x1024 .f32) (x2 : Vec F S1024x1024 .f32) (x3 : Vec F S1x1024 .f32) (x4 : Vec F S1024x2048 .f32) (x5 : Vec F S1024x2048 .f32) (x6 : Vec F S2048x1024 .f32) (x7 : Vec F S256x128 .f32) (x8 : Vec F S256x128 .f32) : Vec F S1024x1024 .bf16 :=
  scM2_0.view.read (Elt F) (scM2_0.view.writes (Elt F) scM2_0.view.junk (run2_A c t h0 x0 x1 x2 x3 x4 x5 x6 x7 x8).2.1)
theorem scover2_A_1 (c : Dev nD) (t : Fin cfg2.N) (h0 : t.val % 8 = 0) (x0 : Vec F S256x1024 .bf16) (x1 : Vec F S256x1024 .f32) (x2 : Vec F S1024x1024 .f32) (x3 : Vec F S1x1024 .f32) (x4 : Vec F S1024x2048 .f32) (x5 : Vec F S1024x2048 .f32) (x6 : Vec F S2048x1024 .f32) (x7 : Vec F S256x128 .f32) (x8 : Vec F S256x128 .f32) (y : S1024x4096.Idx) : ∃ pc ∈ (run2_A c t h0 x0 x1 x2 x3 x4 x5 x6 x7 x8).2.2.1, y ∈ pc.1.set :=
  View.cover_of_tiledL (run2_A c t h0 x0 x1 x2 x3 x4 x5 x6 x7 x8).2.2.1 S1024x2048.size (by sl_kernel_rfl) y
/-- What this case leaves in scratch 1. -/
def sout2_A_1 (c : Dev nD) (t : Fin cfg2.N) (h0 : t.val % 8 = 0) (x0 : Vec F S256x1024 .bf16) (x1 : Vec F S256x1024 .f32) (x2 : Vec F S1024x1024 .f32) (x3 : Vec F S1x1024 .f32) (x4 : Vec F S1024x2048 .f32) (x5 : Vec F S1024x2048 .f32) (x6 : Vec F S2048x1024 .f32) (x7 : Vec F S256x128 .f32) (x8 : Vec F S256x128 .f32) : Vec F S1024x4096 .bf16 :=
  scM2_1.view.read (Elt F) (scM2_1.view.writes (Elt F) scM2_1.view.junk (run2_A c t h0 x0 x1 x2 x3 x4 x5 x6 x7 x8).2.2.1)
theorem scover2_A_2 (c : Dev nD) (t : Fin cfg2.N) (h0 : t.val % 8 = 0) (x0 : Vec F S256x1024 .bf16) (x1 : Vec F S256x1024 .f32) (x2 : Vec F S1024x1024 .f32) (x3 : Vec F S1x1024 .f32) (x4 : Vec F S1024x2048 .f32) (x5 : Vec F S1024x2048 .f32) (x6 : Vec F S2048x1024 .f32) (x7 : Vec F S256x128 .f32) (x8 : Vec F S256x128 .f32) (y : S2048x1024.Idx) : ∃ pc ∈ (run2_A c t h0 x0 x1 x2 x3 x4 x5 x6 x7 x8).2.2.2.1, y ∈ pc.1.set :=
  View.cover_of_tiledL (run2_A c t h0 x0 x1 x2 x3 x4 x5 x6 x7 x8).2.2.2.1 S2048x1024.size (by sl_kernel_rfl) y
/-- What this case leaves in scratch 2. -/
def sout2_A_2 (c : Dev nD) (t : Fin cfg2.N) (h0 : t.val % 8 = 0) (x0 : Vec F S256x1024 .bf16) (x1 : Vec F S256x1024 .f32) (x2 : Vec F S1024x1024 .f32) (x3 : Vec F S1x1024 .f32) (x4 : Vec F S1024x2048 .f32) (x5 : Vec F S1024x2048 .f32) (x6 : Vec F S2048x1024 .f32) (x7 : Vec F S256x128 .f32) (x8 : Vec F S256x128 .f32) : Vec F S2048x1024 .bf16 :=
  scM2_2.view.read (Elt F) (scM2_2.view.writes (Elt F) scM2_2.view.junk (run2_A c t h0 x0 x1 x2 x3 x4 x5 x6 x7 x8).2.2.2.1)

/-- The run of this case at point `t`'s memrefs. -/
abbrev run2_B (c : Dev nD) (t : Fin cfg2.N) (h0 : ¬ t.val % 8 = 0) (x0 : Vec F S256x1024 .bf16) (x1 : Vec F S256x1024 .f32) (x2 : Vec F S1024x1024 .f32) (x3 : Vec F S1x1024 .f32) (x4 : Vec F S1024x2048 .f32) (x5 : Vec F S1024x2048 .f32) (x6 : Vec F S2048x1024 .f32) (x7 : Vec F S256x128 .f32) (x8 : Vec F S256x128 .f32) (xs0 : Vec F S1024x1024 .bf16) (xs1 : Vec F S1024x4096 .bf16) (xs2 : Vec F S2048x1024 .bf16) :=
  kernelRun2_B c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (ms2_7 t) (hs2_7 t) (ms2_8 t) (hs2_8 t) (ms2_9 t) (hs2_9 t) scM2_0 (Memref.isWhole_whole _) scM2_1 (Memref.isWhole_whole _) scM2_2 (Memref.isWhole_whole _) (fun h => h0 ((hcond2_0 t).mp h)) x0 x1 x2 x3 x4 x5 x6 x7 x8 xs0 xs1 xs2
theorem cover2_B (c : Dev nD) (t : Fin cfg2.N) (h0 : ¬ t.val % 8 = 0) (x0 : Vec F S256x1024 .bf16) (x1 : Vec F S256x1024 .f32) (x2 : Vec F S1024x1024 .f32) (x3 : Vec F S1x1024 .f32) (x4 : Vec F S1024x2048 .f32) (x5 : Vec F S1024x2048 .f32) (x6 : Vec F S2048x1024 .f32) (x7 : Vec F S256x128 .f32) (x8 : Vec F S256x128 .f32) (xs0 : Vec F S1024x1024 .bf16) (xs1 : Vec F S1024x4096 .bf16) (xs2 : Vec F S2048x1024 .bf16) (y : S256x1024.Idx) : ∃ pc ∈ (run2_B c t h0 x0 x1 x2 x3 x4 x5 x6 x7 x8 xs0 xs1 xs2).1, y ∈ pc.1.set :=
  View.cover_of_tiledL (run2_B c t h0 x0 x1 x2 x3 x4 x5 x6 x7 x8 xs0 xs1 xs2).1 S256x1024.size (by sl_kernel_rfl) y
/-- What this case leaves in the output's buffer. -/
def out2_B (c : Dev nD) (t : Fin cfg2.N) (h0 : ¬ t.val % 8 = 0) (x0 : Vec F S256x1024 .bf16) (x1 : Vec F S256x1024 .f32) (x2 : Vec F S1024x1024 .f32) (x3 : Vec F S1x1024 .f32) (x4 : Vec F S1024x2048 .f32) (x5 : Vec F S1024x2048 .f32) (x6 : Vec F S2048x1024 .f32) (x7 : Vec F S256x128 .f32) (x8 : Vec F S256x128 .f32) (xs0 : Vec F S1024x1024 .bf16) (xs1 : Vec F S1024x4096 .bf16) (xs2 : Vec F S2048x1024 .bf16) : Vec F S256x1024 .f32 :=
  VO2.read (Elt F) (VO2.writes (Elt F) VO2.junk (run2_B c t h0 x0 x1 x2 x3 x4 x5 x6 x7 x8 xs0 xs1 xs2).1)

/-! ## The contents over the points, from any entry contents -/

variable (V : (c : Dev nD) → (b : Ref sig .tc) → Buf (Elt F) ((c : Thread nD τ).loc b))

/-- Window `w`'s block at point `t`, read off its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- The first point. -/
def t2 : Fin cfg2.N := ⟨0, by rw [show cfg2.N = 8 from N_2]; decide⟩
/-- Scratch 0 from the first point on. -/
def sc2_0 (c : Dev nD) : Vec F S1024x1024 .bf16 := sout2_A_0 c t2 rfl (iblk2 V c 0 t2) (iblk2 V c 1 t2) (iblk2 V c 2 t2) (iblk2 V c 3 t2) (iblk2 V c 4 t2) (iblk2 V c 5 t2) (iblk2 V c 6 t2) (iblk2 V c 7 t2) (iblk2 V c 8 t2)
/-- Scratch 1 from the first point on. -/
def sc2_1 (c : Dev nD) : Vec F S1024x4096 .bf16 := sout2_A_1 c t2 rfl (iblk2 V c 0 t2) (iblk2 V c 1 t2) (iblk2 V c 2 t2) (iblk2 V c 3 t2) (iblk2 V c 4 t2) (iblk2 V c 5 t2) (iblk2 V c 6 t2) (iblk2 V c 7 t2) (iblk2 V c 8 t2)
/-- Scratch 2 from the first point on. -/
def sc2_2 (c : Dev nD) : Vec F S2048x1024 .bf16 := sout2_A_2 c t2 rfl (iblk2 V c 0 t2) (iblk2 V c 1 t2) (iblk2 V c 2 t2) (iblk2 V c 3 t2) (iblk2 V c 4 t2) (iblk2 V c 5 t2) (iblk2 V c 6 t2) (iblk2 V c 7 t2) (iblk2 V c 8 t2)
/-- What the output's buffer holds after point `t`. -/
def outAt2 (c : Dev nD) (t : Fin cfg2.N) : Vec F S256x1024 .f32 :=
  if h : t.val % 8 = 0 then out2_A c t h (iblk2 V c 0 t) (iblk2 V c 1 t) (iblk2 V c 2 t) (iblk2 V c 3 t) (iblk2 V c 4 t) (iblk2 V c 5 t) (iblk2 V c 6 t) (iblk2 V c 7 t) (iblk2 V c 8 t) else out2_B c t h (iblk2 V c 0 t) (iblk2 V c 1 t) (iblk2 V c 2 t) (iblk2 V c 3 t) (iblk2 V c 4 t) (iblk2 V c 5 t) (iblk2 V c 6 t) (iblk2 V c 7 t) (iblk2 V c 8 t) (sc2_0 V c) (sc2_1 V c) (sc2_2 V c)

/-- The invariant between points: the scratch at anything before the first, at its contents afterwards. -/
def Phi2 (c : Dev nD) : ℕ → sProp 𝕄
  | 0 => Pipeline.ΦA spec2 c
  | n + 1 => iprop(iprop(iprop(owns (c : Thread nD τ) scM2_0 fullShare (sc2_0 V c) ∗ owns (c : Thread nD τ) scM2_1 fullShare (sc2_1 V c) ∗ owns (c : Thread nD τ) scM2_2 fullShare (sc2_2 V c)) ∗ rest2 c) ∗ (∃ r, prngReg c r))

/-- The region's proof data. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => iblk2 V c 4 t
    | ⟨5, _⟩ => iblk2 V c 5 t
    | ⟨6, _⟩ => iblk2 V c 6 t
    | ⟨7, _⟩ => iblk2 V c 7 t
    | ⟨8, _⟩ => iblk2 V c 8 t
    | ⟨9, _⟩ => outAt2 V c t
  Φ t := Phi2 V c t.val
  q _ := fullShare
  owed _ := 0

theorem A_eq2 (c : Dev nD) (w : Fin cfg2.W) : (dat2 V c).A w = V c (Pipeline.arrRef spec2 w) := by dsimp only [dat2]
theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) : (dat2 V c).after 4 t = iblk2 V c 4 t := by dsimp only [dat2]
theorem after2_5 (c : Dev nD) (t : Fin cfg2.N) : (dat2 V c).after 5 t = iblk2 V c 5 t := by dsimp only [dat2]
theorem after2_6 (c : Dev nD) (t : Fin cfg2.N) : (dat2 V c).after 6 t = iblk2 V c 6 t := by dsimp only [dat2]
theorem after2_7 (c : Dev nD) (t : Fin cfg2.N) : (dat2 V c).after 7 t = iblk2 V c 7 t := by dsimp only [dat2]
theorem after2_8 (c : Dev nD) (t : Fin cfg2.N) : (dat2 V c).after 8 t = iblk2 V c 8 t := by dsimp only [dat2]
theorem after2_9 (c : Dev nD) (t : Fin cfg2.N) : (dat2 V c).after 9 t = outAt2 V c t := by dsimp only [dat2]
theorem before2_0 (c : Dev nD) (t : Fin cfg2.N) (d) : (dat2 V c).before 0 t d = iblk2 V c 0 t :=
  ((dat2 V c).before_in_eq_fetched 0 rfl (fun _ => rfl) (fun _ _ _ => rfl) (fun t => by rw [after2_0]; unfold Dat.blockOf iblk2; rw [A_eq2]; try rfl) t d).trans
    (by unfold Dat.fetched Dat.blockOf iblk2; rw [A_eq2]; try rfl)
theorem before2_1 (c : Dev nD) (t : Fin cfg2.N) (d) : (dat2 V c).before 1 t d = iblk2 V c 1 t :=
  ((dat2 V c).before_in_eq_fetched 1 rfl (fun _ => rfl) (fun _ _ _ => rfl) (fun t => by rw [after2_1]; unfold Dat.blockOf iblk2; rw [A_eq2]; try rfl) t d).trans
    (by unfold Dat.fetched Dat.blockOf iblk2; rw [A_eq2]; try rfl)
theorem before2_2 (c : Dev nD) (t : Fin cfg2.N) (d) : (dat2 V c).before 2 t d = iblk2 V c 2 t :=
  ((dat2 V c).before_in_eq_fetched 2 rfl (fun _ => rfl) (fun _ _ _ => rfl) (fun t => by rw [after2_2]; unfold Dat.blockOf iblk2; rw [A_eq2]; try rfl) t d).trans
    (by unfold Dat.fetched Dat.blockOf iblk2; rw [A_eq2]; try rfl)
theorem before2_3 (c : Dev nD) (t : Fin cfg2.N) (d) : (dat2 V c).before 3 t d = iblk2 V c 3 t :=
  ((dat2 V c).before_in_eq_fetched 3 rfl (fun _ => rfl) (fun _ _ _ => rfl) (fun t => by rw [after2_3]; unfold Dat.blockOf iblk2; rw [A_eq2]; try rfl) t d).trans
    (by unfold Dat.fetched Dat.blockOf iblk2; rw [A_eq2]; try rfl)
theorem before2_4 (c : Dev nD) (t : Fin cfg2.N) (d) : (dat2 V c).before 4 t d = iblk2 V c 4 t :=
  ((dat2 V c).before_in_eq_fetched 4 rfl (fun _ => rfl) (fun _ _ _ => rfl) (fun t => by rw [after2_4]; unfold Dat.blockOf iblk2; rw [A_eq2]; try rfl) t d).trans
    (by unfold Dat.fetched Dat.blockOf iblk2; rw [A_eq2]; try rfl)
theorem before2_5 (c : Dev nD) (t : Fin cfg2.N) (d) : (dat2 V c).before 5 t d = iblk2 V c 5 t :=
  ((dat2 V c).before_in_eq_fetched 5 rfl (fun _ => rfl) (fun _ _ _ => rfl) (fun t => by rw [after2_5]; unfold Dat.blockOf iblk2; rw [A_eq2]; try rfl) t d).trans
    (by unfold Dat.fetched Dat.blockOf iblk2; rw [A_eq2]; try rfl)
theorem before2_6 (c : Dev nD) (t : Fin cfg2.N) (d) : (dat2 V c).before 6 t d = iblk2 V c 6 t :=
  ((dat2 V c).before_in_eq_fetched 6 rfl (fun _ => rfl) (fun _ _ _ => rfl) (fun t => by rw [after2_6]; unfold Dat.blockOf iblk2; rw [A_eq2]; try rfl) t d).trans
    (by unfold Dat.fetched Dat.blockOf iblk2; rw [A_eq2]; try rfl)
theorem before2_7 (c : Dev nD) (t : Fin cfg2.N) (d) : (dat2 V c).before 7 t d = iblk2 V c 7 t :=
  ((dat2 V c).before_in_eq_fetched 7 rfl (fun _ => rfl) (fun _ _ _ => rfl) (fun t => by rw [after2_7]; unfold Dat.blockOf iblk2; rw [A_eq2]; try rfl) t d).trans
    (by unfold Dat.fetched Dat.blockOf iblk2; rw [A_eq2]; try rfl)
theorem before2_8 (c : Dev nD) (t : Fin cfg2.N) (d) : (dat2 V c).before 8 t d = iblk2 V c 8 t :=
  ((dat2 V c).before_in_eq_fetched 8 rfl (fun _ => rfl) (fun _ _ _ => rfl) (fun t => by rw [after2_8]; unfold Dat.blockOf iblk2; rw [A_eq2]; try rfl) t d).trans
    (by unfold Dat.fetched Dat.blockOf iblk2; rw [A_eq2]; try rfl)

/-! ## The body obligation -/

def bodyPre2 (c : Dev nD) (t : Fin cfg2.N) : sProp 𝕄 :=
  iprop((dat2 V c).Φ t.castSucc ∗ (dat2 V c).owesAt () t.castSucc
    ∗ (∃ d, owns (c : Thread nD τ) (ms2_0 t) fullShare ((dat2 V c).before 0 t d))
    ∗ (∃ d, owns (c : Thread nD τ) (ms2_1 t) fullShare ((dat2 V c).before 1 t d))
    ∗ (∃ d, owns (c : Thread nD τ) (ms2_2 t) fullShare ((dat2 V c).before 2 t d))
    ∗ (∃ d, owns (c : Thread nD τ) (ms2_3 t) fullShare ((dat2 V c).before 3 t d))
    ∗ (∃ d, owns (c : Thread nD τ) (ms2_4 t) fullShare ((dat2 V c).before 4 t d))
    ∗ (∃ d, owns (c : Thread nD τ) (ms2_5 t) fullShare ((dat2 V c).before 5 t d))
    ∗ (∃ d, owns (c : Thread nD τ) (ms2_6 t) fullShare ((dat2 V c).before 6 t d))
    ∗ (∃ d, owns (c : Thread nD τ) (ms2_7 t) fullShare ((dat2 V c).before 7 t d))
    ∗ (∃ d, owns (c : Thread nD τ) (ms2_8 t) fullShare ((dat2 V c).before 8 t d))
    ∗ (∃ d, owns (c : Thread nD τ) (ms2_9 t) fullShare ((dat2 V c).before 9 t d)))
def bodyPost2 (c : Dev nD) (t : Fin cfg2.N) : sProp 𝕄 :=
  iprop((dat2 V c).Φ t.succ ∗ (dat2 V c).owesAt () t.succ
    ∗ owns (c : Thread nD τ) (ms2_0 t) fullShare ((dat2 V c).after 0 t)
    ∗ owns (c : Thread nD τ) (ms2_1 t) fullShare ((dat2 V c).after 1 t)
    ∗ owns (c : Thread nD τ) (ms2_2 t) fullShare ((dat2 V c).after 2 t)
    ∗ owns (c : Thread nD τ) (ms2_3 t) fullShare ((dat2 V c).after 3 t)
    ∗ owns (c : Thread nD τ) (ms2_4 t) fullShare ((dat2 V c).after 4 t)
    ∗ owns (c : Thread nD τ) (ms2_5 t) fullShare ((dat2 V c).after 5 t)
    ∗ owns (c : Thread nD τ) (ms2_6 t) fullShare ((dat2 V c).after 6 t)
    ∗ owns (c : Thread nD τ) (ms2_7 t) fullShare ((dat2 V c).after 7 t)
    ∗ owns (c : Thread nD τ) (ms2_8 t) fullShare ((dat2 V c).after 8 t)
    ∗ owns (c : Thread nD τ) (ms2_9 t) fullShare ((dat2 V c).after 9 t))

set_option maxHeartbeats 6400000 in
/-- The body in this case. -/
theorem sound2_A (c : Dev nD) (t : Fin cfg2.N) (h0 : t.val % 8 = 0) :
    bodyPre2 V c t ⊢ wp frame (wpE (defs₀ (F := F)) Variants.none c none) Set.univ (bodyAt2 t) (fun _ => bodyPost2 V c t) := by
  have hN : t.val < 8 := lt_of_lt_of_eq t.isLt (show cfg2.N = 8 from N_2)
  have ht : t = t2 := Fin.ext (by show t.val = 0; omega)
  subst ht
  have hout : outAt2 V c t2 = out2_A c t2 h0 (iblk2 V c 0 t2) (iblk2 V c 1 t2) (iblk2 V c 2 t2) (iblk2 V c 3 t2) (iblk2 V c 4 t2) (iblk2 V c 5 t2) (iblk2 V c 6 t2) (iblk2 V c 7 t2) (iblk2 V c 8 t2) := dif_pos h0
  unfold bodyPre2 bodyPost2 bodyAt2
  simp only [before2_0, before2_1, before2_2, before2_3, before2_4, before2_5, before2_6, before2_7, before2_8]
  rw [show (dat2 V c).owesAt () t2.succ = (dat2 V c).owesAt () t2.castSucc from rfl,
    after2_0, after2_1, after2_2, after2_3, after2_4, after2_5, after2_6, after2_7, after2_8, after2_9, hout]
  rw [show (dat2 V c).Φ t2.succ = iprop(iprop(iprop(owns (c : Thread nD τ) scM2_0 fullShare (sc2_0 V c) ∗ owns (c : Thread nD τ) scM2_1 fullShare (sc2_1 V c) ∗ owns (c : Thread nD τ) scM2_2 fullShare (sc2_2 V c)) ∗ rest2 c) ∗ (∃ r, prngReg c r)) from rfl]
  rw [show (dat2 V c).Φ t2.castSucc = Pipeline.ΦA spec2 c from rfl, PhiA2_eq]
  unfold sc2_0 sc2_1 sc2_2 out2_A sout2_A_0 sout2_A_1 sout2_A_2
  iintro ⟨⟨⟨⟨HS0, HS1, HS2⟩, Hrest⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
  iapply ((run2_A c t2 h0 (iblk2 V c 0 t2) (iblk2 V c 1 t2) (iblk2 V c 2 t2) (iblk2 V c 3 t2) (iblk2 V c 4 t2) (iblk2 V c 5 t2) (iblk2 V c 6 t2) (iblk2 V c 7 t2) (iblk2 V c 8 t2) ).2.2.2.2 Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexists _; iexact H9
  isplitl [HS0]; · iexact HS0
  isplitl [HS1]; · iexact HS1
  isplitl [HS2]; · iexact HS2
  iintro ⟨H0, H1, H2, H3, H4, H5, H6, H7, H8, ⟨%e9, H9⟩, ⟨%es0, HS0⟩, ⟨%es1, HS1⟩, ⟨%es2, HS2⟩⟩
  isplitl [HS0 HS1 HS2 Hrest Hg]
  · isplitl [HS0 HS1 HS2 Hrest]
    · isplitr [Hrest]
      · isplitl [HS0]
        · unfold owns; iexists _; isplitr
          swap; · iexact HS0
          ipureintro; exact View.read_writes_of_cover _ _ _ _ _ (scover2_A_0 c t2 h0 (iblk2 V c 0 t2) (iblk2 V c 1 t2) (iblk2 V c 2 t2) (iblk2 V c 3 t2) (iblk2 V c 4 t2) (iblk2 V c 5 t2) (iblk2 V c 6 t2) (iblk2 V c 7 t2) (iblk2 V c 8 t2))
        isplitl [HS1]
        · unfold owns; iexists _; isplitr
          swap; · iexact HS1
          ipureintro; exact View.read_writes_of_cover _ _ _ _ _ (scover2_A_1 c t2 h0 (iblk2 V c 0 t2) (iblk2 V c 1 t2) (iblk2 V c 2 t2) (iblk2 V c 3 t2) (iblk2 V c 4 t2) (iblk2 V c 5 t2) (iblk2 V c 6 t2) (iblk2 V c 7 t2) (iblk2 V c 8 t2))
        unfold owns; iexists _; isplitr
        swap; · iexact HS2
        ipureintro; exact View.read_writes_of_cover _ _ _ _ _ (scover2_A_2 c t2 h0 (iblk2 V c 0 t2) (iblk2 V c 1 t2) (iblk2 V c 2 t2) (iblk2 V c 3 t2) (iblk2 V c 4 t2) (iblk2 V c 5 t2) (iblk2 V c 6 t2) (iblk2 V c 7 t2) (iblk2 V c 8 t2))
      iexact Hrest
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  unfold owns; iexists _; isplitr
  swap; · iexact H9
  ipureintro; exact View.read_writes_of_cover _ _ _ _ _ (cover2_A c t2 h0 (iblk2 V c 0 t2) (iblk2 V c 1 t2) (iblk2 V c 2 t2) (iblk2 V c 3 t2) (iblk2 V c 4 t2) (iblk2 V c 5 t2) (iblk2 V c 6 t2) (iblk2 V c 7 t2) (iblk2 V c 8 t2) )

set_option maxHeartbeats 6400000 in
/-- The body in this case. -/
theorem sound2_B (c : Dev nD) (t : Fin cfg2.N) (h0 : ¬ t.val % 8 = 0) :
    bodyPre2 V c t ⊢ wp frame (wpE (defs₀ (F := F)) Variants.none c none) Set.univ (bodyAt2 t) (fun _ => bodyPost2 V c t) := by
  have hN : t.val < 8 := lt_of_lt_of_eq t.isLt (show cfg2.N = 8 from N_2)
  have hout : outAt2 V c t = out2_B c t h0 (iblk2 V c 0 t) (iblk2 V c 1 t) (iblk2 V c 2 t) (iblk2 V c 3 t) (iblk2 V c 4 t) (iblk2 V c 5 t) (iblk2 V c 6 t) (iblk2 V c 7 t) (iblk2 V c 8 t) (sc2_0 V c) (sc2_1 V c) (sc2_2 V c) := dif_neg h0
  have hΦ : (dat2 V c).Φ t.castSucc = iprop(iprop(iprop(owns (c : Thread nD τ) scM2_0 fullShare (sc2_0 V c) ∗ owns (c : Thread nD τ) scM2_1 fullShare (sc2_1 V c) ∗ owns (c : Thread nD τ) scM2_2 fullShare (sc2_2 V c)) ∗ rest2 c) ∗ (∃ r, prngReg c r)) := by
    show Phi2 V c t.val = _
    obtain ⟨n, hn⟩ : ∃ n, t.val = n + 1 := ⟨t.val - 1, by omega⟩
    rw [hn]; rfl
  unfold bodyPre2 bodyPost2 bodyAt2
  simp only [before2_0, before2_1, before2_2, before2_3, before2_4, before2_5, before2_6, before2_7, before2_8]
  rw [show (dat2 V c).owesAt () t.succ = (dat2 V c).owesAt () t.castSucc from rfl,
    after2_0, after2_1, after2_2, after2_3, after2_4, after2_5, after2_6, after2_7, after2_8, after2_9, hout]
  rw [show (dat2 V c).Φ t.succ = iprop(iprop(iprop(owns (c : Thread nD τ) scM2_0 fullShare (sc2_0 V c) ∗ owns (c : Thread nD τ) scM2_1 fullShare (sc2_1 V c) ∗ owns (c : Thread nD τ) scM2_2 fullShare (sc2_2 V c)) ∗ rest2 c) ∗ (∃ r, prngReg c r)) from rfl]
  rw [hΦ]
  unfold out2_B
  iintro ⟨⟨⟨⟨HS0, HS1, HS2⟩, Hrest⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
  iapply ((run2_B c t h0 (iblk2 V c 0 t) (iblk2 V c 1 t) (iblk2 V c 2 t) (iblk2 V c 3 t) (iblk2 V c 4 t) (iblk2 V c 5 t) (iblk2 V c 6 t) (iblk2 V c 7 t) (iblk2 V c 8 t) _ _ _).2.2.2.2 Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexists _; iexact H9
  isplitl [HS0]; · iexact HS0
  isplitl [HS1]; · iexact HS1
  isplitl [HS2]; · iexact HS2
  iintro ⟨H0, H1, H2, H3, H4, H5, H6, H7, H8, ⟨%e9, H9⟩, HS0, HS1, HS2⟩
  isplitl [HS0 HS1 HS2 Hrest Hg]
  · isplitl [HS0 HS1 HS2 Hrest]
    · isplitr [Hrest]
      · isplitl [HS0]
        · iexact HS0
        isplitl [HS1]
        · iexact HS1
        iexact HS2
      iexact Hrest
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  unfold owns; iexists _; isplitr
  swap; · iexact H9
  ipureintro; exact View.read_writes_of_cover _ _ _ _ _ (cover2_B c t h0 (iblk2 V c 0 t) (iblk2 V c 1 t) (iblk2 V c 2 t) (iblk2 V c 3 t) (iblk2 V c 4 t) (iblk2 V c 5 t) (iblk2 V c 6 t) (iblk2 V c 7 t) (iblk2 V c 8 t) _ _ _)

theorem sound2 (c : Dev nD) (t : Fin cfg2.N) :
    bodyPre2 V c t ⊢ wp frame (wpE (defs₀ (F := F)) Variants.none c none) Set.univ (bodyAt2 t) (fun _ => bodyPost2 V c t) := by
  by_cases h0 : t.val % 8 = 0
  · exact sound2_A V c t h0
  · exact sound2_B V c t h0

theorem defs₀_row2 (t : Fin cfg2.N) :
    defs₀ (F := F) .tc cfg2.body (cfg2.bodyArgs t (cfg2.slots t)) = bodyAt2 t := by
  unfold defs₀; rw [Defs.onTc_tc]

/-- The body meets its obligation at every point. -/
theorem body_obligation2 (c : Dev nD) : BodyObligation (dat2 (F := F) V c) (defs₀ (F := F)) Variants.none () Set.univ := fun t => by
  rw [bigSep_W2, bigSep_W2, defs₀_row2]
  exact triple_restated (sound2 V c t) rfl .rfl fun _ => .rfl

/-- The invariant before the first point is what the launch hands over. -/
theorem hin2 (c : Dev nD) : Pipeline.ΦA spec2 c ⊢ (dat2 V c).Φ 0 := .rfl

/-- After the last point the scratch's contents are forgotten. -/
theorem hout2 (c : Dev nD) : (dat2 V c).Φ (Fin.last cfg2.N) ⊢ Pipeline.ΦA spec2 c := by
  rw [PhiA2_eq]
  have hn : (Fin.last cfg2.N).val = 7 + 1 := by rw [Fin.val_last]; exact N_2
  show Phi2 V c (Fin.last cfg2.N).val ⊢ _
  rw [hn]
  show iprop(iprop(iprop(owns (c : Thread nD τ) scM2_0 fullShare (sc2_0 V c) ∗ owns (c : Thread nD τ) scM2_1 fullShare (sc2_1 V c) ∗ owns (c : Thread nD τ) scM2_2 fullShare (sc2_2 V c)) ∗ rest2 c) ∗ (∃ r, prngReg c r)) ⊢ _
  iintro ⟨⟨⟨HS0, HS1, HS2⟩, Hrest⟩, Hg⟩
  isplitr [Hg]
  · isplitr [Hrest]
    · isplitl [HS0]; · iexists _; iexact HS0
      isplitl [HS1]; · iexists _; iexact HS1
      iexists _; iexact HS2
    iexact Hrest
  iexact Hg

end Cert.KernelIdeal.Gen

end
-- ==== Proof.Ideal.Whole.lean ====
module

public import proofs.«01_k».proof.Proof.Ideal.Qkv
public import proofs.«01_k».proof.Proof.Ideal.Attn
public import proofs.«01_k».proof.Proof.Ideal.Mlp
public import proofs.«01_k».proof.Proof.Gen.KernelIdeal.Regions
public import Idealize.ShloMosaic.Lib.Pipeline.RegionsLoop
public import Idealize.ShloMosaic.Lib.Pipeline.FrameSuffix

/-! The three regions of @main put together: the buffers at every boundary, and the run of the whole program. -/

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

abbrev argRefs : List (Ref sig .tc) := [main_arg0, main_arg1, main_arg2, main_arg3, main_arg4, main_arg5, main_arg6, main_arg7, main_arg8, main_arg9, main_arg10, main_arg11, main_arg12]
theorem hostOps0_args : ∀ a ∈ argRefs, a ∉ hostOps0_W := ListAll.forall_mem_of_all_decide (by decide +kernel)
theorem hostOps1_args : ∀ a ∈ argRefs, a ∉ hostOps1_W := ListAll.forall_mem_of_all_decide (by decide +kernel)
theorem hostOps2_args : ∀ a ∈ argRefs, a ∉ hostOps2_W := ListAll.forall_mem_of_all_decide (by decide +kernel)
theorem hostOps3_args : ∀ a ∈ argRefs, a ∉ hostOps3_W := ListAll.forall_mem_of_all_decide (by decide +kernel)

/-! ## The buffers at each boundary -/

/-- At launch. -/
abbrev W0 : Dev nD → Valuation τ sig (Elt F) := fun c b => (s₀ m ρ).mem ((c : Dev nD), b)
theorem W0_args (c : Dev nD) : ∀ a ∈ argRefs, W0 m ρ c (Proc.devRef .tc a) = m ((c : Thread nD τ).loc a) := fun _ _ => rfl

/-- After host stretch 0. -/
abbrev W1 : Dev nD → Valuation τ sig (Elt F) := fun c => StableHlo.after hostOps0 (W0 m ρ c)
theorem W1_of (c : Dev nD) (r : Ref sig .tc) (h : r ∉ hostOps0_W) : W1 m ρ c (Proc.devRef .tc r) = W0 m ρ c (Proc.devRef .tc r) :=
  StableHlo.after_of_writes_sub hostOps0 _ hostOps0_writes h
theorem W1_args (c : Dev nD) : ∀ a ∈ argRefs, W1 m ρ c (Proc.devRef .tc a) = m ((c : Thread nD τ).loc a) :=
  fun a ha => (W1_of m ρ c a (hostOps0_args a ha)).trans (W0_args m ρ c a ha)
/-- What region 0 finds. -/
abbrev U1 : (c : Dev nD) → (b : Ref sig .tc) → Buf (Elt F) ((c : Thread nD τ).loc b) := fun c b => W1 m ρ c b
/-- After region 0: its arrays at what the pipeline leaves, every other buffer as entered. -/
def W2 (c : Dev nD) : Valuation τ sig (Elt F) :=
  Pipeline.withArrays spec0 c (W1 m ρ c) fun w => (dat0 (U1 m ρ) c).arrAt w cfg0.N
theorem W2_arr (c : Dev nD) (w : Fin cfg0.W) :
    W2 m ρ c (Proc.devRef .tc (Pipeline.arrRef spec0 w)) = (dat0 (U1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
/-- A buffer that is none of region 0's output arrays keeps its contents across it. -/
theorem W2_of (c : Dev nD) (r : Ref sig .tc) (h : ∀ w : Fin cfg0.W, Pipeline.arrRef spec0 w = r → (cfg0.win w).isOut = false) :
    W2 m ρ c (Proc.devRef .tc r) = W1 m ρ c (Proc.devRef .tc r) := by
  by_cases hw : ∃ w : Fin cfg0.W, Pipeline.arrRef spec0 w = r
  · obtain ⟨w, rfl⟩ := hw
    exact (W2_arr m ρ c w).trans (((dat0 (U1 m ρ) c).arrAt_in w (h w rfl) _).trans (A_eq0 (U1 m ρ) c w))
  · exact W2_of_ne m ρ c r fun w e => hw ⟨w, e⟩
theorem argsIn0 : ∀ a ∈ argRefs, ∀ w : Fin cfg0.W, Pipeline.arrRef spec0 w = a → (cfg0.win w).isOut = false :=
  ListAll.forall_mem_of_all_decide (by decide +kernel)
theorem W2_args (c : Dev nD) : ∀ a ∈ argRefs, W2 m ρ c (Proc.devRef .tc a) = m ((c : Thread nD τ).loc a) :=
  fun a ha => (W2_of m ρ c a (argsIn0 a ha)).trans (W1_args m ρ c a ha)
abbrev U2 : (c : Dev nD) → (b : Ref sig .tc) → Buf (Elt F) ((c : Thread nD τ).loc b) := fun c b => W2 m ρ c b
theorem hF0 (c : Dev nD) (w : Fin cfg0.W) : (dat0 (U1 m ρ) c).arrAt w cfg0.N = U2 m ρ c (Pipeline.arrRef spec0 w) :=
  (W2_arr m ρ c w).symm
theorem hrest0 (c : Dev nD) : ∀ b, b ∉ Finset.univ.image (Pipeline.arrRef spec0) → U2 m ρ c b = U1 m ρ c b :=
  fun b hb => W2_of_ne m ρ c b fun w e => hb (Finset.mem_image.mpr ⟨w, Finset.mem_univ _, e⟩)

/-- After host stretch 1. -/
abbrev W3 : Dev nD → Valuation τ sig (Elt F) := fun c => StableHlo.after hostOps1 (W2 m ρ c)
theorem W3_of (c : Dev nD) (r : Ref sig .tc) (h : r ∉ hostOps1_W) : W3 m ρ c (Proc.devRef .tc r) = W2 m ρ c (Proc.devRef .tc r) :=
  StableHlo.after_of_writes_sub hostOps1 _ hostOps1_writes h
theorem W3_args (c : Dev nD) : ∀ a ∈ argRefs, W3 m ρ c (Proc.devRef .tc a) = m ((c : Thread nD τ).loc a) :=
  fun a ha => (W3_of m ρ c a (hostOps1_args a ha)).trans (W2_args m ρ c a ha)
/-- What region 1 finds. -/
abbrev U3 : (c : Dev nD) → (b : Ref sig .tc) → Buf (Elt F) ((c : Thread nD τ).loc b) := fun c b => W3 m ρ c b
/-- After region 1: its arrays at what the pipeline leaves, every other buffer as entered. -/
def W4 (c : Dev nD) : Valuation τ sig (Elt F) :=
  Pipeline.withArrays spec1 c (W3 m ρ c) fun w => (dat1 (U3 m ρ) c).arrAt w cfg1.N
theorem W4_arr (c : Dev nD) (w : Fin cfg1.W) :
    W4 m ρ c (Proc.devRef .tc (Pipeline.arrRef spec1 w)) = (dat1 (U3 m ρ) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m ρ c (Proc.devRef .tc b) = W3 m ρ c (Proc.devRef .tc b) := by
  unfold W4; exact Pipeline.withArrays_of_ne spec1 c _ _ b hb
/-- A buffer that is none of region 1's output arrays keeps its contents across it. -/
theorem W4_of (c : Dev nD) (r : Ref sig .tc) (h : ∀ w : Fin cfg1.W, Pipeline.arrRef spec1 w = r → (cfg1.win w).isOut = false) :
    W4 m ρ c (Proc.devRef .tc r) = W3 m ρ c (Proc.devRef .tc r) := by
  by_cases hw : ∃ w : Fin cfg1.W, Pipeline.arrRef spec1 w = r
  · obtain ⟨w, rfl⟩ := hw
    exact (W4_arr m ρ c w).trans (((dat1 (U3 m ρ) c).arrAt_in w (h w rfl) _).trans (A_eq1 (U3 m ρ) c w))
  · exact W4_of_ne m ρ c r fun w e => hw ⟨w, e⟩
theorem argsIn1 : ∀ a ∈ argRefs, ∀ w : Fin cfg1.W, Pipeline.arrRef spec1 w = a → (cfg1.win w).isOut = false :=
  ListAll.forall_mem_of_all_decide (by decide +kernel)
theorem W4_args (c : Dev nD) : ∀ a ∈ argRefs, W4 m ρ c (Proc.devRef .tc a) = m ((c : Thread nD τ).loc a) :=
  fun a ha => (W4_of m ρ c a (argsIn1 a ha)).trans (W3_args m ρ c a ha)
abbrev U4 : (c : Dev nD) → (b : Ref sig .tc) → Buf (Elt F) ((c : Thread nD τ).loc b) := fun c b => W4 m ρ c b
theorem hF1 (c : Dev nD) (w : Fin cfg1.W) : (dat1 (U3 m ρ) c).arrAt w cfg1.N = U4 m ρ c (Pipeline.arrRef spec1 w) :=
  (W4_arr m ρ c w).symm
theorem hrest1 (c : Dev nD) : ∀ b, b ∉ Finset.univ.image (Pipeline.arrRef spec1) → U4 m ρ c b = U3 m ρ c b :=
  fun b hb => W4_of_ne m ρ c b fun w e => hb (Finset.mem_image.mpr ⟨w, Finset.mem_univ _, e⟩)

/-- After host stretch 2. -/
abbrev W5 : Dev nD → Valuation τ sig (Elt F) := fun c => StableHlo.after hostOps2 (W4 m ρ c)
theorem W5_of (c : Dev nD) (r : Ref sig .tc) (h : r ∉ hostOps2_W) : W5 m ρ c (Proc.devRef .tc r) = W4 m ρ c (Proc.devRef .tc r) :=
  StableHlo.after_of_writes_sub hostOps2 _ hostOps2_writes h
theorem W5_args (c : Dev nD) : ∀ a ∈ argRefs, W5 m ρ c (Proc.devRef .tc a) = m ((c : Thread nD τ).loc a) :=
  fun a ha => (W5_of m ρ c a (hostOps2_args a ha)).trans (W4_args m ρ c a ha)
/-- What region 2 finds. -/
abbrev U5 : (c : Dev nD) → (b : Ref sig .tc) → Buf (Elt F) ((c : Thread nD τ).loc b) := fun c b => W5 m ρ c b
/-- After region 2: its arrays at what the pipeline leaves, every other buffer as entered. -/
def W6 (c : Dev nD) : Valuation τ sig (Elt F) :=
  Pipeline.withArrays spec2 c (W5 m ρ c) fun w => (dat2 (U5 m ρ) c).arrAt w cfg2.N
theorem W6_arr (c : Dev nD) (w : Fin cfg2.W) :
    W6 m ρ c (Proc.devRef .tc (Pipeline.arrRef spec2 w)) = (dat2 (U5 m ρ) c).arrAt w cfg2.N := by
  unfold W6; exact Pipeline.withArrays_arr spec2 launch2.win.arr_inj c _ _ w
theorem W6_of_ne (c : Dev nD) (b : Ref sig .tc) (hb : ∀ w, Pipeline.arrRef spec2 w ≠ b) :
    W6 m ρ c (Proc.devRef .tc b) = W5 m ρ c (Proc.devRef .tc b) := by
  unfold W6; exact Pipeline.withArrays_of_ne spec2 c _ _ b hb
/-- A buffer that is none of region 2's output arrays keeps its contents across it. -/
theorem W6_of (c : Dev nD) (r : Ref sig .tc) (h : ∀ w : Fin cfg2.W, Pipeline.arrRef spec2 w = r → (cfg2.win w).isOut = false) :
    W6 m ρ c (Proc.devRef .tc r) = W5 m ρ c (Proc.devRef .tc r) := by
  by_cases hw : ∃ w : Fin cfg2.W, Pipeline.arrRef spec2 w = r
  · obtain ⟨w, rfl⟩ := hw
    exact (W6_arr m ρ c w).trans (((dat2 (U5 m ρ) c).arrAt_in w (h w rfl) _).trans (A_eq2 (U5 m ρ) c w))
  · exact W6_of_ne m ρ c r fun w e => hw ⟨w, e⟩
theorem argsIn2 : ∀ a ∈ argRefs, ∀ w : Fin cfg2.W, Pipeline.arrRef spec2 w = a → (cfg2.win w).isOut = false :=
  ListAll.forall_mem_of_all_decide (by decide +kernel)
theorem W6_args (c : Dev nD) : ∀ a ∈ argRefs, W6 m ρ c (Proc.devRef .tc a) = m ((c : Thread nD τ).loc a) :=
  fun a ha => (W6_of m ρ c a (argsIn2 a ha)).trans (W5_args m ρ c a ha)
abbrev U6 : (c : Dev nD) → (b : Ref sig .tc) → Buf (Elt F) ((c : Thread nD τ).loc b) := fun c b => W6 m ρ c b
theorem hF2 (c : Dev nD) (w : Fin cfg2.W) : (dat2 (U5 m ρ) c).arrAt w cfg2.N = U6 m ρ c (Pipeline.arrRef spec2 w) :=
  (W6_arr m ρ c w).symm
theorem hrest2 (c : Dev nD) : ∀ b, b ∉ Finset.univ.image (Pipeline.arrRef spec2) → U6 m ρ c b = U5 m ρ c b :=
  fun b hb => W6_of_ne m ρ c b fun w e => hb (Finset.mem_image.mpr ⟨w, Finset.mem_univ _, e⟩)

/-- After host stretch 3. -/
abbrev W7 : Dev nD → Valuation τ sig (Elt F) := fun c => StableHlo.after hostOps3 (W6 m ρ c)
theorem W7_of (c : Dev nD) (r : Ref sig .tc) (h : r ∉ hostOps3_W) : W7 m ρ c (Proc.devRef .tc r) = W6 m ρ c (Proc.devRef .tc r) :=
  StableHlo.after_of_writes_sub hostOps3 _ hostOps3_writes h
theorem W7_args (c : Dev nD) : ∀ a ∈ argRefs, W7 m ρ c (Proc.devRef .tc a) = m ((c : Thread nD τ).loc a) :=
  fun a ha => (W7_of m ρ c a (hostOps3_args a ha)).trans (W6_args m ρ c a ha)

/-! ## The thread state -/

/-- Every pipeline's proof data, each from the contents its region finds. -/
def pdats : (p : Fin 3) → (c : Dev nD) → Dat τ (Elt F) Unit ℕ (UR sig nD τ) ℕ (Pipeline.pin (pcfgs (F := F)) adm p) c
  | ⟨0, _⟩ => fun c => dat0 (U1 m ρ) c
  | ⟨1, _⟩ => fun c => dat1 (U3 m ρ) c
  | ⟨2, _⟩ => fun c => dat2 (U5 m ρ) c
abbrev 𝒱₀ : Variants := Variants.none
abbrev lvls : GSem nD τ sig → Finset Unit := fun _ => ∅
abbrev lvOf : GSem nD τ sig → Unit → ℕ := fun _ _ => 0
/-- What rides beside the buffers: the generator register, and a core that owes nothing. -/
abbrev riding (c : Dev nD) : sProp 𝕄 := iprop((∃ r, prngReg c r) ∗ ∃ W, owes (c : Thread nD τ) (0 : CellTallies nD τ sig Unit) W)
/-- A host stretch as a segment. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ lvls lvOf :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W riding
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state, without what the core owes. -/
abbrev lastState (c : Dev nD) : sProp 𝕄 := iprop(StableHlo.held (c : Thread nD τ) (Pipeline.ucRefs τ sig) (W7 m ρ c) ∗ ∃ r, prngReg c r)

set_option backward.isDefEq.respectTransparency.types false in
/-- Region 0 as a segment: entered from the buffers at `W1`, left at `W2`. -/
def reg0 : Pipeline.RegionSeg (pcfgs (F := F)) adm (pdats m ρ) () defs₀ 𝒱₀ lvls lvOf 0 where
  win := launch0.win.to₀
  block_pos := launch0.block_pos
  stage_whole := launch0.stage_whole
  K := PEmpty
  osem k := k.elim
  ho := Pipeline.OwnSemFacts.none _
  hbody c := (body_obligation0 (U1 m ρ) c).loose
  hwaits := Pipeline.hwaits_of_owed_zero _ _ _ _ lvls lvOf 0 fun _ _ => rfl
  pre c := iprop(StableHlo.held (c : Thread nD τ) (Pipeline.ucRefs τ sig) (W1 m ρ c) ∗ riding c)
  post c := iprop(StableHlo.held (c : Thread nD τ) (Pipeline.ucRefs τ sig) (W2 m ρ c) ∗ riding c)
  X c := iprop(∃ r, prngReg c r)
  Y c := iprop(∃ r, prngReg c r)
  Z c := Pipeline.unscopedRest (Ix := Unit) (Name := ℕ) (U := UR sig nD τ) (Lvl := ℕ) spec0 c (U1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (U1 m ρ c) (A_eq0 (U1 m ρ) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (hin0 (U1 m ρ) c)
    unfold Pipeline.ΦA
    iintro ⟨Hp, -, Hr⟩
    isplitl [Hr]; · iexact Hr
    iexact Hp
  hout c := by
    rw [Pipeline.ownSems0_none]
    refine BIBase.Entails.trans (hout0 (U1 m ρ) c) ?_
    unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (U1 m ρ c) (U2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 as a segment: entered from the buffers at `W3`, left at `W4`. -/
def reg1 : Pipeline.RegionSeg (pcfgs (F := F)) adm (pdats m ρ) () defs₀ 𝒱₀ lvls lvOf 1 where
  win := launch1.win.to₀
  block_pos := launch1.block_pos
  stage_whole := launch1.stage_whole
  K := PEmpty
  osem k := k.elim
  ho := Pipeline.OwnSemFacts.none _
  hbody c := (body_obligation1 (U3 m ρ) c).loose
  hwaits := Pipeline.hwaits_of_owed_zero _ _ _ _ lvls lvOf 1 fun _ _ => rfl
  pre c := iprop(StableHlo.held (c : Thread nD τ) (Pipeline.ucRefs τ sig) (W3 m ρ c) ∗ riding c)
  post c := iprop(StableHlo.held (c : Thread nD τ) (Pipeline.ucRefs τ sig) (W4 m ρ c) ∗ riding c)
  X c := iprop(∃ r, prngReg c r)
  Y c := iprop(∃ r, prngReg c r)
  Z c := Pipeline.unscopedRest (Ix := Unit) (Name := ℕ) (U := UR sig nD τ) (Lvl := ℕ) spec1 c (U3 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (U3 m ρ c) (A_eq1 (U3 m ρ) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (hin1 (U3 m ρ) c)
    unfold Pipeline.ΦA
    iintro ⟨Hp, -, Hr⟩
    isplitl [Hr]; · iexact Hr
    iexact Hp
  hout c := by
    rw [Pipeline.ownSems0_none]
    refine BIBase.Entails.trans (hout1 (U3 m ρ) c) ?_
    unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (U3 m ρ c) (U4 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 2 as a segment: entered from the buffers at `W5`, left at `W6`. -/
def reg2 : Pipeline.RegionSeg (pcfgs (F := F)) adm (pdats m ρ) () defs₀ 𝒱₀ lvls lvOf 2 where
  win := launch2.win.to₀
  block_pos := launch2.block_pos
  stage_whole := launch2.stage_whole
  K := PEmpty
  osem k := k.elim
  ho := Pipeline.OwnSemFacts.none _
  hbody c := (body_obligation2 (U5 m ρ) c).loose
  hwaits := Pipeline.hwaits_of_owed_zero _ _ _ _ lvls lvOf 2 fun _ _ => rfl
  pre c := iprop(StableHlo.held (c : Thread nD τ) (Pipeline.ucRefs τ sig) (W5 m ρ c) ∗ riding c)
  post c := iprop(StableHlo.held (c : Thread nD τ) (Pipeline.ucRefs τ sig) (W6 m ρ c) ∗ riding c)
  X c := iprop(∃ r, prngReg c r)
  Y c := iprop(∃ r, prngReg c r)
  Z c := Pipeline.unscopedRest (Ix := Unit) (Name := ℕ) (U := UR sig nD τ) (Lvl := ℕ) spec2 c (U5 m ρ c)
  hentry c := by
    rw [Pipeline.ownSems0_none]
    have hsplit := Pipeline.arrays_of_unscopedBufs (p := 2) (pcfgs (F := F)) adm (pdats m ρ) launch2.win launch2.arr_whole c
      ((pdats m ρ 2 c).share_full fun _ => rfl) (U5 m ρ c) (A_eq2 (U5 m ρ) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (hin2 (U5 m ρ) c)
    unfold Pipeline.ΦA
    iintro ⟨Hp, -, Hr⟩
    isplitl [Hr]; · iexact Hr
    iexact Hp
  hout c := by
    rw [Pipeline.ownSems0_none]
    refine BIBase.Entails.trans (hout2 (U5 m ρ) c) ?_
    unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m ρ) ((pdats m ρ 2 c).share_full fun _ => rfl)
      (U5 m ρ c) (U6 m ρ c) ((pdats m ρ 2 c).arrAt · cfg2.N) (hF2 m ρ c) (hrest2 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## The whole run -/

/-- @main's segments, in order. -/
abbrev runSegs : List (Pipeline.Seg (pcfgs (F := F)) adm (pdats m ρ) () defs₀ 𝒱₀ lvls lvOf) :=
  [ .host (hseg hostOps0 hostOps0_sub hostOps0_fresh (W0 m ρ)),
    .region (reg0 m ρ),
    .host (hseg hostOps1 hostOps1_sub hostOps1_fresh (W2 m ρ)),
    .region (reg1 m ρ),
    .host (hseg hostOps2 hostOps2_sub hostOps2_fresh (W4 m ρ)),
    .region (reg2 m ρ),
    .host (hseg hostOps3 hostOps3_sub hostOps3_fresh (W6 m ρ)) ]
theorem main_run (c : Dev nD) : main (F := F) c = Pipeline.Seg.run (runSegs m ρ) := (main_chain c).trans (by chain_rfl)

set_option backward.isDefEq.respectTransparency.types false in
/-- From any memory with zero counters every weakly fair execution of @main terminates without a fault, every buffer
    outside the scoped ones at its contents at the last boundary and every counter at zero. -/
theorem whole_run : θ_run defs (onTc (τ := τ) (main (F := F))) ⟨m, fun _ => 0, ρ⟩ (fun r =>
      (∀ c : Dev nD, ∀ b ∈ Pipeline.ucRefs τ sig, r.2.mem (((c : Thread nD τ)).1, b) = W7 m ρ c b) ∧ r.2.sem = fun _ => 0) :=
  Pipeline.θ_run_regions_kit_sems (pcfgs (F := F)) adm (pdats m ρ) () cellOf_inj emb₁ defs₀ 𝒱₀ lvls lvOf m ρ main (runSegs m ρ)
    (fun c Q => by rw [main_run m ρ c])
    (by simp only [runSegs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ riding c)) (Tₙ := lastState m ρ)
    (hch := ⟨fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach lvls lvOf fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W7 m ρ c b)
    (hfin := fun c s' => by
      iintro ⟨⟨Hh, -⟩, HSI⟩
      unfold StableHlo.held
      imodintro
      iapply (pointsTo_read_all (Pipeline.ucRefs τ sig) (fun b => (((c : Thread nD τ)).1, b)) (W7 m ρ c) s')
      isplitl [Hh] <;> iassumption)
    (hQ := fun s h hz => ⟨fun c => h c, funext fun g => hz g (.inr (regions_no_unscoped g.2))⟩)

/-- An argument array ends as launched. -/
theorem kept_of (c : Dev nD) (a : Ref sig .tc) (ha : a ∈ argRefs) (hs : ¬ (Proc.devRef .tc a : DevRef τ sig).isScoped)
    (mem : (ℓ : Loc nD τ sig) → Buf (Elt F) ℓ) (h : ∀ b ∈ Pipeline.ucRefs τ sig, mem (((c : Thread nD τ)).1, b) = W7 m ρ c b) :
    mem ((c : Thread nD τ).loc a) = m ((c : Thread nD τ).loc a) :=
  (h _ (mem_uc a hs)).trans (W7_args m ρ c a ha)

/-- The arguments end as launched and every counter at zero. -/
theorem whole_frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12))
      ∧ r.2.sem = fun _ => 0) :=
  (θ_run defs _ _).mono (fun r h => ⟨fun c => ⟨kept_of m ρ c main_arg0 (by decide) (by decide) r.2.mem (h.1 c),
    kept_of m ρ c main_arg1 (by decide) (by decide) r.2.mem (h.1 c),
    kept_of m ρ c main_arg2 (by decide) (by decide) r.2.mem (h.1 c),
    kept_of m ρ c main_arg3 (by decide) (by decide) r.2.mem (h.1 c),
    kept_of m ρ c main_arg4 (by decide) (by decide) r.2.mem (h.1 c),
    kept_of m ρ c main_arg5 (by decide) (by decide) r.2.mem (h.1 c),
    kept_of m ρ c main_arg6 (by decide) (by decide) r.2.mem (h.1 c),
    kept_of m ρ c main_arg7 (by decide) (by decide) r.2.mem (h.1 c),
    kept_of m ρ c main_arg8 (by decide) (by decide) r.2.mem (h.1 c),
    kept_of m ρ c main_arg9 (by decide) (by decide) r.2.mem (h.1 c),
    kept_of m ρ c main_arg10 (by decide) (by decide) r.2.mem (h.1 c),
    kept_of m ρ c main_arg11 (by decide) (by decide) r.2.mem (h.1 c),
    kept_of m ρ c main_arg12 (by decide) (by decide) r.2.mem (h.1 c)⟩, h.2⟩) (whole_run m ρ)

end Cert.KernelIdeal.Gen

end
-- ==== Proof.Ideal.RefFrame.lean ====
/-
  The reference at ideal values ends with its arguments unchanged and every counter at zero: it runs on the host alone
  and declares no semaphore.
-/
module

public import proofs.«01_k».proof.Proof.Gen.ReferenceIdeal.Run
public import Idealize.ShloMosaic.Lib.Quiescent
public import Idealize.ShloMosaic.PureOps.Ideal

@[expose] public section

noncomputable section

open Idealize.ShloMosaic Idealize.ShloMosaic.TcCoe Idealize.SL.Sem Idealize.ShloMosaic.StableHlo

namespace Cert.ReferenceIdeal.Gen

/-- From any memory with zero counters the reference terminates with its arguments unchanged and its counters zero. -/
theorem frame (m : (ℓ : Loc nD τ sig) → Buf (Elt Ideal) ℓ) (ρ : Dev nD → PrngReg) :
    θ_run (defs (F := Ideal)) (onTc (τ := τ) (main (F := Ideal))) ⟨m, fun _ => 0, ρ⟩ fun r => (∀ c : Dev nD,
        r.2.mem ((c.tc : Thread nD τ).loc main_arg0) = m ((c.tc : Thread nD τ).loc main_arg0) ∧
        r.2.mem ((c.tc : Thread nD τ).loc main_arg1) = m ((c.tc : Thread nD τ).loc main_arg1) ∧
        r.2.mem ((c.tc : Thread nD τ).loc main_arg2) = m ((c.tc : Thread nD τ).loc main_arg2) ∧
        r.2.mem ((c.tc : Thread nD τ).loc main_arg3) = m ((c.tc : Thread nD τ).loc main_arg3) ∧
        r.2.mem ((c.tc : Thread nD τ).loc main_arg4) = m ((c.tc : Thread nD τ).loc main_arg4) ∧
        r.2.mem ((c.tc : Thread nD τ).loc main_arg5) = m ((c.tc : Thread nD τ).loc main_arg5) ∧
        r.2.mem ((c.tc : Thread nD τ).loc main_arg6) = m ((c.tc : Thread nD τ).loc main_arg6) ∧
        r.2.mem ((c.tc : Thread nD τ).loc main_arg7) = m ((c.tc : Thread nD τ).loc main_arg7) ∧
        r.2.mem ((c.tc : Thread nD τ).loc main_arg8) = m ((c.tc : Thread nD τ).loc main_arg8) ∧
        r.2.mem ((c.tc : Thread nD τ).loc main_arg9) = m ((c.tc : Thread nD τ).loc main_arg9) ∧
        r.2.mem ((c.tc : Thread nD τ).loc main_arg10) = m ((c.tc : Thread nD τ).loc main_arg10) ∧
        r.2.mem ((c.tc : Thread nD τ).loc main_arg11) = m ((c.tc : Thread nD τ).loc main_arg11) ∧
        r.2.mem ((c.tc : Thread nD τ).loc main_arg12) = m ((c.tc : Thread nD τ).loc main_arg12)) ∧
      r.2.sem = fun _ => 0 :=
  (θ_run defs _ _).mono (fun r h => ⟨fun c => (h c).2, sem_eq_zero_of_no_sems rfl r.2⟩) (Cert.ReferenceIdeal.Value.run m ρ)

end Cert.ReferenceIdeal.Gen

end

end
-- ==== Proof.Ideal.QkvPay.lean ====
module

public import proofs.«01_k».proof.Proof.Gen.KernelIdeal.Skeleton
public import Idealize.ShloMosaic.Lib.Pointwise
public import Idealize.ShloMosaic.Lib.Pipeline.Value

/-! The projection call's block as a function of its input blocks, read at a row and a column. -/

@[expose] public section

set_option maxRecDepth 16384

noncomputable section

namespace Cert.KernelIdeal.Qkv

open Cert.KernelIdeal Cert.KernelIdeal.Gen Idealize.ShloMosaic Idealize.ShloMosaic.TcCoe Idealize.SL.Sem

/-- The factor the queries carry: log₂ e / 8. -/
def lg8 : EReal := (((8 * (Real.log 2))⁻¹ : ℝ) : EReal)

theorem named_lg8 : (Named.named (F := Ideal) Cert.KernelIdeal.κ "log2e_8" 0x3E38AA3B#32 : Ideal .f32) = lg8 :=
  IdealRules.named_const.ideal_named_scalar _ _ _ _ rfl

/-- One row's entry of a rotated head: column `col` of the row `y`, its pair 32 columns away, the angle of its lane. -/
def rotAt (y : Fin 2048 → EReal) (c s : Fin 32 → EReal) (col : Fin 2048) : EReal :=
  if h : col.val % 64 < 32 then
    y col * c ⟨col.val % 64, h⟩ - y ⟨col.val + 32, by have := col.isLt; omega⟩ * s ⟨col.val % 64, h⟩
  else
    y col * c ⟨col.val % 64 - 32, by omega⟩ + y ⟨col.val - 32, by omega⟩ * s ⟨col.val % 64 - 32, by omega⟩

/-- One row's entry of the projection: queries rotated and scaled, keys rotated, values as they are. -/
def qkvAt (y : Fin 2048 → EReal) (c s : Fin 32 → EReal) (col : Fin 2048) : EReal :=
  if col.val < 1024 then rotAt y c s col * lg8 else if col.val < 1536 then rotAt y c s col else y col

theorem rotAt_lo (y : Fin 2048 → EReal) (c s : Fin 32 → EReal) (h : ℕ) (l : Fin 32) (col b : Fin 2048)
    (hc : col.val = 64 * h + l.val) (hb : b.val = 64 * h + 32 + l.val) : rotAt y c s col = y col * c l - y b * s l := by
  have hl := l.isLt
  have h1 : col.val % 64 < 32 := by omega
  have e : (⟨col.val % 64, h1⟩ : Fin 32) = l := Fin.ext (by show col.val % 64 = l.val; omega)
  have e2 : (⟨col.val + 32, by have := b.isLt; omega⟩ : Fin 2048) = b := Fin.ext (by show col.val + 32 = b.val; omega)
  unfold rotAt; rw [dif_pos h1, e, e2]

theorem rotAt_hi (y : Fin 2048 → EReal) (c s : Fin 32 → EReal) (h : ℕ) (l : Fin 32) (col b : Fin 2048)
    (hc : col.val = 64 * h + 32 + l.val) (hb : b.val = 64 * h + l.val) : rotAt y c s col = y col * c l + y b * s l := by
  have hl := l.isLt
  have h1 : ¬ col.val % 64 < 32 := by omega
  have e : (⟨col.val % 64 - 32, by omega⟩ : Fin 32) = l := Fin.ext (by show col.val % 64 - 32 = l.val; omega)
  have e2 : (⟨col.val - 32, by omega⟩ : Fin 2048) = b := Fin.ext (by show col.val - 32 = b.val; omega)
  unfold rotAt; rw [dif_neg h1, e, e2]

theorem qkvAt_q (y : Fin 2048 → EReal) (c s : Fin 32 → EReal) (col : Fin 2048) (h : col.val < 1024) :
    qkvAt y c s col = rotAt y c s col * lg8 := by unfold qkvAt; rw [if_pos h]
theorem qkvAt_k (y : Fin 2048 → EReal) (c s : Fin 32 → EReal) (col : Fin 2048) (h : 1024 ≤ col.val) (h' : col.val < 1536) :
    qkvAt y c s col = rotAt y c s col := by unfold qkvAt; rw [if_neg (by omega), if_pos h']
theorem qkvAt_v (y : Fin 2048 → EReal) (c s : Fin 32 → EReal) (col : Fin 2048) (h : 1536 ≤ col.val) :
    qkvAt y c s col = y col := by unfold qkvAt; rw [if_neg (by omega), if_neg (by omega)]

/-- The 48 pieces of 32 columns and the last one of 512. -/
def cat (P : Fin 48 → FVec Ideal S256x32 .f32) (z : FVec Ideal S256x512 .f32) : List ((s : Shape) × (s.Idx → Ideal .f32)) :=
  (List.ofFn fun q => (⟨S256x32, P q⟩ : (s : Shape) × (s.Idx → Ideal .f32))) ++ [⟨S256x512, z⟩]

theorem cat_length (P : Fin 48 → FVec Ideal S256x32 .f32) (z : FVec Ideal S256x512 .f32) : (cat P z).length = 49 := by
  unfold cat; rw [List.length_append, List.length_ofFn]; rfl

theorem cat_shapes (P : Fin 48 → FVec Ideal S256x32 .f32) (z : FVec Ideal S256x512 .f32) :
    (cat P z).map (·.1) = List.replicate 48 S256x32 ++ [S256x512] := by
  unfold cat
  rw [List.map_append, List.map_ofFn, ← List.ofFn_const]
  rfl

theorem cat_pre (P : Fin 48 → FVec Ideal S256x32 .f32) (z : FVec Ideal S256x512 .f32) (q : ℕ) (hq : q ≤ 48) :
    ((((cat P z).take q).map (·.1)).map fun s => if h : s.rank = S256x2048.rank then s.size ((1 : Fin S256x2048.rank).cast h.symm) else 0).sum = 32 * q := by
  rw [List.map_take, cat_shapes, List.take_append_of_le_length (by simpa using hq), List.take_replicate, List.map_replicate, List.sum_replicate, Nat.min_eq_left hq]
  show q • 32 = 32 * q
  rw [smul_eq_mul, Nat.mul_comm]

theorem cat_ok (P : Fin 48 → FVec Ideal S256x32 .f32) (z : FVec Ideal S256x512 .f32) : Shape.Concatenates ((cat P z).map (·.1)) S256x2048 1 := by
  rw [cat_shapes]; decide

/-- A piece of 32 columns of the concatenation. -/
theorem cat_piece (P : Fin 48 → FVec Ideal S256x32 .f32) (z : FVec Ideal S256x512 .f32) (h : Shape.Concatenates ((cat P z).map (·.1)) S256x2048 1)
    (r : Fin 256) (q : Fin 48) (l : Fin 32) (hl : 32 * q.val + l.val < 2048) :
    concatenate S256x2048 1 (cat P z) h (ix2 r ⟨32 * q.val + l.val, hl⟩ : S256x2048.Idx) = P q (ix2 r l) :=
  concatenate_apply_piece (t := S256x2048) 1 (cat P z) h (ix2 r ⟨32 * q.val + l.val, hl⟩) q.val (by rw [cat_length]; have := q.isLt; omega) S256x32 (P q)
    (by unfold cat; rw [List.getElem_append_left (by rw [List.length_ofFn]; exact q.isLt), List.getElem_ofFn]) rfl (32 * q.val) (cat_pre P z q.val q.isLt.le) (ix2 r l)
    (fun b hb => by match b with
      | ⟨0, _⟩ => rfl
      | ⟨1, _⟩ => exact absurd rfl hb) rfl

/-- The last 512 columns of the concatenation. -/
theorem cat_last (P : Fin 48 → FVec Ideal S256x32 .f32) (z : FVec Ideal S256x512 .f32) (h : Shape.Concatenates ((cat P z).map (·.1)) S256x2048 1)
    (r : Fin 256) (l : Fin 512) (hl : 1536 + l.val < 2048) :
    concatenate S256x2048 1 (cat P z) h (ix2 r ⟨1536 + l.val, hl⟩ : S256x2048.Idx) = z (ix2 r l) :=
  concatenate_apply_piece (t := S256x2048) 1 (cat P z) h (ix2 r ⟨1536 + l.val, hl⟩) 48 (by rw [cat_length]; omega) S256x512 z
    (by unfold cat; rw [List.getElem_append_right (by rw [List.length_ofFn])]; simp only [List.length_ofFn, Nat.sub_self, List.getElem_cons_zero]) rfl 1536 (cat_pre P z 48 le_rfl) (ix2 r l)
    (fun b hb => by match b with
      | ⟨0, _⟩ => rfl
      | ⟨1, _⟩ => exact absurd rfl hb) rfl

/-- The pieces of the block: two per rotated head. -/
def piece (y : FVec Ideal S256x2048 .f32) (c s : FVec Ideal S256x32 .f32) : Fin 48 → FVec Ideal S256x32 .f32 :=
  ![
    mulf (subf (mulf (extractStridedSlice S256x32 ![0, 0] y slices_S256x2048_o0_0_S256x32) c) (mulf (extractStridedSlice S256x32 ![0, 32] y slices_S256x2048_o0_32_S256x32) s)) (broadcast S256x32 (Named.named κ "log2e_8" 0x3E38AA3B#32)),
    k0_pay17 c s (extractStridedSlice S256x32 ![0, 0] y slices_S256x2048_o0_0_S256x32) (extractStridedSlice S256x32 ![0, 32] y slices_S256x2048_o0_32_S256x32),
    (k0_pay20 y c s),
    (k0_pay21 y c s),
    (k0_pay24 y c s),
    (k0_pay25 y c s),
    (k0_pay28 y c s),
    (k0_pay29 y c s),
    (k0_pay32 y c s),
    (k0_pay34 (k0_pay33 y c s) (Named.named κ "log2e_8" 0x3E38AA3B#32 : Ideal .f32)),
    (k0_pay37 y c s),
    (k0_pay38 y c s),
    (k0_pay41 y c s),
    (k0_pay42 y c s),
    (k0_pay45 y c s),
    (k0_pay46 y c s),
    (k0_pay49 y c s),
    (k0_pay50 y c s),
    (k0_pay53 c s (k0_pay51 y) (k0_pay52 y)),
    (k0_pay54 c s (k0_pay51 y) (k0_pay52 y)),
    (k0_pay57 y c s),
    (k0_pay58 y c s),
    (k0_pay61 y c s),
    (k0_pay62 y c s),
    (k0_pay65 y c s),
    (k0_pay66 y c s),
    (k0_pay70 (k0_pay69 y c s) (Named.named κ "log2e_8" 0x3E38AA3B#32 : Ideal .f32)),
    (k0_pay71 c s (k0_pay67 y) (k0_pay68 y)),
    (k0_pay74 y c s),
    (k0_pay75 y c s),
    (k0_pay78 y c s),
    (k0_pay79 y c s),
    (k0_pay82 y c s),
    (k0_pay83 y c s),
    (k0_pay86 y c s),
    (k0_pay89 (k0_pay87 y c) (k0_pay88 y s)),
    (k0_pay92 y c s),
    (k0_pay93 y c s),
    (k0_pay96 y c s),
    (k0_pay97 y c s),
    (k0_pay100 y c s),
    (k0_pay101 y c s),
    (k0_pay104 y c s),
    (k0_pay105 y c s),
    mulf (k0_pay1 c s (extractStridedSlice S256x32 ![0, 1408] y slices_S256x2048_o0_1408_S256x32) (extractStridedSlice S256x32 ![0, 1440] y slices_S256x2048_o0_1440_S256x32)) (broadcast S256x32 (Scalar.ofBits .f32 0x3F800000#32)),
    mulf (k0_pay2 c s (extractStridedSlice S256x32 ![0, 1408] y slices_S256x2048_o0_1408_S256x32) (extractStridedSlice S256x32 ![0, 1440] y slices_S256x2048_o0_1440_S256x32)) (broadcast S256x32 (Scalar.ofBits .f32 0x3F800000#32)),
    mulf (k0_pay3 c s (extractStridedSlice S256x32 ![0, 1472] y slices_S256x2048_o0_1472_S256x32) (extractStridedSlice S256x32 ![0, 1504] y slices_S256x2048_o0_1504_S256x32)) (broadcast S256x32 (Scalar.ofBits .f32 0x3F800000#32)),
    mulf (k0_pay4 c s (extractStridedSlice S256x32 ![0, 1472] y slices_S256x2048_o0_1472_S256x32) (extractStridedSlice S256x32 ![0, 1504] y slices_S256x2048_o0_1504_S256x32)) (broadcast S256x32 (Scalar.ofBits .f32 0x3F800000#32))]

/-- The block the call's body stores, from its input blocks. -/
def qkvBlk (x0 : FVec Ideal S256x1024 .f32) (x1 : FVec Ideal S1x1024 .f32) (w : FVec Ideal S1024x2048 .bf16) (x5 : FVec Ideal S256x128 .f32) : FVec Ideal S256x2048 .bf16 :=
  k0_pay6 (concatenate S256x2048 1 (cat (piece (k0_pay10 x0 x1 w) (k0_pay12 x5) (k0_pay13 x5)) (extractStridedSlice S256x512 ![0, 1536] (k0_pay10 x0 x1 w) slices_S256x2048_o0_1536_S256x512)) (cat_ok _ _))

theorem piece_0 (y : FVec Ideal S256x2048 .f32) (c s : FVec Ideal S256x32 .f32) (r : Fin 256) (l : Fin 32) :
    piece y c s 0 (ix2 r l) = (y (ix2 r ⟨0 + l.val, by have := l.isLt; omega⟩) * c (ix2 r l) - y (ix2 r ⟨32 + l.val, by have := l.isLt; omega⟩) * s (ix2 r l)) * lg8 := by
  show (mulf (subf (mulf (extractStridedSlice S256x32 ![0, 0] y slices_S256x2048_o0_0_S256x32) c) (mulf (extractStridedSlice S256x32 ![0, 32] y slices_S256x2048_o0_32_S256x32) s)) (broadcast S256x32 (Named.named κ "log2e_8" 0x3E38AA3B#32))) (ix2 r l) = _
  pointwise [named_lg8]
theorem piece_1 (y : FVec Ideal S256x2048 .f32) (c s : FVec Ideal S256x32 .f32) (r : Fin 256) (l : Fin 32) :
    piece y c s 1 (ix2 r l) = (y (ix2 r ⟨32 + l.val, by have := l.isLt; omega⟩) * c (ix2 r l) + y (ix2 r ⟨0 + l.val, by have := l.isLt; omega⟩) * s (ix2 r l)) * lg8 := by
  show (k0_pay17 c s (extractStridedSlice S256x32 ![0, 0] y slices_S256x2048_o0_0_S256x32) (extractStridedSlice S256x32 ![0, 32] y slices_S256x2048_o0_32_S256x32)) (ix2 r l) = _
  pointwise [k0_pay17, named_lg8]
theorem piece_2 (y : FVec Ideal S256x2048 .f32) (c s : FVec Ideal S256x32 .f32) (r : Fin 256) (l : Fin 32) :
    piece y c s 2 (ix2 r l) = (y (ix2 r ⟨64 + l.val, by have := l.isLt; omega⟩) * c (ix2 r l) - y (ix2 r ⟨96 + l.val, by have := l.isLt; omega⟩) * s (ix2 r l)) * lg8 := by
  show ((k0_pay20 y c s)) (ix2 r l) = _
  pointwise [k0_pay18, k0_pay19, k0_pay20, named_lg8]
theorem piece_3 (y : FVec Ideal S256x2048 .f32) (c s : FVec Ideal S256x32 .f32) (r : Fin 256) (l : Fin 32) :
    piece y c s 3 (ix2 r l) = (y (ix2 r ⟨96 + l.val, by have := l.isLt; omega⟩) * c (ix2 r l) + y (ix2 r ⟨64 + l.val, by have := l.isLt; omega⟩) * s (ix2 r l)) * lg8 := by
  show ((k0_pay21 y c s)) (ix2 r l) = _
  pointwise [k0_pay18, k0_pay19, k0_pay21, named_lg8]
theorem piece_4 (y : FVec Ideal S256x2048 .f32) (c s : FVec Ideal S256x32 .f32) (r : Fin 256) (l : Fin 32) :
    piece y c s 4 (ix2 r l) = (y (ix2 r ⟨128 + l.val, by have := l.isLt; omega⟩) * c (ix2 r l) - y (ix2 r ⟨160 + l.val, by have := l.isLt; omega⟩) * s (ix2 r l)) * lg8 := by
  show ((k0_pay24 y c s)) (ix2 r l) = _
  pointwise [k0_pay22, k0_pay23, k0_pay24, named_lg8]
theorem piece_5 (y : FVec Ideal S256x2048 .f32) (c s : FVec Ideal S256x32 .f32) (r : Fin 256) (l : Fin 32) :
    piece y c s 5 (ix2 r l) = (y (ix2 r ⟨160 + l.val, by have := l.isLt; omega⟩) * c (ix2 r l) + y (ix2 r ⟨128 + l.val, by have := l.isLt; omega⟩) * s (ix2 r l)) * lg8 := by
  show ((k0_pay25 y c s)) (ix2 r l) = _
  pointwise [k0_pay22, k0_pay23, k0_pay25, named_lg8]
theorem piece_6 (y : FVec Ideal S256x2048 .f32) (c s : FVec Ideal S256x32 .f32) (r : Fin 256) (l : Fin 32) :
    piece y c s 6 (ix2 r l) = (y (ix2 r ⟨192 + l.val, by have := l.isLt; omega⟩) * c (ix2 r l) - y (ix2 r ⟨224 + l.val, by have := l.isLt; omega⟩) * s (ix2 r l)) * lg8 := by
  show ((k0_pay28 y c s)) (ix2 r l) = _
  pointwise [k0_pay26, k0_pay27, k0_pay28, named_lg8]
theorem piece_7 (y : FVec Ideal S256x2048 .f32) (c s : FVec Ideal S256x32 .f32) (r : Fin 256) (l : Fin 32) :
    piece y c s 7 (ix2 r l) = (y (ix2 r ⟨224 + l.val, by have := l.isLt; omega⟩) * c (ix2 r l) + y (ix2 r ⟨192 + l.val, by have := l.isLt; omega⟩) * s (ix2 r l)) * lg8 := by
  show ((k0_pay29 y c s)) (ix2 r l) = _
  pointwise [k0_pay26, k0_pay27, k0_pay29, named_lg8]
theorem piece_8 (y : FVec Ideal S256x2048 .f32) (c s : FVec Ideal S256x32 .f32) (r : Fin 256) (l : Fin 32) :
    piece y c s 8 (ix2 r l) = (y (ix2 r ⟨256 + l.val, by have := l.isLt; omega⟩) * c (ix2 r l) - y (ix2 r ⟨288 + l.val, by have := l.isLt; omega⟩) * s (ix2 r l)) * lg8 := by
  show ((k0_pay32 y c s)) (ix2 r l) = _
  pointwise [k0_pay30, k0_pay31, k0_pay32, named_lg8]
theorem piece_9 (y : FVec Ideal S256x2048 .f32) (c s : FVec Ideal S256x32 .f32) (r : Fin 256) (l : Fin 32) :
    piece y c s 9 (ix2 r l) = (y (ix2 r ⟨288 + l.val, by have := l.isLt; omega⟩) * c (ix2 r l) + y (ix2 r ⟨256 + l.val, by have := l.isLt; omega⟩) * s (ix2 r l)) * lg8 := by
  show ((k0_pay34 (k0_pay33 y c s) (Named.named κ "log2e_8" 0x3E38AA3B#32 : Ideal .f32))) (ix2 r l) = _
  pointwise [k0_pay30, k0_pay31, k0_pay33, k0_pay34, named_lg8]
theorem piece_10 (y : FVec Ideal S256x2048 .f32) (c s : FVec Ideal S256x32 .f32) (r : Fin 256) (l : Fin 32) :
    piece y c s 10 (ix2 r l) = (y (ix2 r ⟨320 + l.val, by have := l.isLt; omega⟩) * c (ix2 r l) - y (ix2 r ⟨352 + l.val, by have := l.isLt; omega⟩) * s (ix2 r l)) * lg8 := by
  show ((k0_pay37 y c s)) (ix2 r l) = _
  pointwise [k0_pay35, k0_pay36, k0_pay37, named_lg8]
theorem piece_11 (y : FVec Ideal S256x2048 .f32) (c s : FVec Ideal S256x32 .f32) (r : Fin 256) (l : Fin 32) :
    piece y c s 11 (ix2 r l) = (y (ix2 r ⟨352 + l.val, by have := l.isLt; omega⟩) * c (ix2 r l) + y (ix2 r ⟨320 + l.val, by have := l.isLt; omega⟩) * s (ix2 r l)) * lg8 := by
  show ((k0_pay38 y c s)) (ix2 r l) = _
  pointwise [k0_pay35, k0_pay36, k0_pay38, named_lg8]
theorem piece_12 (y : FVec Ideal S256x2048 .f32) (c s : FVec Ideal S256x32 .f32) (r : Fin 256) (l : Fin 32) :
    piece y c s 12 (ix2 r l) = (y (ix2 r ⟨384 + l.val, by have := l.isLt; omega⟩) * c (ix2 r l) - y (ix2 r ⟨416 + l.val, by have := l.isLt; omega⟩) * s (ix2 r l)) * lg8 := by
  show ((k0_pay41 y c s)) (ix2 r l) = _
  pointwise [k0_pay39, k0_pay40, k0_pay41, named_lg8]
theorem piece_13 (y : FVec Ideal S256x2048 .f32) (c s : FVec Ideal S256x32 .f32) (r : Fin 256) (l : Fin 32) :
    piece y c s 13 (ix2 r l) = (y (ix2 r ⟨416 + l.val, by have := l.isLt; omega⟩) * c (ix2 r l) + y (ix2 r ⟨384 + l.val, by have := l.isLt; omega⟩) * s (ix2 r l)) * lg8 := by
  show ((k0_pay42 y c s)) (ix2 r l) = _
  pointwise [k0_pay39, k0_pay40, k0_pay42, named_lg8]
theorem piece_14 (y : FVec Ideal S256x2048 .f32) (c s : FVec Ideal S256x32 .f32) (r : Fin 256) (l : Fin 32) :
    piece y c s 14 (ix2 r l) = (y (ix2 r ⟨448 + l.val, by have := l.isLt; omega⟩) * c (ix2 r l) - y (ix2 r ⟨480 + l.val, by have := l.isLt; omega⟩) * s (ix2 r l)) * lg8 := by
  show ((k0_pay45 y c s)) (ix2 r l) = _
  pointwise [k0_pay43, k0_pay44, k0_pay45, named_lg8]
theorem piece_15 (y : FVec Ideal S256x2048 .f32) (c s : FVec Ideal S256x32 .f32) (r : Fin 256) (l : Fin 32) :
    piece y c s 15 (ix2 r l) = (y (ix2 r ⟨480 + l.val, by have := l.isLt; omega⟩) * c (ix2 r l) + y (ix2 r ⟨448 + l.val, by have := l.isLt; omega⟩) * s (ix2 r l)) * lg8 := by
  show ((k0_pay46 y c s)) (ix2 r l) = _
  pointwise [k0_pay43, k0_pay44, k0_pay46, named_lg8]
theorem piece_16 (y : FVec Ideal S256x2048 .f32) (c s : FVec Ideal S256x32 .f32) (r : Fin 256) (l : Fin 32) :
    piece y c s 16 (ix2 r l) = (y (ix2 r ⟨512 + l.val, by have := l.isLt; omega⟩) * c (ix2 r l) - y (ix2 r ⟨544 + l.val, by have := l.isLt; omega⟩) * s (ix2 r l)) * lg8 := by
  show ((k0_pay49 y c s)) (ix2 r l) = _
  pointwise [k0_pay47, k0_pay48, k0_pay49, named_lg8]
theorem piece_17 (y : FVec Ideal S256x2048 .f32) (c s : FVec Ideal S256x32 .f32) (r : Fin 256) (l : Fin 32) :
    piece y c s 17 (ix2 r l) = (y (ix2 r ⟨544 + l.val, by have := l.isLt; omega⟩) * c (ix2 r l) + y (ix2 r ⟨512 + l.val, by have := l.isLt; omega⟩) * s (ix2 r l)) * lg8 := by
  show ((k0_pay50 y c s)) (ix2 r l) = _
  pointwise [k0_pay47, k0_pay48, k0_pay50, named_lg8]
theorem piece_18 (y : FVec Ideal S256x2048 .f32) (c s : FVec Ideal S256x32 .f32) (r : Fin 256) (l : Fin 32) :
    piece y c s 18 (ix2 r l) = (y (ix2 r ⟨576 + l.val, by have := l.isLt; omega⟩) * c (ix2 r l) - y (ix2 r ⟨608 + l.val, by have := l.isLt; omega⟩) * s (ix2 r l)) * lg8 := by
  show ((k0_pay53 c s (k0_pay51 y) (k0_pay52 y))) (ix2 r l) = _
  pointwise [k0_pay51, k0_pay52, k0_pay53, named_lg8]
theorem piece_19 (y : FVec Ideal S256x2048 .f32) (c s : FVec Ideal S256x32 .f32) (r : Fin 256) (l : Fin 32) :
    piece y c s 19 (ix2 r l) = (y (ix2 r ⟨608 + l.val, by have := l.isLt; omega⟩) * c (ix2 r l) + y (ix2 r ⟨576 + l.val, by have := l.isLt; omega⟩) * s (ix2 r l)) * lg8 := by
  show ((k0_pay54 c s (k0_pay51 y) (k0_pay52 y))) (ix2 r l) = _
  pointwise [k0_pay51, k0_pay52, k0_pay54, named_lg8]
theorem piece_20 (y : FVec Ideal S256x2048 .f32) (c s : FVec Ideal S256x32 .f32) (r : Fin 256) (l : Fin 32) :
    piece y c s 20 (ix2 r l) = (y (ix2 r ⟨640 + l.val, by have := l.isLt; omega⟩) * c (ix2 r l) - y (ix2 r ⟨672 + l.val, by have := l.isLt; omega⟩) * s (ix2 r l)) * lg8 := by
  show ((k0_pay57 y c s)) (ix2 r l) = _
  pointwise [k0_pay55, k0_pay56, k0_pay57, named_lg8]
theorem piece_21 (y : FVec Ideal S256x2048 .f32) (c s : FVec Ideal S256x32 .f32) (r : Fin 256) (l : Fin 32) :
    piece y c s 21 (ix2 r l) = (y (ix2 r ⟨672 + l.val, by have := l.isLt; omega⟩) * c (ix2 r l) + y (ix2 r ⟨640 + l.val, by have := l.isLt; omega⟩) * s (ix2 r l)) * lg8 := by
  show ((k0_pay58 y c s)) (ix2 r l) = _
  pointwise [k0_pay55, k0_pay56, k0_pay58, named_lg8]
theorem piece_22 (y : FVec Ideal S256x2048 .f32) (c s : FVec Ideal S256x32 .f32) (r : Fin 256) (l : Fin 32) :
    piece y c s 22 (ix2 r l) = (y (ix2 r ⟨704 + l.val, by have := l.isLt; omega⟩) * c (ix2 r l) - y (ix2 r ⟨736 + l.val, by have := l.isLt; omega⟩) * s (ix2 r l)) * lg8 := by
  show ((k0_pay61 y c s)) (ix2 r l) = _
  pointwise [k0_pay59, k0_pay60, k0_pay61, named_lg8]
theorem piece_23 (y : FVec Ideal S256x2048 .f32) (c s : FVec Ideal S256x32 .f32) (r : Fin 256) (l : Fin 32) :
    piece y c s 23 (ix2 r l) = (y (ix2 r ⟨736 + l.val, by have := l.isLt; omega⟩) * c (ix2 r l) + y (ix2 r ⟨704 + l.val, by have := l.isLt; omega⟩) * s (ix2 r l)) * lg8 := by
  show ((k0_pay62 y c s)) (ix2 r l) = _
  pointwise [k0_pay59, k0_pay60, k0_pay62, named_lg8]
theorem piece_24 (y : FVec Ideal S256x2048 .f32) (c s : FVec Ideal S256x32 .f32) (r : Fin 256) (l : Fin 32) :
    piece y c s 24 (ix2 r l) = (y (ix2 r ⟨768 + l.val, by have := l.isLt; omega⟩) * c (ix2 r l) - y (ix2 r ⟨800 + l.val, by have := l.isLt; omega⟩) * s (ix2 r l)) * lg8 := by
  show ((k0_pay65 y c s)) (ix2 r l) = _
  pointwise [k0_pay63, k0_pay64, k0_pay65, named_lg8]
theorem piece_25 (y : FVec Ideal S256x2048 .f32) (c s : FVec Ideal S256x32 .f32) (r : Fin 256) (l : Fin 32) :
    piece y c s 25 (ix2 r l) = (y (ix2 r ⟨800 + l.val, by have := l.isLt; omega⟩) * c (ix2 r l) + y (ix2 r ⟨768 + l.val, by have := l.isLt; omega⟩) * s (ix2 r l)) * lg8 := by
  show ((k0_pay66 y c s)) (ix2 r l) = _
  pointwise [k0_pay63, k0_pay64, k0_pay66, named_lg8]
theorem piece_26 (y : FVec Ideal S256x2048 .f32) (c s : FVec Ideal S256x32 .f32) (r : Fin 256) (l : Fin 32) :
    piece y c s 26 (ix2 r l) = (y (ix2 r ⟨832 + l.val, by have := l.isLt; omega⟩) * c (ix2 r l) - y (ix2 r ⟨864 + l.val, by have := l.isLt; omega⟩) * s (ix2 r l)) * lg8 := by
  show ((k0_pay70 (k0_pay69 y c s) (Named.named κ "log2e_8" 0x3E38AA3B#32 : Ideal .f32))) (ix2 r l) = _
  pointwise [k0_pay67, k0_pay68, k0_pay69, k0_pay70, named_lg8]
theorem piece_27 (y : FVec Ideal S256x2048 .f32) (c s : FVec Ideal S256x32 .f32) (r : Fin 256) (l : Fin 32) :
    piece y c s 27 (ix2 r l) = (y (ix2 r ⟨864 + l.val, by have := l.isLt; omega⟩) * c (ix2 r l) + y (ix2 r ⟨832 + l.val, by have := l.isLt; omega⟩) * s (ix2 r l)) * lg8 := by
  show ((k0_pay71 c s (k0_pay67 y) (k0_pay68 y))) (ix2 r l) = _
  pointwise [k0_pay67, k0_pay68, k0_pay71, named_lg8]
theorem piece_28 (y : FVec Ideal S256x2048 .f32) (c s : FVec Ideal S256x32 .f32) (r : Fin 256) (l : Fin 32) :
    piece y c s 28 (ix2 r l) = (y (ix2 r ⟨896 + l.val, by have := l.isLt; omega⟩) * c (ix2 r l) - y (ix2 r ⟨928 + l.val, by have := l.isLt; omega⟩) * s (ix2 r l)) * lg8 := by
  show ((k0_pay74 y c s)) (ix2 r l) = _
  pointwise [k0_pay72, k0_pay73, k0_pay74, named_lg8]
theorem piece_29 (y : FVec Ideal S256x2048 .f32) (c s : FVec Ideal S256x32 .f32) (r : Fin 256) (l : Fin 32) :
    piece y c s 29 (ix2 r l) = (y (ix2 r ⟨928 + l.val, by have := l.isLt; omega⟩) * c (ix2 r l) + y (ix2 r ⟨896 + l.val, by have := l.isLt; omega⟩) * s (ix2 r l)) * lg8 := by
  show ((k0_pay75 y c s)) (ix2 r l) = _
  pointwise [k0_pay72, k0_pay73, k0_pay75, named_lg8]
theorem piece_30 (y : FVec Ideal S256x2048 .f32) (c s : FVec Ideal S256x32 .f32) (r : Fin 256) (l : Fin 32) :
    piece y c s 30 (ix2 r l) = (y (ix2 r ⟨960 + l.val, by have := l.isLt; omega⟩) * c (ix2 r l) - y (ix2 r ⟨992 + l.val, by have := l.isLt; omega⟩) * s (ix2 r l)) * lg8 := by
  show ((k0_pay78 y c s)) (ix2 r l) = _
  pointwise [k0_pay76, k0_pay77, k0_pay78, named_lg8]
theorem piece_31 (y : FVec Ideal S256x2048 .f32) (c s : FVec Ideal S256x32 .f32) (r : Fin 256) (l : Fin 32) :
    piece y c s 31 (ix2 r l) = (y (ix2 r ⟨992 + l.val, by have := l.isLt; omega⟩) * c (ix2 r l) + y (ix2 r ⟨960 + l.val, by have := l.isLt; omega⟩) * s (ix2 r l)) * lg8 := by
  show ((k0_pay79 y c s)) (ix2 r l) = _
  pointwise [k0_pay76, k0_pay77, k0_pay79, named_lg8]
theorem piece_32 (y : FVec Ideal S256x2048 .f32) (c s : FVec Ideal S256x32 .f32) (r : Fin 256) (l : Fin 32) :
    piece y c s 32 (ix2 r l) = (y (ix2 r ⟨1024 + l.val, by have := l.isLt; omega⟩) * c (ix2 r l) - y (ix2 r ⟨1056 + l.val, by have := l.isLt; omega⟩) * s (ix2 r l)) := by
  show ((k0_pay82 y c s)) (ix2 r l) = _
  pointwise [k0_pay80, k0_pay81, k0_pay82]
theorem piece_33 (y : FVec Ideal S256x2048 .f32) (c s : FVec Ideal S256x32 .f32) (r : Fin 256) (l : Fin 32) :
    piece y c s 33 (ix2 r l) = (y (ix2 r ⟨1056 + l.val, by have := l.isLt; omega⟩) * c (ix2 r l) + y (ix2 r ⟨1024 + l.val, by have := l.isLt; omega⟩) * s (ix2 r l)) := by
  show ((k0_pay83 y c s)) (ix2 r l) = _
  pointwise [k0_pay80, k0_pay81, k0_pay83]
theorem piece_34 (y : FVec Ideal S256x2048 .f32) (c s : FVec Ideal S256x32 .f32) (r : Fin 256) (l : Fin 32) :
    piece y c s 34 (ix2 r l) = (y (ix2 r ⟨1088 + l.val, by have := l.isLt; omega⟩) * c (ix2 r l) - y (ix2 r ⟨1120 + l.val, by have := l.isLt; omega⟩) * s (ix2 r l)) := by
  show ((k0_pay86 y c s)) (ix2 r l) = _
  pointwise [k0_pay84, k0_pay85, k0_pay86]
theorem piece_35 (y : FVec Ideal S256x2048 .f32) (c s : FVec Ideal S256x32 .f32) (r : Fin 256) (l : Fin 32) :
    piece y c s 35 (ix2 r l) = (y (ix2 r ⟨1120 + l.val, by have := l.isLt; omega⟩) * c (ix2 r l) + y (ix2 r ⟨1088 + l.val, by have := l.isLt; omega⟩) * s (ix2 r l)) := by
  show ((k0_pay89 (k0_pay87 y c) (k0_pay88 y s))) (ix2 r l) = _
  pointwise [k0_pay84, k0_pay85, k0_pay87, k0_pay88, k0_pay89]
theorem piece_36 (y : FVec Ideal S256x2048 .f32) (c s : FVec Ideal S256x32 .f32) (r : Fin 256) (l : Fin 32) :
    piece y c s 36 (ix2 r l) = (y (ix2 r ⟨1152 + l.val, by have := l.isLt; omega⟩) * c (ix2 r l) - y (ix2 r ⟨1184 + l.val, by have := l.isLt; omega⟩) * s (ix2 r l)) := by
  show ((k0_pay92 y c s)) (ix2 r l) = _
  pointwise [k0_pay90, k0_pay91, k0_pay92]
theorem piece_37 (y : FVec Ideal S256x2048 .f32) (c s : FVec Ideal S256x32 .f32) (r : Fin 256) (l : Fin 32) :
    piece y c s 37 (ix2 r l) = (y (ix2 r ⟨1184 + l.val, by have := l.isLt; omega⟩) * c (ix2 r l) + y (ix2 r ⟨1152 + l.val, by have := l.isLt; omega⟩) * s (ix2 r l)) := by
  show ((k0_pay93 y c s)) (ix2 r l) = _
  pointwise [k0_pay90, k0_pay91, k0_pay93]
theorem piece_38 (y : FVec Ideal S256x2048 .f32) (c s : FVec Ideal S256x32 .f32) (r : Fin 256) (l : Fin 32) :
    piece y c s 38 (ix2 r l) = (y (ix2 r ⟨1216 + l.val, by have := l.isLt; omega⟩) * c (ix2 r l) - y (ix2 r ⟨1248 + l.val, by have := l.isLt; omega⟩) * s (ix2 r l)) := by
  show ((k0_pay96 y c s)) (ix2 r l) = _
  pointwise [k0_pay94, k0_pay95, k0_pay96]
theorem piece_39 (y : FVec Ideal S256x2048 .f32) (c s : FVec Ideal S256x32 .f32) (r : Fin 256) (l : Fin 32) :
    piece y c s 39 (ix2 r l) = (y (ix2 r ⟨1248 + l.val, by have := l.isLt; omega⟩) * c (ix2 r l) + y (ix2 r ⟨1216 + l.val, by have := l.isLt; omega⟩) * s (ix2 r l)) := by
  show ((k0_pay97 y c s)) (ix2 r l) = _
  pointwise [k0_pay94, k0_pay95, k0_pay97]
theorem piece_40 (y : FVec Ideal S256x2048 .f32) (c s : FVec Ideal S256x32 .f32) (r : Fin 256) (l : Fin 32) :
    piece y c s 40 (ix2 r l) = (y (ix2 r ⟨1280 + l.val, by have := l.isLt; omega⟩) * c (ix2 r l) - y (ix2 r ⟨1312 + l.val, by have := l.isLt; omega⟩) * s (ix2 r l)) := by
  show ((k0_pay100 y c s)) (ix2 r l) = _
  pointwise [k0_pay98, k0_pay99, k0_pay100]
theorem piece_41 (y : FVec Ideal S256x2048 .f32) (c s : FVec Ideal S256x32 .f32) (r : Fin 256) (l : Fin 32) :
    piece y c s 41 (ix2 r l) = (y (ix2 r ⟨1312 + l.val, by have := l.isLt; omega⟩) * c (ix2 r l) + y (ix2 r ⟨1280 + l.val, by have := l.isLt; omega⟩) * s (ix2 r l)) := by
  show ((k0_pay101 y c s)) (ix2 r l) = _
  pointwise [k0_pay98, k0_pay99, k0_pay101]
theorem piece_42 (y : FVec Ideal S256x2048 .f32) (c s : FVec Ideal S256x32 .f32) (r : Fin 256) (l : Fin 32) :
    piece y c s 42 (ix2 r l) = (y (ix2 r ⟨1344 + l.val, by have := l.isLt; omega⟩) * c (ix2 r l) - y (ix2 r ⟨1376 + l.val, by have := l.isLt; omega⟩) * s (ix2 r l)) := by
  show ((k0_pay104 y c s)) (ix2 r l) = _
  pointwise [k0_pay102, k0_pay103, k0_pay104]
theorem piece_43 (y : FVec Ideal S256x2048 .f32) (c s : FVec Ideal S256x32 .f32) (r : Fin 256) (l : Fin 32) :
    piece y c s 43 (ix2 r l) = (y (ix2 r ⟨1376 + l.val, by have := l.isLt; omega⟩) * c (ix2 r l) + y (ix2 r ⟨1344 + l.val, by have := l.isLt; omega⟩) * s (ix2 r l)) := by
  show ((k0_pay105 y c s)) (ix2 r l) = _
  pointwise [k0_pay102, k0_pay103, k0_pay105]
theorem piece_44 (y : FVec Ideal S256x2048 .f32) (c s : FVec Ideal S256x32 .f32) (r : Fin 256) (l : Fin 32) :
    piece y c s 44 (ix2 r l) = (y (ix2 r ⟨1408 + l.val, by have := l.isLt; omega⟩) * c (ix2 r l) - y (ix2 r ⟨1440 + l.val, by have := l.isLt; omega⟩) * s (ix2 r l)) := by
  show (mulf (k0_pay1 c s (extractStridedSlice S256x32 ![0, 1408] y slices_S256x2048_o0_1408_S256x32) (extractStridedSlice S256x32 ![0, 1440] y slices_S256x2048_o0_1440_S256x32)) (broadcast S256x32 (Scalar.ofBits .f32 0x3F800000#32))) (ix2 r l) = _
  pointwise [k0_pay1]
theorem piece_45 (y : FVec Ideal S256x2048 .f32) (c s : FVec Ideal S256x32 .f32) (r : Fin 256) (l : Fin 32) :
    piece y c s 45 (ix2 r l) = (y (ix2 r ⟨1440 + l.val, by have := l.isLt; omega⟩) * c (ix2 r l) + y (ix2 r ⟨1408 + l.val, by have := l.isLt; omega⟩) * s (ix2 r l)) := by
  show (mulf (k0_pay2 c s (extractStridedSlice S256x32 ![0, 1408] y slices_S256x2048_o0_1408_S256x32) (extractStridedSlice S256x32 ![0, 1440] y slices_S256x2048_o0_1440_S256x32)) (broadcast S256x32 (Scalar.ofBits .f32 0x3F800000#32))) (ix2 r l) = _
  pointwise [k0_pay2]
theorem piece_46 (y : FVec Ideal S256x2048 .f32) (c s : FVec Ideal S256x32 .f32) (r : Fin 256) (l : Fin 32) :
    piece y c s 46 (ix2 r l) = (y (ix2 r ⟨1472 + l.val, by have := l.isLt; omega⟩) * c (ix2 r l) - y (ix2 r ⟨1504 + l.val, by have := l.isLt; omega⟩) * s (ix2 r l)) := by
  show (mulf (k0_pay3 c s (extractStridedSlice S256x32 ![0, 1472] y slices_S256x2048_o0_1472_S256x32) (extractStridedSlice S256x32 ![0, 1504] y slices_S256x2048_o0_1504_S256x32)) (broadcast S256x32 (Scalar.ofBits .f32 0x3F800000#32))) (ix2 r l) = _
  pointwise [k0_pay3]
theorem piece_47 (y : FVec Ideal S256x2048 .f32) (c s : FVec Ideal S256x32 .f32) (r : Fin 256) (l : Fin 32) :
    piece y c s 47 (ix2 r l) = (y (ix2 r ⟨1504 + l.val, by have := l.isLt; omega⟩) * c (ix2 r l) + y (ix2 r ⟨1472 + l.val, by have := l.isLt; omega⟩) * s (ix2 r l)) := by
  show (mulf (k0_pay4 c s (extractStridedSlice S256x32 ![0, 1472] y slices_S256x2048_o0_1472_S256x32) (extractStridedSlice S256x32 ![0, 1504] y slices_S256x2048_o0_1504_S256x32)) (broadcast S256x32 (Scalar.ofBits .f32 0x3F800000#32))) (ix2 r l) = _
  pointwise [k0_pay4]

/-- The block at a row and a column. -/
theorem qkvBlk_apply (x0 : FVec Ideal S256x1024 .f32) (x1 : FVec Ideal S1x1024 .f32) (w : FVec Ideal S1024x2048 .bf16) (x5 : FVec Ideal S256x128 .f32)
    (r : Fin 256) (col : Fin 2048) : qkvBlk x0 x1 w x5 (ix2 r col : S256x2048.Idx)
      = qkvAt (fun d => k0_pay10 (F := Ideal) x0 x1 w (ix2 r d)) (fun l => k0_pay12 (F := Ideal) x5 (ix2 r l)) (fun l => k0_pay13 (F := Ideal) x5 (ix2 r l)) col := by
  by_cases hv : 1536 ≤ col.val
  · obtain ⟨l, hb, rfl⟩ : ∃ (l : Fin 512) (hb : 1536 + l.val < 2048), col = ⟨1536 + l.val, hb⟩ :=
      ⟨⟨col.val - 1536, by have := col.isLt; omega⟩, by show 1536 + (col.val - 1536) < 2048; have := col.isLt; omega, Fin.ext (by show col.val = 1536 + (col.val - 1536); omega)⟩
    rw [qkvAt_v _ _ _ _ hv]
    refine (cat_last _ _ (cat_ok _ _) r l hb).trans ?_
    pointwise
  obtain ⟨q, l, hq, hb, rfl⟩ : ∃ (q : ℕ) (l : Fin 32) (hq : q < 48) (hb : 32 * q + l.val < 2048), col = ⟨32 * q + l.val, hb⟩ :=
    ⟨col.val / 32, ⟨col.val % 32, Nat.mod_lt _ (by decide)⟩, by omega, by show 32 * (col.val / 32) + col.val % 32 < 2048; have := col.isLt; omega, Fin.ext (by show col.val = 32 * (col.val / 32) + col.val % 32; omega)⟩
  have hl := l.isLt
  refine (cat_piece _ _ (cat_ok _ _) r ⟨q, hq⟩ l hb).trans ?_
  clear hv
  interval_cases q
  · rw [qkvAt_q _ _ _ _ (by show 32 * 0 + l.val < 1024; omega), rotAt_lo _ _ _ 0 l _ ⟨32 + l.val, by omega⟩ (by show 32 * 0 + l.val = _; omega) (by show 32 + l.val = _; omega)]
    exact piece_0 _ _ _ r l
  · rw [qkvAt_q _ _ _ _ (by show 32 * 1 + l.val < 1024; omega), rotAt_hi _ _ _ 0 l _ ⟨0 + l.val, by omega⟩ (by show 32 * 1 + l.val = _; omega) (by show 0 + l.val = _; omega)]
    exact piece_1 _ _ _ r l
  · rw [qkvAt_q _ _ _ _ (by show 32 * 2 + l.val < 1024; omega), rotAt_lo _ _ _ 1 l _ ⟨96 + l.val, by omega⟩ (by show 32 * 2 + l.val = _; omega) (by show 96 + l.val = _; omega)]
    exact piece_2 _ _ _ r l
  · rw [qkvAt_q _ _ _ _ (by show 32 * 3 + l.val < 1024; omega), rotAt_hi _ _ _ 1 l _ ⟨64 + l.val, by omega⟩ (by show 32 * 3 + l.val = _; omega) (by show 64 + l.val = _; omega)]
    exact piece_3 _ _ _ r l
  · rw [qkvAt_q _ _ _ _ (by show 32 * 4 + l.val < 1024; omega), rotAt_lo _ _ _ 2 l _ ⟨160 + l.val, by omega⟩ (by show 32 * 4 + l.val = _; omega) (by show 160 + l.val = _; omega)]
    exact piece_4 _ _ _ r l
  · rw [qkvAt_q _ _ _ _ (by show 32 * 5 + l.val < 1024; omega), rotAt_hi _ _ _ 2 l _ ⟨128 + l.val, by omega⟩ (by show 32 * 5 + l.val = _; omega) (by show 128 + l.val = _; omega)]
    exact piece_5 _ _ _ r l
  · rw [qkvAt_q _ _ _ _ (by show 32 * 6 + l.val < 1024; omega), rotAt_lo _ _ _ 3 l _ ⟨224 + l.val, by omega⟩ (by show 32 * 6 + l.val = _; omega) (by show 224 + l.val = _; omega)]
    exact piece_6 _ _ _ r l
  · rw [qkvAt_q _ _ _ _ (by show 32 * 7 + l.val < 1024; omega), rotAt_hi _ _ _ 3 l _ ⟨192 + l.val, by omega⟩ (by show 32 * 7 + l.val = _; omega) (by show 192 + l.val = _; omega)]
    exact piece_7 _ _ _ r l
  · rw [qkvAt_q _ _ _ _ (by show 32 * 8 + l.val < 1024; omega), rotAt_lo _ _ _ 4 l _ ⟨288 + l.val, by omega⟩ (by show 32 * 8 + l.val = _; omega) (by show 288 + l.val = _; omega)]
    exact piece_8 _ _ _ r l
  · rw [qkvAt_q _ _ _ _ (by show 32 * 9 + l.val < 1024; omega), rotAt_hi _ _ _ 4 l _ ⟨256 + l.val, by omega⟩ (by show 32 * 9 + l.val = _; omega) (by show 256 + l.val = _; omega)]
    exact piece_9 _ _ _ r l
  · rw [qkvAt_q _ _ _ _ (by show 32 * 10 + l.val < 1024; omega), rotAt_lo _ _ _ 5 l _ ⟨352 + l.val, by omega⟩ (by show 32 * 10 + l.val = _; omega) (by show 352 + l.val = _; omega)]
    exact piece_10 _ _ _ r l
  · rw [qkvAt_q _ _ _ _ (by show 32 * 11 + l.val < 1024; omega), rotAt_hi _ _ _ 5 l _ ⟨320 + l.val, by omega⟩ (by show 32 * 11 + l.val = _; omega) (by show 320 + l.val = _; omega)]
    exact piece_11 _ _ _ r l
  · rw [qkvAt_q _ _ _ _ (by show 32 * 12 + l.val < 1024; omega), rotAt_lo _ _ _ 6 l _ ⟨416 + l.val, by omega⟩ (by show 32 * 12 + l.val = _; omega) (by show 416 + l.val = _; omega)]
    exact piece_12 _ _ _ r l
  · rw [qkvAt_q _ _ _ _ (by show 32 * 13 + l.val < 1024; omega), rotAt_hi _ _ _ 6 l _ ⟨384 + l.val, by omega⟩ (by show 32 * 13 + l.val = _; omega) (by show 384 + l.val = _; omega)]
    exact piece_13 _ _ _ r l
  · rw [qkvAt_q _ _ _ _ (by show 32 * 14 + l.val < 1024; omega), rotAt_lo _ _ _ 7 l _ ⟨480 + l.val, by omega⟩ (by show 32 * 14 + l.val = _; omega) (by show 480 + l.val = _; omega)]
    exact piece_14 _ _ _ r l
  · rw [qkvAt_q _ _ _ _ (by show 32 * 15 + l.val < 1024; omega), rotAt_hi _ _ _ 7 l _ ⟨448 + l.val, by omega⟩ (by show 32 * 15 + l.val = _; omega) (by show 448 + l.val = _; omega)]
    exact piece_15 _ _ _ r l
  · rw [qkvAt_q _ _ _ _ (by show 32 * 16 + l.val < 1024; omega), rotAt_lo _ _ _ 8 l _ ⟨544 + l.val, by omega⟩ (by show 32 * 16 + l.val = _; omega) (by show 544 + l.val = _; omega)]
    exact piece_16 _ _ _ r l
  · rw [qkvAt_q _ _ _ _ (by show 32 * 17 + l.val < 1024; omega), rotAt_hi _ _ _ 8 l _ ⟨512 + l.val, by omega⟩ (by show 32 * 17 + l.val = _; omega) (by show 512 + l.val = _; omega)]
    exact piece_17 _ _ _ r l
  · rw [qkvAt_q _ _ _ _ (by show 32 * 18 + l.val < 1024; omega), rotAt_lo _ _ _ 9 l _ ⟨608 + l.val, by omega⟩ (by show 32 * 18 + l.val = _; omega) (by show 608 + l.val = _; omega)]
    exact piece_18 _ _ _ r l
  · rw [qkvAt_q _ _ _ _ (by show 32 * 19 + l.val < 1024; omega), rotAt_hi _ _ _ 9 l _ ⟨576 + l.val, by omega⟩ (by show 32 * 19 + l.val = _; omega) (by show 576 + l.val = _; omega)]
    exact piece_19 _ _ _ r l
  · rw [qkvAt_q _ _ _ _ (by show 32 * 20 + l.val < 1024; omega), rotAt_lo _ _ _ 10 l _ ⟨672 + l.val, by omega⟩ (by show 32 * 20 + l.val = _; omega) (by show 672 + l.val = _; omega)]
    exact piece_20 _ _ _ r l
  · rw [qkvAt_q _ _ _ _ (by show 32 * 21 + l.val < 1024; omega), rotAt_hi _ _ _ 10 l _ ⟨640 + l.val, by omega⟩ (by show 32 * 21 + l.val = _; omega) (by show 640 + l.val = _; omega)]
    exact piece_21 _ _ _ r l
  · rw [qkvAt_q _ _ _ _ (by show 32 * 22 + l.val < 1024; omega), rotAt_lo _ _ _ 11 l _ ⟨736 + l.val, by omega⟩ (by show 32 * 22 + l.val = _; omega) (by show 736 + l.val = _; omega)]
    exact piece_22 _ _ _ r l
  · rw [qkvAt_q _ _ _ _ (by show 32 * 23 + l.val < 1024; omega), rotAt_hi _ _ _ 11 l _ ⟨704 + l.val, by omega⟩ (by show 32 * 23 + l.val = _; omega) (by show 704 + l.val = _; omega)]
    exact piece_23 _ _ _ r l
  · rw [qkvAt_q _ _ _ _ (by show 32 * 24 + l.val < 1024; omega), rotAt_lo _ _ _ 12 l _ ⟨800 + l.val, by omega⟩ (by show 32 * 24 + l.val = _; omega) (by show 800 + l.val = _; omega)]
    exact piece_24 _ _ _ r l
  · rw [qkvAt_q _ _ _ _ (by show 32 * 25 + l.val < 1024; omega), rotAt_hi _ _ _ 12 l _ ⟨768 + l.val, by omega⟩ (by show 32 * 25 + l.val = _; omega) (by show 768 + l.val = _; omega)]
    exact piece_25 _ _ _ r l
  · rw [qkvAt_q _ _ _ _ (by show 32 * 26 + l.val < 1024; omega), rotAt_lo _ _ _ 13 l _ ⟨864 + l.val, by omega⟩ (by show 32 * 26 + l.val = _; omega) (by show 864 + l.val = _; omega)]
    exact piece_26 _ _ _ r l
  · rw [qkvAt_q _ _ _ _ (by show 32 * 27 + l.val < 1024; omega), rotAt_hi _ _ _ 13 l _ ⟨832 + l.val, by omega⟩ (by show 32 * 27 + l.val = _; omega) (by show 832 + l.val = _; omega)]
    exact piece_27 _ _ _ r l
  · rw [qkvAt_q _ _ _ _ (by show 32 * 28 + l.val < 1024; omega), rotAt_lo _ _ _ 14 l _ ⟨928 + l.val, by omega⟩ (by show 32 * 28 + l.val = _; omega) (by show 928 + l.val = _; omega)]
    exact piece_28 _ _ _ r l
  · rw [qkvAt_q _ _ _ _ (by show 32 * 29 + l.val < 1024; omega), rotAt_hi _ _ _ 14 l _ ⟨896 + l.val, by omega⟩ (by show 32 * 29 + l.val = _; omega) (by show 896 + l.val = _; omega)]
    exact piece_29 _ _ _ r l
  · rw [qkvAt_q _ _ _ _ (by show 32 * 30 + l.val < 1024; omega), rotAt_lo _ _ _ 15 l _ ⟨992 + l.val, by omega⟩ (by show 32 * 30 + l.val = _; omega) (by show 992 + l.val = _; omega)]
    exact piece_30 _ _ _ r l
  · rw [qkvAt_q _ _ _ _ (by show 32 * 31 + l.val < 1024; omega), rotAt_hi _ _ _ 15 l _ ⟨960 + l.val, by omega⟩ (by show 32 * 31 + l.val = _; omega) (by show 960 + l.val = _; omega)]
    exact piece_31 _ _ _ r l
  · rw [qkvAt_k _ _ _ _ (by show 1024 ≤ 32 * 32 + l.val; omega) (by show 32 * 32 + l.val < 1536; omega), rotAt_lo _ _ _ 16 l _ ⟨1056 + l.val, by omega⟩ (by show 32 * 32 + l.val = _; omega) (by show 1056 + l.val = _; omega)]
    exact piece_32 _ _ _ r l
  · rw [qkvAt_k _ _ _ _ (by show 1024 ≤ 32 * 33 + l.val; omega) (by show 32 * 33 + l.val < 1536; omega), rotAt_hi _ _ _ 16 l _ ⟨1024 + l.val, by omega⟩ (by show 32 * 33 + l.val = _; omega) (by show 1024 + l.val = _; omega)]
    exact piece_33 _ _ _ r l
  · rw [qkvAt_k _ _ _ _ (by show 1024 ≤ 32 * 34 + l.val; omega) (by show 32 * 34 + l.val < 1536; omega), rotAt_lo _ _ _ 17 l _ ⟨1120 + l.val, by omega⟩ (by show 32 * 34 + l.val = _; omega) (by show 1120 + l.val = _; omega)]
    exact piece_34 _ _ _ r l
  · rw [qkvAt_k _ _ _ _ (by show 1024 ≤ 32 * 35 + l.val; omega) (by show 32 * 35 + l.val < 1536; omega), rotAt_hi _ _ _ 17 l _ ⟨1088 + l.val, by omega⟩ (by show 32 * 35 + l.val = _; omega) (by show 1088 + l.val = _; omega)]
    exact piece_35 _ _ _ r l
  · rw [qkvAt_k _ _ _ _ (by show 1024 ≤ 32 * 36 + l.val; omega) (by show 32 * 36 + l.val < 1536; omega), rotAt_lo _ _ _ 18 l _ ⟨1184 + l.val, by omega⟩ (by show 32 * 36 + l.val = _; omega) (by show 1184 + l.val = _; omega)]
    exact piece_36 _ _ _ r l
  · rw [qkvAt_k _ _ _ _ (by show 1024 ≤ 32 * 37 + l.val; omega) (by show 32 * 37 + l.val < 1536; omega), rotAt_hi _ _ _ 18 l _ ⟨1152 + l.val, by omega⟩ (by show 32 * 37 + l.val = _; omega) (by show 1152 + l.val = _; omega)]
    exact piece_37 _ _ _ r l
  · rw [qkvAt_k _ _ _ _ (by show 1024 ≤ 32 * 38 + l.val; omega) (by show 32 * 38 + l.val < 1536; omega), rotAt_lo _ _ _ 19 l _ ⟨1248 + l.val, by omega⟩ (by show 32 * 38 + l.val = _; omega) (by show 1248 + l.val = _; omega)]
    exact piece_38 _ _ _ r l
  · rw [qkvAt_k _ _ _ _ (by show 1024 ≤ 32 * 39 + l.val; omega) (by show 32 * 39 + l.val < 1536; omega), rotAt_hi _ _ _ 19 l _ ⟨1216 + l.val, by omega⟩ (by show 32 * 39 + l.val = _; omega) (by show 1216 + l.val = _; omega)]
    exact piece_39 _ _ _ r l
  · rw [qkvAt_k _ _ _ _ (by show 1024 ≤ 32 * 40 + l.val; omega) (by show 32 * 40 + l.val < 1536; omega), rotAt_lo _ _ _ 20 l _ ⟨1312 + l.val, by omega⟩ (by show 32 * 40 + l.val = _; omega) (by show 1312 + l.val = _; omega)]
    exact piece_40 _ _ _ r l
  · rw [qkvAt_k _ _ _ _ (by show 1024 ≤ 32 * 41 + l.val; omega) (by show 32 * 41 + l.val < 1536; omega), rotAt_hi _ _ _ 20 l _ ⟨1280 + l.val, by omega⟩ (by show 32 * 41 + l.val = _; omega) (by show 1280 + l.val = _; omega)]
    exact piece_41 _ _ _ r l
  · rw [qkvAt_k _ _ _ _ (by show 1024 ≤ 32 * 42 + l.val; omega) (by show 32 * 42 + l.val < 1536; omega), rotAt_lo _ _ _ 21 l _ ⟨1376 + l.val, by omega⟩ (by show 32 * 42 + l.val = _; omega) (by show 1376 + l.val = _; omega)]
    exact piece_42 _ _ _ r l
  · rw [qkvAt_k _ _ _ _ (by show 1024 ≤ 32 * 43 + l.val; omega) (by show 32 * 43 + l.val < 1536; omega), rotAt_hi _ _ _ 21 l _ ⟨1344 + l.val, by omega⟩ (by show 32 * 43 + l.val = _; omega) (by show 1344 + l.val = _; omega)]
    exact piece_43 _ _ _ r l
  · rw [qkvAt_k _ _ _ _ (by show 1024 ≤ 32 * 44 + l.val; omega) (by show 32 * 44 + l.val < 1536; omega), rotAt_lo _ _ _ 22 l _ ⟨1440 + l.val, by omega⟩ (by show 32 * 44 + l.val = _; omega) (by show 1440 + l.val = _; omega)]
    exact piece_44 _ _ _ r l
  · rw [qkvAt_k _ _ _ _ (by show 1024 ≤ 32 * 45 + l.val; omega) (by show 32 * 45 + l.val < 1536; omega), rotAt_hi _ _ _ 22 l _ ⟨1408 + l.val, by omega⟩ (by show 32 * 45 + l.val = _; omega) (by show 1408 + l.val = _; omega)]
    exact piece_45 _ _ _ r l
  · rw [qkvAt_k _ _ _ _ (by show 1024 ≤ 32 * 46 + l.val; omega) (by show 32 * 46 + l.val < 1536; omega), rotAt_lo _ _ _ 23 l _ ⟨1504 + l.val, by omega⟩ (by show 32 * 46 + l.val = _; omega) (by show 1504 + l.val = _; omega)]
    exact piece_46 _ _ _ r l
  · rw [qkvAt_k _ _ _ _ (by show 1024 ≤ 32 * 47 + l.val; omega) (by show 32 * 47 + l.val < 1536; omega), rotAt_hi _ _ _ 23 l _ ⟨1472 + l.val, by omega⟩ (by show 32 * 47 + l.val = _; omega) (by show 1472 + l.val = _; omega)]
    exact piece_47 _ _ _ r l

end Cert.KernelIdeal.Qkv

end

end
-- ==== Proof.Ideal.Spec.lean ====
module

public import proofs.«01_k».proof.Proof.Gen.KernelIdeal.Skeleton
public import Idealize.ShloMosaic.Lib.Pointwise

/-! The arithmetic both programs share, row by row: the normalisation and the products. -/

@[expose] public section

noncomputable section

namespace Cert.Layer

open Idealize.ShloMosaic

/-- The reciprocal root of a row's mean square, shifted by the small constant. -/
def rs (x : Fin 1024 → EReal) : EReal :=
  Ideal.rsqrt (Ideal.div (∑ k, x k * x k) (Ideal.ofBits FTy.f32 0x44800000#32) + Ideal.ofBits FTy.f32 0x3727C5AC#32)

/-- A row normalised and weighted. -/
def nrm (x w : Fin 1024 → EReal) (k : Fin 1024) : EReal := x k * rs x * w k

/-- A normalised row against a column of weights. -/
def proj (x w : Fin 1024 → EReal) (W : Fin 1024 → EReal) : EReal := ∑ k, nrm x w k * W k

/-- The row after the attention: the row itself plus the projected context. -/
def hidRow {n m : ℕ} (x : Fin n → EReal) (cx : Fin m → EReal) (ow : Fin m → Fin n → EReal) : Fin n → EReal := fun d => x d + ∑ k, cx k * ow k d

/-- The scale of a token's gated output from its score. -/
def scl (s : EReal) : EReal :=
  Ideal.ofBits .f32 0x3F000000#32 + (s - Ideal.ofBits .f32 0x3F000000#32)

/-- The gated activation of a normalised row in one inner column. -/
def act (h w : Fin 1024 → EReal) (g u : Fin 1024 → EReal) : EReal := proj h w g * Ideal.logistic (proj h w g) * proj h w u

/-- The gated layer's row: the row itself plus the masked and scaled output. -/
def gated (h w : Fin 1024 → EReal) (g u : Fin 1024 → Fin 2048 → EReal) (dw : Fin 2048 → Fin 1024 → EReal) (m s : EReal) : Fin 1024 → EReal := fun d =>
  h d + m * scl s * ∑ j, act h w (fun k => g k j) (fun k => u k j) * dw j d

end Cert.Layer

end

end
-- ==== Proof.Ideal.QkvVal.lean ====
module

public import proofs.«01_k».proof.Proof.Ideal.QkvPay
public import proofs.«01_k».proof.Proof.Ideal.Qkv
public import proofs.«01_k».proof.Proof.Ideal.Spec
public import Idealize.ShloMosaic.Lib.Pipeline.ValueKit

/-! The projection call's array after the region, entry by entry. -/

@[expose] public section

set_option maxRecDepth 16384

noncomputable section

namespace Cert.KernelIdeal.Qkv

open Cert.KernelIdeal Cert.KernelIdeal.Gen Idealize.ShloMosaic Idealize.ShloMosaic.TcCoe Idealize.SL.Sem Cert.Layer

variable (c : Dev nD) (t : Fin cfg0.N) (x0 : Vec Ideal S256x1024 .f32) (x1 : Vec Ideal S1x1024 .f32) (x2 : Vec Ideal S1024x1024 .f32) (x3 : Vec Ideal S1024x512 .f32) (x4 : Vec Ideal S1024x512 .f32) (x5 : Vec Ideal S256x128 .f32)

/-- The three weights side by side, as the first point leaves them in the scratch. -/
def wcat : Vec Ideal S1024x2048 .bf16 := fun i =>
  if h : (i 1).val < 1024 then x2 (ix2 (i 0) ⟨(i 1).val, h⟩)
  else if h' : (i 1).val < 1536 then x3 (ix2 (i 0) ⟨(i 1).val - 1024, by omega⟩)
  else x4 (ix2 (i 0) ⟨(i 1).val - 1536, by have := (i 1).isLt; change _ < 2048 at this; omega⟩)

theorem pay10_apply (w : Vec Ideal S1024x2048 .bf16) (r : Fin 256) (d : Fin 2048) :
    k0_pay10 (F := Ideal) x0 x1 w (ix2 r d) = proj (fun k => x0 (ix2 r k)) (fun k => x1 (ix2 0 k)) (fun k => w (ix2 k d)) := by
  pointwise [k0_pay10]
  rfl

/-- The rotation's angle over the position: lane by lane. -/
def freq (l : Fin 32) : EReal :=
  Ideal.exp (FloatOps.sitofp (F := Ideal) FTy.f32 (BitVec.ofNat 32 l.val) * Named.named (F := Ideal) Cert.KernelIdeal.κ "rope" 3197328782#32)

theorem pay12_apply (r : Fin 256) (l : Fin 32) :
    k0_pay12 (F := Ideal) x5 (ix2 r l) = Ideal.cos (x5 (ix2 r 0) * freq l) := by
  pointwise [k0_pay12, k0_pay11]
  rfl
theorem pay13_apply (r : Fin 256) (l : Fin 32) :
    k0_pay13 (F := Ideal) x5 (ix2 r l) = Ideal.sin (x5 (ix2 r 0) * freq l) := by
  pointwise [k0_pay13, k0_pay11]
  rfl

theorem concat_congr {T : Shape} {a : Fin T.rank} {xs ys : List ((s : Shape) × (s.Idx → Ideal .f32))} (e : xs = ys)
    (h : Shape.Concatenates (xs.map (·.1)) T a) (h' : Shape.Concatenates (ys.map (·.1)) T a) : concatenate T a xs h = concatenate T a ys h' := by
  subst e; rfl

theorem out_B (h0 : ¬ t.val % 8 = 0) (xs : Vec Ideal S1024x2048 .bf16) :
    out0_B (F := Ideal) c t h0 x0 x1 x2 x3 x4 x5 xs = qkvBlk x0 x1 xs x5 := by
  unfold out0_B run0_B
  frame_out
  have e := (Memref.isWhole_whole cc0_scratch0).read_unread (Val := Elt Ideal) xs
  change View.read _ (View.whole cc0_scratch0) _ = _ at e
  simp only [e]
  unfold qkvBlk k0_pay5
  simp only [k0_pay14, k0_pay15, k0_pay16]
  refine congrArg k0_pay6 (concat_congr ?_ _ _)
  generalize k0_pay10 (F := Ideal) x0 x1 xs = y
  generalize k0_pay12 (F := Ideal) x5 = cs
  generalize k0_pay13 (F := Ideal) x5 = sn
  unfold cat
  rfl

abbrev wpieces : List (View.Piece (Elt Ideal) S1024x2048 .bf16) :=
  [⟨Rect.unit ![0, 1536] ![1024, 512] inb_S1024x2048_S1024x512_0_1536, k0_pay9 x4⟩,
    ⟨Rect.unit ![0, 1024] ![1024, 512] inb_S1024x2048_S1024x512_0_1024, k0_pay8 x3⟩,
    ⟨Rect.unit ![0, 0] ![1024, 1024] inb_S1024x2048_S1024x1024_0_0, k0_pay7 x2⟩]

theorem wcover (y : S1024x2048.Idx) : ∃ p ∈ wpieces x2 x3 x4, y ∈ p.1.set :=
  View.cover_of_tiledBy (wpieces x2 x3 x4) ![1024, 512] (by sl_kernel_rfl) y

theorem wcanon : View.canon (wpieces x2 x3 x4) = wcat x2 x3 x4 := by
  funext y
  unfold wpieces
  canon_tiles y h using (wcover x2 x3 x4 y)
  · idx_vars y
    pointwise [k0_pay9]
    unfold wcat
    rw [dif_neg (by rw [h1]; omega), dif_neg (by rw [h1]; omega)]
    congr 1
    blk_ext
  · idx_vars y
    pointwise [k0_pay8]
    unfold wcat
    rw [dif_neg (by rw [h1]; omega), dif_pos (by rw [h1]; show 1024 + _ < 1536; omega)]
    congr 1
    blk_ext
  · idx_vars y
    pointwise [k0_pay7]
    unfold wcat
    rw [dif_pos (by rw [h1]; omega)]
    congr 1
    blk_ext

theorem sout_A (h0 : t.val % 8 = 0) :
    sout0_A_0 (F := Ideal) c t h0 x0 x1 x2 x3 x4 x5 = wcat x2 x3 x4 := by
  unfold sout0_A_0 run0_A
  frame_out
  exact wcanon x2 x3 x4

theorem out_A (h0 : t.val % 8 = 0) :
    out0_A (F := Ideal) c t h0 x0 x1 x2 x3 x4 x5 = qkvBlk x0 x1 (wcat x2 x3 x4) x5 := by
  unfold out0_A run0_A
  frame_out
  have e := View.readCov_eq_canon_ld scM0_0.view _ (Rect.unit ![0, 0] ![1024, 2048] inb_S1024x2048_S1024x2048_0_0) (wcover x2 x3 x4)
  rw [wcanon, View.ld_unit_lit _ _ (by decide)] at e
  unfold wpieces at e
  change (View.whole cc0_scratch0).readCov _ _ = _ at e
  simp only [e]
  unfold qkvBlk k0_pay5
  simp only [k0_pay14, k0_pay15, k0_pay16]
  refine congrArg k0_pay6 (concat_congr ?_ _ _)
  generalize k0_pay10 (F := Ideal) x0 x1 _ = y
  generalize k0_pay12 (F := Ideal) x5 = cs
  generalize k0_pay13 (F := Ideal) x5 = sn
  unfold cat
  rfl

/-- The projection's array from the region's inputs. -/
def qkvArr (hs : Vec Ideal S2048x1024 .f32) (ln : Vec Ideal S1x1024 .f32) (qw : Vec Ideal S1024x1024 .f32) (kw vw : Vec Ideal S1024x512 .f32)
    (pos : Vec Ideal S2048x128 .f32) : Vec Ideal S2048x2048 .bf16 := fun i =>
  qkvAt (fun d => proj (fun k => hs (ix2 (i 0) k)) (fun k => ln (ix2 0 k)) (fun k => wcat qw kw vw (ix2 k d)))
    (fun l => Ideal.cos (pos (ix2 (i 0) 0) * freq l)) (fun l => Ideal.sin (pos (ix2 (i 0) 0) * freq l)) (i 1)

theorem idx : ∀ t : Fin cfg0.N, win0_0.index t = ![t.val, 0] ∧ win0_1.index t = ![0, 0] ∧ win0_2.index t = ![0, 0] ∧ win0_3.index t = ![0, 0]
    ∧ win0_4.index t = ![0, 0] ∧ win0_5.index t = ![t.val, 0] ∧ win0_6.index t = ![t.val, 0] :=
  (by decide +kernel : ∀ t : Fin grid0.N, _)

variable (V : (c : Dev nD) → (b : Ref sig .tc) → Buf (Elt Ideal) ((c : Thread nD τ).loc b))

/-- The block point `t` leaves, from its own input blocks: the weights are the same at every point. -/
theorem outAt_eq : outAt0 V c t = qkvBlk (iblk0 V c 0 t) (iblk0 V c 1 t) (wcat (iblk0 V c 2 t) (iblk0 V c 3 t) (iblk0 V c 4 t)) (iblk0 V c 5 t) := by
  have e2 : iblk0 V c 2 t0 = iblk0 V c 2 t := by funext y; blk_ext [iblk0, idx t, idx t0]
  have e3 : iblk0 V c 3 t0 = iblk0 V c 3 t := by funext y; blk_ext [iblk0, idx t, idx t0]
  have e4 : iblk0 V c 4 t0 = iblk0 V c 4 t := by funext y; blk_ext [iblk0, idx t, idx t0]
  unfold outAt0
  split
  · rw [out_A]
  · have es : sc0_0 V c = wcat (iblk0 V c 2 t) (iblk0 V c 3 t) (iblk0 V c 4 t) := by rw [← e2, ← e3, ← e4]; exact sout_A c t0 _ _ _ _ _ _ rfl
    rw [out_B, es]

theorem arr : (dat0 V c).arrAt 6 cfg0.N = qkvArr (V c main_call0_v0) (V c main_call0_v12) (V c main_arg5) (V c main_arg6) (V c main_arg7) (V c main_call0_v4) := by
  refine (dat0 V c).arrAt_eq_of_covers 6 _ (by decide +kernel) fun t _ y => ?_
  blk_simp
  rw [after0_6, outAt_eq]
  idx_vars y
  generalize hi : ((View.whole main_call0_v13).slice (win0_6.rect t)).emb (ix2 y0 y1) = i
  have h0 : (i 0).val = t.val * 256 + y0.val := by rw [← hi]; blk_simp [idx t]
  have h1 : i 1 = y1 := by rw [← hi]; apply Fin.ext; blk_simp [idx t]
  have eA : (fun k => iblk0 V c 0 t (ix2 y0 k)) = fun k => V c main_call0_v0 (ix2 (i 0) k) := by
    funext k; blk_ext [iblk0, idx t]
  have eB : (fun k => iblk0 V c 1 t (ix2 0 k)) = fun k => V c main_call0_v12 (ix2 0 k) := by
    funext k; blk_ext [iblk0, idx t]
  have e2 : iblk0 V c 2 t = V c main_arg5 := by funext y; blk_ext [iblk0, idx t]
  have e3 : iblk0 V c 3 t = V c main_arg6 := by funext y; blk_ext [iblk0, idx t]
  have e4 : iblk0 V c 4 t = V c main_arg7 := by funext y; blk_ext [iblk0, idx t]
  have e5 : iblk0 V c 5 t (ix2 y0 0) = V c main_call0_v4 (ix2 (i 0) 0) := by blk_ext [iblk0, idx t]
  refine (qkvBlk_apply _ _ _ _ y0 y1).trans ?_
  unfold qkvArr
  simp only [pay10_apply, pay12_apply, pay13_apply]
  rw [h1, e2, e3, e4, eA, eB, e5]

end Cert.KernelIdeal.Qkv

end

end
-- ==== Proof.Ideal.AttnPay.lean ====
module

public import proofs.«01_k».proof.Proof.Gen.KernelIdeal.Skeleton
public import Idealize.ShloMosaic.Lib.Pointwise
public import Idealize.ShloMosaic.Lib.WordCmp

/-! The attention call's payloads read at an index. -/

@[expose] public section

set_option maxRecDepth 16384

noncomputable section

namespace Cert.KernelIdeal.Att

open Cert.KernelIdeal Cert.KernelIdeal.Gen Idealize.ShloMosaic Idealize.ShloMosaic.TcCoe Idealize.SL.Sem

/-- The two heads' queries stacked: row `r` below 512 is the first head's, from 512 the second's. -/
def qr (q : Vec Ideal S512x128 .bf16) (r : Fin 1024) (d : Fin 64) : EReal :=
  if h : r.val < 512 then q (ix2 ⟨r.val, h⟩ ⟨d.val, by omega⟩) else q (ix2 ⟨r.val - 512, by omega⟩ ⟨64 + d.val, by omega⟩)

theorem pay4_apply (q : Vec Ideal S512x128 .bf16) (r : Fin 1024) (d : Fin 64) : k1_pay4 (F := Ideal) q (ix2 r d) = qr q r d := by
  unfold qr
  pointwise [k1_pay4]

theorem pay5_apply (r : Fin 1024) (x : Fin 128) : k1_pay5 (F := Ideal) (ix2 r x) = 0 := by
  pointwise [k1_pay5]

theorem pay6_apply (q : Vec Ideal S512x128 .bf16) (kk : Vec Ideal S1x512x64 .bf16) (r : Fin 1024) (k : Fin 512) :
    k1_pay6 (F := Ideal) q kk (ix2 r k) = ∑ d, qr q r d * kk (ix3 0 k d) := by
  have e : ∀ d, k1_pay4 (F := Ideal) q (ix2 r d) = qr q r d := pay4_apply q r
  revert e; unfold k1_pay6; generalize k1_pay4 (F := Ideal) q = p; intro e
  pointwise
  simp only [e]

theorem pay7_apply (q : Vec Ideal S512x128 .bf16) (kk : Vec Ideal S1x512x64 .bf16) (r : Fin 1024) (k : Fin 512) :
    k1_pay7 (F := Ideal) q kk (ix2 r k) = ∑ d, qr q r d * kk (ix3 0 k d) := pay6_apply q kk r k

theorem pay8_apply (a : FVec Ideal S1024x128 .f32) (b : FVec Ideal S1024x512 .f32) (v : Vec Ideal S512x128 .fp8e4m3) (r : Fin 1024) (x : Fin 128) :
    k1_pay8 (F := Ideal) a b v (ix2 r x) = a (ix2 r x) + ∑ k, Ideal.exp2 (b (ix2 r k)) * v (ix2 k x) := by
  pointwise [k1_pay8]
  rfl

theorem pay11_apply (b : FVec Ideal S1024x512 .f32) (mk : Vec Ideal S1024x512 .f32) (r : Fin 1024) (k : Fin 512) :
    k1_pay11 (F := Ideal) b mk (ix2 r k) = Ideal.exp2 (b (ix2 r k)) * mk (ix2 r k) := by
  pointwise [k1_pay11]
  rfl

theorem pay1_lo (a : FVec Ideal S1024x128 .f32) (b : FVec Ideal S1024x512 .fp8e4m3) (v : Vec Ideal S512x128 .fp8e4m3) (r : Fin 512) (x : Fin 64)  :
    k1_pay1 (F := Ideal) a b v (constant S1024x128 .f32 0x00000000#32) (ix2 r ⟨x.val, by omega⟩)
      = Ideal.div (a (ix2 ⟨r.val, by omega⟩ ⟨x.val, by omega⟩) + ∑ k, b (ix2 ⟨r.val, by omega⟩ k) * v (ix2 k ⟨x.val, by omega⟩))
          (a (ix2 ⟨r.val, by omega⟩ 64) + ∑ k, b (ix2 ⟨r.val, by omega⟩ k) * v (ix2 k 64)) := by
  pointwise [k1_pay1]

theorem pay1_hi (a : FVec Ideal S1024x128 .f32) (b : FVec Ideal S1024x512 .fp8e4m3) (v : Vec Ideal S512x128 .fp8e4m3) (r : Fin 512) (x : Fin 64)  :
    k1_pay1 (F := Ideal) a b v (constant S1024x128 .f32 0x00000000#32) (ix2 r ⟨64 + x.val, by omega⟩)
      = Ideal.div (a (ix2 ⟨512 + r.val, by omega⟩ ⟨x.val, by omega⟩) + ∑ k, b (ix2 ⟨512 + r.val, by omega⟩ k) * v (ix2 k ⟨x.val, by omega⟩))
          (a (ix2 ⟨512 + r.val, by omega⟩ 64) + ∑ k, b (ix2 ⟨512 + r.val, by omega⟩ k) * v (ix2 k 64)) := by
  pointwise [k1_pay1]

theorem sitofp_one : (FloatOps.sitofp (F := Ideal) FTy.f32 (BitVec.setWidth 32 1#1) : EReal) = 1 := by
  show (((BitVec.setWidth 32 1#1).toInt : ℝ) : EReal) = 1
  rw [show (BitVec.setWidth 32 1#1).toInt = 1 from by decide]; norm_num

theorem sitofp_zero : (FloatOps.sitofp (F := Ideal) FTy.f32 (BitVec.setWidth 32 0#1) : EReal) = 0 := by
  show (((BitVec.setWidth 32 0#1).toInt : ℝ) : EReal) = 0
  rw [show (BitVec.setWidth 32 0#1).toInt = 0 from by decide]; norm_num

theorem pay2_v (v : Vec Ideal S1x2048x64 .bf16) (k : Fin 2048) (x : Fin 64) :
    k1_pay2 (F := Ideal) v (ix2 k ⟨x.val, by omega⟩) = v (ix3 0 k x) := by
  pointwise [k1_pay2]

theorem pay2_one (v : Vec Ideal S1x2048x64 .bf16) (k : Fin 2048) :
    k1_pay2 (F := Ideal) v (ix2 k 64) = 1 := by
  pointwise [k1_pay2]
  exact sitofp_one

theorem pay3_apply (r : Fin 1024) (k : Fin 512) :
    k1_pay3 (F := Ideal) (ix2 r k) = if k.val ≤ r.val % 512 then 1 else 0 := by
  pointwise [k1_pay3]
  have hk := k.isLt
  have e1 : IntOp.andi (BitVec.ofNat 32 r.val) 511#32 = BitVec.ofNat 32 (r.val % 512) := by
    apply BitVec.eq_of_toNat_eq
    show ((BitVec.ofNat 32 r.val) &&& 511#32).toNat = _
    rw [BitVec.toNat_and, BitVec.toNat_ofNat, BitVec.toNat_ofNat, BitVec.toNat_ofNat]
    rw [Nat.mod_eq_of_lt (show r.val < 2 ^ 32 by omega), Nat.mod_eq_of_lt (show r.val % 512 < 2 ^ 32 by omega)]
    exact Nat.and_two_pow_sub_one_eq_mod r.val 9
  rw [e1, Idealize.ShloMosaic.WordCmp.cmpi_sge_ofNat (by omega) (by omega)]
  by_cases h : k.val ≤ r.val % 512
  · rw [if_pos h, decide_eq_true h]; exact sitofp_one
  · rw [if_neg h, decide_eq_false h]; exact sitofp_zero

end Cert.KernelIdeal.Att

end

end
-- ==== Proof.Ideal.AttnVal.lean ====
module

public import proofs.«01_k».proof.Proof.Ideal.Attn
public import proofs.«01_k».proof.Proof.Ideal.AttnPay
public import Idealize.ShloMosaic.Lib.Pipeline.ValueKit
public import Idealize.ShloMosaic.Lib.VecWindow

/-! The attention call's block: the loop over the key blocks as a sum, the diagonal block, the quotient. -/

@[expose] public section

set_option maxRecDepth 16384

noncomputable section

namespace Cert.KernelIdeal.Att

open Cert.KernelIdeal Cert.KernelIdeal.Gen Idealize.ShloMosaic Idealize.ShloMosaic.TcCoe Idealize.SL.Sem

variable (c : Dev nD) (t : Fin cfg1.N) (x0 : Vec Ideal S512x128 .bf16) (x1 : Vec Ideal S1x2048x64 .bf16) (x2 : Vec Ideal S1x2048x64 .bf16)

/-- A row of stacked queries against a key. -/
def sc (q : Vec Ideal S512x128 .bf16) (kk : Vec Ideal S1x2048x64 .bf16) (r : Fin 1024) (key : ℕ) : EReal :=
  ∑ d, qr q r d * kk (ix3 0 (Fin.ofNat 2048 key) d)

theorem trips1 : ∀ t : Fin cfg1.N, (k1_t1_loop (grid1.coords t)).trips = t.val % 4 :=
  (by decide +kernel : ∀ t : Fin grid1.N, (k1_t1_loop (grid1.coords t)).trips = t.val % 4)
theorem trips2 : ∀ t : Fin cfg1.N, (k1_t2_loop (grid1.coords t)).trips = 0 :=
  (by decide +kernel : ∀ t : Fin grid1.N, (k1_t2_loop (grid1.coords t)).trips = 0)
theorem off5 : ∀ t : Fin cfg1.N, k1_off5 (grid1.coords t) = ![t.val % 4 * 512, 0] :=
  (by decide +kernel : ∀ t : Fin grid1.N, k1_off5 (grid1.coords t) = ![t.val % 4 * 512, 0])
theorem off1_word : ∀ k : Fin 4, (Scalar.indexCast (Scalar.muli (Scf.iv 1#32 1#32 k.val) 512#32)).toNat = (k.val + 1) * 512 := by decide +kernel
theorem off2_word : ∀ k : Fin 4, (Scalar.indexCast (Scalar.muli (Scalar.subi (Scf.iv 1#32 1#32 k.val) 1#32) 512#32)).toNat = k.val * 512 := by decide +kernel
theorem off1 (k : Fin (k1_t1_loop (grid1.coords t)).trips) : k1_off1 (grid1.coords t) k = ![0, (k.val + 1) * 512, 0] := by
  have h : k.val < 4 := lt_of_lt_of_le k.isLt (by rw [trips1]; omega)
  unfold k1_off1; exact congrArg (fun n => ![0, n, 0]) (off1_word ⟨k.val, h⟩)
theorem off2 (k : Fin (k1_t1_loop (grid1.coords t)).trips) : k1_off2 (grid1.coords t) k = ![k.val * 512, 0] := by
  have h : k.val < 4 := lt_of_lt_of_le k.isLt (by rw [trips1]; omega)
  unfold k1_off2; exact congrArg (fun n => ![n, 0]) (off2_word ⟨k.val, h⟩)

theorem ld_k (X : Vec Ideal S1x2048x64 .bf16) (j : ℕ) (off : Fin 3 → ℕ) (e : off = ![0, j * 512, 0]) (inb : ∀ a, off a + S1x512x64.size a ≤ S1x2048x64.size a) (k : Fin 512) (d : Fin 64) :
    View.ld X (Rect.unit off S1x512x64.size inb) (ix3 0 k d : S1x512x64.Idx) = X (ix3 0 (Fin.ofNat 2048 (j * 512 + k.val)) d) := by
  subst e
  have hj : j * 512 + 512 ≤ 2048 := inb 1
  rw [View.ld_apply]
  congr 1
  funext a; apply Fin.ext
  have hk := k.isLt
  match a with
  | ⟨0, _⟩ => rfl
  | ⟨1, _⟩ => show j * 512 + 1 * k.val = (j * 512 + k.val) % 2048; omega
  | ⟨2, _⟩ => show 0 + 1 * d.val = d.val; omega

theorem ld_v (X : Vec Ideal S2048x128 .fp8e4m3) (j : ℕ) (off : Fin 2 → ℕ) (e : off = ![j * 512, 0]) (inb : ∀ a, off a + S512x128.size a ≤ S2048x128.size a) (k : Fin 512) (x : Fin 128) :
    View.ld X (Rect.unit off S512x128.size inb) (ix2 k x : S512x128.Idx) = X (ix2 (Fin.ofNat 2048 (j * 512 + k.val)) x) := by
  subst e
  have hj : j * 512 + 512 ≤ 2048 := inb 0
  rw [View.ld_apply]
  congr 1
  funext a; apply Fin.ext
  have hk := k.isLt
  match a with
  | ⟨0, _⟩ => show j * 512 + 1 * k.val = (j * 512 + k.val) % 2048; omega
  | ⟨1, _⟩ => show 0 + 1 * x.val = x.val; omega

section Loop

variable (i : grid1.Coords) (a2 : Memref sig .tc .vmem S512x128 .bf16) (h2 : a2.IsWhole) (a3 : Memref sig .tc .vmem S1x2048x64 .bf16) (h3 : a3.IsWhole)
  (a4 : Memref sig .tc .vmem S1x2048x64 .bf16) (h4 : a4.IsWhole) (a5 : Memref sig .tc .vmem S512x128 .bf16) (h5 : a5.IsWhole)
  (a6 : Memref sig .tc .vmem S2048x128 .fp8e4m3) (h6 : a6.IsWhole) (a7 : Memref sig .tc .vmem S1024x512 .f32) (h7 : a7.IsWhole)
  (X3 : BufTy.Contents (Elt Ideal) a3.view.ty) (X6 : BufTy.Contents (Elt Ideal) a6.view.ty)

/-- One trip: the block before enters the sum, the next block's scores are computed. -/
theorem trip_eq (k : Fin (k1_t1_loop i).trips) (acc : FVec Ideal S1024x128 .f32 × FVec Ideal S1024x512 .f32) :
    tripR_k1_t1 (F := Ideal) Variants.none c none i a2 h2 a3 h3 a4 h4 a5 h5 a6 h6 a7 h7 x0 X3 X6 k acc
      = (k1_pay8 (F := Ideal) acc.1 acc.2 (View.ld (a6.view.read (Elt Ideal) X6) (Rect.unit (k1_off2 i k) S512x128.size (k1_off2_inb i k))),
         k1_pay7 (F := Ideal) x0 (View.ld (a3.view.read (Elt Ideal) X3) (Rect.unit (k1_off1 i k) S1x512x64.size (k1_off1_inb i k)))) := by
  unfold tripR_k1_t1 trip_k1_t1
  rfl

end Loop

/-- What one block of keys adds to a row's sum. -/
def blkSum (q : Vec Ideal S512x128 .bf16) (kk : Vec Ideal S1x2048x64 .bf16) (vx : Vec Ideal S2048x128 .fp8e4m3) (r : Fin 1024) (x : Fin 128) (j : ℕ) : EReal :=
  ∑ k : Fin 512, Ideal.exp2 (sc q kk r (j * 512 + k.val)) * vx (ix2 (Fin.ofNat 2048 (j * 512 + k.val)) x)

section Loop2

variable (a2 : Memref sig .tc .vmem S512x128 .bf16) (h2 : a2.IsWhole) (a3 : Memref sig .tc .vmem S1x2048x64 .bf16) (h3 : a3.IsWhole)
  (a4 : Memref sig .tc .vmem S1x2048x64 .bf16) (h4 : a4.IsWhole) (a5 : Memref sig .tc .vmem S512x128 .bf16) (h5 : a5.IsWhole)
  (a6 : Memref sig .tc .vmem S2048x128 .fp8e4m3) (h6 : a6.IsWhole) (a7 : Memref sig .tc .vmem S1024x512 .f32) (h7 : a7.IsWhole)
  (X3 : BufTy.Contents (Elt Ideal) a3.view.ty) (X6 : BufTy.Contents (Elt Ideal) a6.view.ty)

theorem st_apply (vx : Vec Ideal S2048x128 .fp8e4m3) (e3 : a3.view.read (Elt Ideal) X3 = x1) (e6 : a6.view.read (Elt Ideal) X6 = vx)
    (init : FVec Ideal S1024x128 .f32 × FVec Ideal S1024x512 .f32) (hi1 : ∀ r x, init.1 (ix2 r x) = 0) (hi2 : ∀ r k, init.2 (ix2 r k) = sc x0 x1 r k.val) :
    ∀ n : ℕ, n ≤ (k1_t1_loop (grid1.coords t)).trips →
      (∀ r x, (st_k1_t1 (F := Ideal) Variants.none c none (grid1.coords t) a2 h2 a3 h3 a4 h4 a5 h5 a6 h6 a7 h7 x0 X3 X6 init n).1 (ix2 r x)
          = ∑ j ∈ Finset.range n, blkSum x0 x1 vx r x j)
      ∧ (∀ r k, (st_k1_t1 (F := Ideal) Variants.none c none (grid1.coords t) a2 h2 a3 h3 a4 h4 a5 h5 a6 h6 a7 h7 x0 X3 X6 init n).2 (ix2 r k)
          = sc x0 x1 r (n * 512 + k.val)) := by
  intro n
  induction n with
  | zero =>
    intro _
    refine ⟨fun r x => ?_, fun r k => ?_⟩
    · rw [st_k1_t1_zero, hi1]; rfl
    · rw [st_k1_t1_zero, hi2, Nat.zero_mul, Nat.zero_add]
  | succ n ih =>
    intro hn
    obtain ⟨ih1, ih2⟩ := ih (by omega)
    have es := st_k1_t1_succ (F := Ideal) Variants.none c none (grid1.coords t) a2 h2 a3 h3 a4 h4 a5 h5 a6 h6 a7 h7 x0 X3 X6 init ⟨n, hn⟩
    rw [trip_eq] at es
    refine ⟨fun r x => ?_, fun r k => ?_⟩
    · rw [es]
      refine (pay8_apply _ _ _ r x).trans ?_
      rw [ih1, Finset.sum_range_succ]
      congr 1
      unfold blkSum
      refine Finset.sum_congr rfl fun k _ => ?_
      rw [ih2, e6, ld_v vx n _ (off2 t ⟨n, hn⟩)]
    · rw [es]
      refine (pay7_apply _ _ r k).trans ?_
      unfold sc
      refine Finset.sum_congr rfl fun d _ => ?_
      rw [e3, ld_k x1 (n + 1) _ (off1 t ⟨n, hn⟩)]

/-- A row's sum over the blocks of keys below its own, then its own block under the mask. -/
def rowSum (q : Vec Ideal S512x128 .bf16) (kk : Vec Ideal S1x2048x64 .bf16) (vx : Vec Ideal S2048x128 .fp8e4m3) (mk : Vec Ideal S1024x512 .f32) (n : ℕ)
    (r : Fin 1024) (x : Fin 128) : EReal :=
  ∑ j ∈ Finset.range n, blkSum q kk vx r x j
    + ∑ k : Fin 512, Ideal.exp2 (sc q kk r (n * 512 + k.val)) * mk (ix2 r k) * vx (ix2 (Fin.ofNat 2048 (n * 512 + k.val)) x)

/-- The block the body stores: each row's sum of values over its sum of ones. -/
def attBlk (q : Vec Ideal S512x128 .bf16) (kk : Vec Ideal S1x2048x64 .bf16) (vx : Vec Ideal S2048x128 .fp8e4m3) (mk : Vec Ideal S1024x512 .f32) (n : ℕ) :
    Vec Ideal S512x128 .bf16 := fun y =>
  if h : (y 1).val < 64 then
    Ideal.div (rowSum q kk vx mk n ⟨(y 0).val, by have := (y 0).isLt; change _ < 512 at this; omega⟩ ⟨(y 1).val, by omega⟩)
      (rowSum q kk vx mk n ⟨(y 0).val, by have := (y 0).isLt; change _ < 512 at this; omega⟩ 64)
  else
    Ideal.div (rowSum q kk vx mk n ⟨512 + (y 0).val, by have := (y 0).isLt; change _ < 512 at this; omega⟩ ⟨(y 1).val - 64, by have := (y 1).isLt; change _ < 128 at this; omega⟩)
      (rowSum q kk vx mk n ⟨512 + (y 0).val, by have := (y 0).isLt; change _ < 512 at this; omega⟩ 64)

theorem out_core (vx : Vec Ideal S2048x128 .fp8e4m3) (mk : Vec Ideal S1024x512 .f32) (e3 : a3.view.read (Elt Ideal) X3 = x1) (e6 : a6.view.read (Elt Ideal) X6 = vx)
    (init : FVec Ideal S1024x128 .f32 × FVec Ideal S1024x512 .f32) (hi1 : ∀ r x, init.1 (ix2 r x) = 0) (hi2 : ∀ r k, init.2 (ix2 r k) = sc x0 x1 r k.val)
    (T1 T2 : ℕ) (hT1 : (k1_t1_loop (grid1.coords t)).trips = T1) (hT2 : (k1_t2_loop (grid1.coords t)).trips = T2)
    (inb : ∀ a, k1_off5 (grid1.coords t) a + S512x128.size a ≤ S2048x128.size a) :
    k1_pay1 (F := Ideal)
      (st_k1_t2 (F := Ideal) Variants.none c none (grid1.coords t) a2 h2 a3 h3 a4 h4 a5 h5 a6 h6 a7 h7 x0 X3 X6
        ((st_k1_t1 (F := Ideal) Variants.none c none (grid1.coords t) a2 h2 a3 h3 a4 h4 a5 h5 a6 h6 a7 h7 x0 X3 X6 init T1).1,
         (st_k1_t1 (F := Ideal) Variants.none c none (grid1.coords t) a2 h2 a3 h3 a4 h4 a5 h5 a6 h6 a7 h7 x0 X3 X6 init T1).2) T2).1
      (k1_pay11 (F := Ideal)
        (st_k1_t2 (F := Ideal) Variants.none c none (grid1.coords t) a2 h2 a3 h3 a4 h4 a5 h5 a6 h6 a7 h7 x0 X3 X6
          ((st_k1_t1 (F := Ideal) Variants.none c none (grid1.coords t) a2 h2 a3 h3 a4 h4 a5 h5 a6 h6 a7 h7 x0 X3 X6 init T1).1,
           (st_k1_t1 (F := Ideal) Variants.none c none (grid1.coords t) a2 h2 a3 h3 a4 h4 a5 h5 a6 h6 a7 h7 x0 X3 X6 init T1).2) T2).2 mk)
      (View.ld vx (Rect.unit (k1_off5 (grid1.coords t)) S512x128.size inb)) (constant S1024x128 .f32 0x00000000#32)
    = attBlk x0 x1 vx mk (t.val % 4) := by
  obtain rfl : T2 = 0 := by rw [← hT2, trips2]
  obtain rfl : T1 = t.val % 4 := by rw [← hT1, trips1]
  obtain ⟨s1, s2⟩ := st_apply c t x0 x1 a2 h2 a3 h3 a4 h4 a5 h5 a6 h6 a7 h7 X3 X6 vx e3 e6 init hi1 hi2 (t.val % 4) (by rw [trips1])
  rw [st_k1_t2_zero]
  revert s1 s2
  generalize st_k1_t1 (F := Ideal) Variants.none c none (grid1.coords t) a2 h2 a3 h3 a4 h4 a5 h5 a6 h6 a7 h7 x0 X3 X6 init (t.val % 4) = st
  obtain ⟨A, B⟩ := st
  intro s1 s2
  replace s1 : ∀ r x, A (ix2 r x) = _ := s1
  replace s2 : ∀ r k, B (ix2 r k) = _ := s2
  have key : ∀ (r : Fin 1024) (x : Fin 128), A (ix2 r x) + ∑ k, k1_pay11 (F := Ideal) B mk (ix2 r k)
      * View.ld vx (Rect.unit (k1_off5 (grid1.coords t)) S512x128.size inb) (ix2 k x) = rowSum x0 x1 vx mk (t.val % 4) r x := by
    intro r x
    unfold rowSum
    rw [s1]
    congr 1
    refine Finset.sum_congr rfl fun k _ => ?_
    rw [pay11_apply, s2, ld_v vx _ _ (off5 t)]
  funext y
  idx_vars y
  unfold attBlk
  by_cases h : y1.val < 64
  · rw [dif_pos (show ((ix2 y0 y1 : S512x128.Idx) 1).val < 64 from h)]
    refine (pay1_lo A _ _ y0 ⟨y1.val, h⟩).trans ?_
    rw [key, key]; rfl
  · rw [dif_neg (show ¬ ((ix2 y0 y1 : S512x128.Idx) 1).val < 64 from h)]
    obtain ⟨d, rfl⟩ : ∃ d : Fin 64, y1 = ⟨64 + d.val, Nat.add_lt_add_left d.isLt 64⟩ := ⟨⟨y1.val - 64, by omega⟩, Fin.ext (by show y1.val = 64 + (y1.val - 64); omega)⟩
    refine (pay1_hi A _ _ y0 d).trans ?_
    rw [key, key]
    have e' : (64 + d.val) - 64 = d.val := by omega
    show _ = Ideal.div (rowSum x0 x1 vx mk (t.val % 4) _ ⟨(64 + d.val) - 64, _⟩) _
    simp only [e']
    rfl

end Loop2

theorem init_sc (inb : ∀ a, (![0, 0, 0] : Fin 3 → ℕ) a + S1x512x64.size a ≤ S1x2048x64.size a) (r : Fin 1024) (k : Fin 512) :
    k1_pay6 (F := Ideal) x0 (View.ld x1 (Rect.unit ![0, 0, 0] S1x512x64.size inb)) (ix2 r k) = sc x0 x1 r k.val := by
  refine (pay6_apply _ _ r k).trans ?_
  unfold sc
  refine Finset.sum_congr rfl fun d _ => ?_
  rw [ld_k x1 0 _ (by rfl)]
  congr 4
  omega

theorem out_B (h0 : ¬ t.val % 4 = 0) (h1) (xs0 : Vec Ideal S2048x128 .fp8e4m3) (xs1 : Vec Ideal S1024x512 .f32) :
    out1_B (F := Ideal) c t h0 h1 x0 x1 x2 xs0 xs1 = attBlk x0 x1 xs0 xs1 (t.val % 4) := by
  unfold out1_B run1_B
  frame_out
  have e1 := (Memref.isWhole_whole cc1_scratch1).read_unread (Val := Elt Ideal) xs1
  change View.read _ (View.whole cc1_scratch1) _ = _ at e1
  have e0 := (Memref.isWhole_whole cc1_scratch0).read_unread (Val := Elt Ideal) xs0
  change View.read _ (View.whole cc1_scratch0) _ = _ at e0
  rw [e1]
  simp only [e0]
  refine out_core c t x0 x1 _ _ _ _ _ _ _ _ _ _ _ _ _ _ xs0 xs1 ((hs1_1 t).read_unread x1) e0 _ ?_ ?_ _ _ rfl rfl _
  · exact fun r x => pay5_apply r x
  · exact fun r k => init_sc x0 x1 _ r k

theorem out_C (h0 : t.val % 4 = 0) (h1) (xs1 : Vec Ideal S1024x512 .f32) :
    out1_C (F := Ideal) c t h0 h1 x0 x1 x2 xs1 = attBlk x0 x1 (k1_pay2 (F := Ideal) x2) xs1 (t.val % 4) := by
  unfold out1_C run1_C
  frame_out
  have e1 := (Memref.isWhole_whole cc1_scratch1).read_unread (Val := Elt Ideal) xs1
  change View.read _ (View.whole cc1_scratch1) _ = _ at e1
  rw [e1]
  exact out_core c t x0 x1 _ _ _ _ _ _ _ _ _ _ _ _ _ _ (k1_pay2 (F := Ideal) x2) xs1 ((hs1_1 t).read_unread x1) (View.read_writes_full _ _ _ _ _) _
    (fun r x => pay5_apply r x) (fun r k => init_sc x0 x1 _ r k) _ _ rfl rfl _

theorem out_A (h0 : t.val % 4 = 0) (h1) :
    out1_A (F := Ideal) c t h0 h1 x0 x1 x2 = attBlk x0 x1 (k1_pay2 (F := Ideal) x2) (k1_pay3 (F := Ideal)) (t.val % 4) := by
  unfold out1_A run1_A
  frame_out
  exact out_core c t x0 x1 _ _ _ _ _ _ _ _ _ _ _ _ _ _ (k1_pay2 (F := Ideal) x2) (k1_pay3 (F := Ideal)) ((hs1_1 t).read_unread x1) (View.read_writes_full _ _ _ _ _) _
    (fun r x => pay5_apply r x) (fun r k => init_sc x0 x1 _ r k) _ _ rfl rfl _

theorem sout_A_0 (h0 : t.val % 4 = 0) (h1) : sout1_A_0 (F := Ideal) c t h0 h1 x0 x1 x2 = k1_pay2 (F := Ideal) x2 := by
  unfold sout1_A_0 run1_A; frame_out
theorem sout_C_0 (h0 : t.val % 4 = 0) (h1) (xs1 : Vec Ideal S1024x512 .f32) : sout1_C_0 (F := Ideal) c t h0 h1 x0 x1 x2 xs1 = k1_pay2 (F := Ideal) x2 := by
  unfold sout1_C_0 run1_C; frame_out
theorem sout_A_1 (h0 : t.val % 4 = 0) (h1) : sout1_A_1 (F := Ideal) c t h0 h1 x0 x1 x2 = k1_pay3 (F := Ideal) := by
  unfold sout1_A_1 run1_A; frame_out

end Cert.KernelIdeal.Att

end

end
-- ==== Proof.Ideal.AttnArr.lean ====
module

public import proofs.«01_k».proof.Proof.Ideal.AttnVal

/-! What the attention call leaves in its output: every row's weighted sum of values over its sum of weights. -/

@[expose] public section

set_option maxRecDepth 16384

noncomputable section

namespace Cert.KernelIdeal.Att

open Cert.KernelIdeal Cert.KernelIdeal.Gen Idealize.ShloMosaic Idealize.ShloMosaic.TcCoe Idealize.SL.Sem

/-- The weight of key `key` for row `R`: two to the score, nothing beyond the row. -/
def wgt (S : Fin 2048 → EReal) (R key : Fin 2048) : EReal := if key.val ≤ R.val then Ideal.exp2 (S key) else 0

theorem rowSum_eq (q : Vec Ideal S512x128 .bf16) (kk : Vec Ideal S1x2048x64 .bf16) (vx : Vec Ideal S2048x128 .fp8e4m3) (n : ℕ) (hn : n < 4)
    (r : Fin 1024) (x : Fin 128) (R : Fin 2048) (hR : R.val = n * 512 + r.val % 512) (S : Fin 2048 → EReal) (hS : ∀ key : Fin 2048, sc q kk r key.val = S key) :
    rowSum q kk vx (k1_pay3 (F := Ideal)) n r x = ∑ key, wgt S R key * vx (ix2 key x) := by
  rw [Fin.sum_univ_tiles 4 512 rfl]
  have hr : r.val % 512 < 512 := Nat.mod_lt _ (by decide)
  have hf : ∀ (j : Fin 4) (k : Fin 512) (hk : j.val * 512 + k.val < 2048), (Fin.ofNat 2048 (j.val * 512 + k.val) : Fin 2048) = ⟨j.val * 512 + k.val, hk⟩ :=
    fun j k hk => Fin.ext (Nat.mod_eq_of_lt hk)
  have full : ∀ j : Fin 4, j.val < n → (∑ k : Fin 512, wgt S R ⟨j.val * 512 + k.val, by omega⟩ * vx (ix2 ⟨j.val * 512 + k.val, by omega⟩ x)) = blkSum q kk vx r x j.val := by
    intro j hj
    unfold blkSum
    refine Finset.sum_congr rfl fun k _ => ?_
    unfold wgt
    rw [if_pos (show j.val * 512 + k.val ≤ R.val by omega), hf j k (by omega), ← hS]
  have diag : (∑ k : Fin 512, wgt S R ⟨n * 512 + k.val, by omega⟩ * vx (ix2 ⟨n * 512 + k.val, by omega⟩ x))
      = ∑ k : Fin 512, Ideal.exp2 (sc q kk r (n * 512 + k.val)) * k1_pay3 (F := Ideal) (ix2 r k) * vx (ix2 (Fin.ofNat 2048 (n * 512 + k.val)) x) := by
    refine Finset.sum_congr rfl fun k _ => ?_
    unfold wgt
    rw [pay3_apply, hf ⟨n, hn⟩ k (by show n * 512 + k.val < 2048; omega), ← hS]
    by_cases h : k.val ≤ r.val % 512
    · rw [if_pos (show n * 512 + k.val ≤ R.val by omega), if_pos h, mul_one]
    · rw [if_neg (show ¬ n * 512 + k.val ≤ R.val by omega), if_neg h, mul_zero]
  have rest : ∀ j : Fin 4, n < j.val → (∑ k : Fin 512, wgt S R ⟨j.val * 512 + k.val, by omega⟩ * vx (ix2 ⟨j.val * 512 + k.val, by omega⟩ x)) = 0 := by
    intro j hj
    refine Finset.sum_eq_zero fun k _ => ?_
    unfold wgt
    rw [if_neg (show ¬ j.val * 512 + k.val ≤ R.val by omega), zero_mul]
  unfold rowSum
  rw [← diag]
  rw [Fin.sum_univ_four]
  interval_cases n
  · rw [rest 1 (by decide), rest 2 (by decide), rest 3 (by decide)]
    simp only [Finset.sum_range_zero, zero_add, add_zero]; rfl
  · rw [full 0 (by decide), rest 2 (by decide), rest 3 (by decide)]
    simp only [Finset.sum_range_succ, Finset.sum_range_zero, zero_add, add_zero]; rfl
  · rw [full 0 (by decide), full 1 (by decide), rest 3 (by decide)]
    simp only [Finset.sum_range_succ, Finset.sum_range_zero, zero_add, add_zero]; rfl
  · rw [full 0 (by decide), full 1 (by decide), full 2 (by decide)]
    simp only [Finset.sum_range_succ, Finset.sum_range_zero, zero_add, add_zero]; rfl

/-- The score of row `R` against key `key` in head `h`. -/
def score (q : S2048x2048.Idx → EReal) (k : S8x2048x64.Idx → EReal) (h : Fin 16) (R key : Fin 2048) : EReal :=
  ∑ d : Fin 64, q (ix2 R ⟨h.val * 64 + d.val, by omega⟩) * k (ix3 ⟨h.val / 2, by omega⟩ key d)

/-- Head `h`'s context of row `R` in column `x`. -/
def head (q : S2048x2048.Idx → EReal) (k v : S8x2048x64.Idx → EReal) (h : Fin 16) (R : Fin 2048) (x : Fin 64) : EReal :=
  Ideal.div (∑ key, wgt (score q k h R) R key * v (ix3 ⟨h.val / 2, by omega⟩ key x)) (∑ key, wgt (score q k h R) R key)

/-- The context, head beside head. -/
def ctxArr (q : S2048x2048.Idx → EReal) (k v : S8x2048x64.Idx → EReal) : S2048x1024.Idx → EReal := fun i =>
  head q k v ⟨(i 1).val / 64, by have : (i 1).val < 1024 := (i 1).isLt; omega⟩ (i 0) ⟨(i 1).val % 64, Nat.mod_lt _ (by decide)⟩

variable (V : (c : Dev nD) → (b : Ref sig .tc) → Buf (Elt Ideal) ((c : Thread nD τ).loc b)) (c : Dev nD)

theorem idx : ∀ t : Fin cfg1.N, win1_0.index t = ![t.val % 4, t.val / 4] ∧ win1_1.index t = ![t.val / 4, 0, 0] ∧ win1_2.index t = ![t.val / 4, 0, 0]
    ∧ win1_3.index t = ![t.val % 4, t.val / 4] :=
  (by decide +kernel : ∀ t : Fin grid1.N, win1_0.index t = ![t.val % 4, t.val / 4] ∧ win1_1.index t = ![t.val / 4, 0, 0] ∧ win1_2.index t = ![t.val / 4, 0, 0]
    ∧ win1_3.index t = ![t.val % 4, t.val / 4])

theorem vx1_eq (g : Fin cfg1.N) (hg) : vx1 V c g hg = k1_pay2 (F := Ideal) (iblk1 V c 2 g) := by
  unfold vx1
  by_cases h : g.val % 32 = 0
  · rw [dif_pos h]; exact sout_A_0 c g _ _ _ hg h
  · rw [dif_neg h]; exact sout_C_0 c g _ _ _ hg h _

theorem blk2_gs (t : Fin cfg1.N) : iblk1 V c 2 (gs1 t.val) = iblk1 V c 2 t := by
  have ht : t.val < 32 := lt_of_lt_of_eq t.isLt N_1
  have e : (4 * (t.val / 4) % 32) / 4 = t.val / 4 := by omega
  funext y
  have e1 : ∀ d : Fin 64, ∀ k : Fin 2048, iblk1 V c 2 (gs1 t.val) (ix3 0 k d) = V c main_call0_v19 (ix3 ⟨t.val / 4, by omega⟩ k d) := by
    intro d k; blk_ext [iblk1, idx (gs1 t.val)]
    show 4 * (t.val / 4) % 32 / 4 + 0 = t.val / 4
    omega
  have e2 : ∀ d : Fin 64, ∀ k : Fin 2048, iblk1 V c 2 t (ix3 0 k d) = V c main_call0_v19 (ix3 ⟨t.val / 4, by omega⟩ k d) := by
    intro d k; blk_ext [iblk1, idx t]
  idx_vars y
  obtain rfl : y0 = 0 := Subsingleton.elim _ _
  exact (e1 y2 y1).trans (e2 y2 y1).symm

theorem outAt_eq (t : Fin cfg1.N) : outAt1 V c t = attBlk (iblk1 V c 0 t) (iblk1 V c 1 t) (k1_pay2 (F := Ideal) (iblk1 V c 2 t)) (k1_pay3 (F := Ideal)) (t.val % 4) := by
  have es : sc1_1 V c = k1_pay3 (F := Ideal) := sout_A_1 c t1 _ _ _ rfl rfl
  unfold outAt1
  by_cases h : t.val % 4 = 0
  · rw [dif_pos h]
    by_cases h1 : t.val % 32 = 0
    · rw [dif_pos h1]; exact out_A c t _ _ _ h h1
    · rw [dif_neg h1, es]; exact out_C c t _ _ _ h h1 _
  · rw [dif_neg h, es]
    have e0 : sc1_0 V c t.val = k1_pay2 (F := Ideal) (iblk1 V c 2 t) := (vx1_eq V c _ _).trans (congrArg _ (blk2_gs V c t))
    rw [e0]
    exact out_B c t _ _ _ h _ _ _

/-- One stacked row of the stored block is one head's row of the context. -/
theorem div_row (q : S2048x2048.Idx → EReal) (k v : S8x2048x64.Idx → EReal)
    (qb : Vec Ideal S512x128 .bf16) (kb vb : Vec Ideal S1x2048x64 .bf16) (n : ℕ) (hn : n < 4) (r : Fin 1024) (x : Fin 64) (h : Fin 16) (R : Fin 2048)
    (hR : R.val = n * 512 + r.val % 512)
    (hq : ∀ d : Fin 64, qr qb r d = q (ix2 R ⟨h.val * 64 + d.val, by omega⟩))
    (hk : ∀ (key : Fin 2048) (d : Fin 64), kb (ix3 0 key d) = k (ix3 ⟨h.val / 2, by omega⟩ key d))
    (hv : ∀ (key : Fin 2048) (d : Fin 64), vb (ix3 0 key d) = v (ix3 ⟨h.val / 2, by omega⟩ key d)) :
    Ideal.div (rowSum qb kb (k1_pay2 (F := Ideal) vb) (k1_pay3 (F := Ideal)) n r ⟨x.val, by omega⟩)
      (rowSum qb kb (k1_pay2 (F := Ideal) vb) (k1_pay3 (F := Ideal)) n r 64) = head q k v h R x := by
  have hS : ∀ key : Fin 2048, sc qb kb r key.val = score q k h R key := by
    intro key
    unfold sc score
    refine Finset.sum_congr rfl fun d _ => ?_
    rw [hq, show (Fin.ofNat 2048 key.val : Fin 2048) = key from Fin.ext (Nat.mod_eq_of_lt key.isLt), hk]
  rw [rowSum_eq qb kb _ n hn r _ R hR _ hS, rowSum_eq qb kb _ n hn r _ R hR _ hS]
  unfold head
  congr 1
  · exact Finset.sum_congr rfl fun key _ => by rw [pay2_v, hv]
  · exact Finset.sum_congr rfl fun key _ => by rw [pay2_one, mul_one]

theorem arr : (dat1 V c).arrAt 3 cfg1.N = ctxArr (V c main_call0_v13) (V c main_call0_v16) (V c main_call0_v19) := by
  refine (dat1 V c).arrAt_eq_of_covers 3 _ (by decide +kernel) fun t _ y => ?_
  blk_simp
  rw [after1_3, outAt_eq]
  idx_vars y
  have ht : t.val < 32 := lt_of_lt_of_eq t.isLt N_1
  generalize hi : ((View.whole main_call0_v20).slice (win1_3.rect t)).emb (ix2 y0 y1) = i
  have h0 : (i 0).val = t.val % 4 * 512 + y0.val := by rw [← hi]; blk_simp [idx t]
  have h1 : (i 1).val = t.val / 4 * 128 + y1.val := by rw [← hi]; blk_simp [idx t]
  have hq : ∀ (a : Fin 512) (b : Fin 128), iblk1 V c 0 t (ix2 a b) = V c main_call0_v13 (ix2 ⟨t.val % 4 * 512 + a.val, by omega⟩ ⟨t.val / 4 * 128 + b.val, by omega⟩) := by
    intro a b; blk_ext [iblk1, idx t]
  have hk : ∀ (k : Fin 2048) (d : Fin 64), iblk1 V c 1 t (ix3 0 k d) = V c main_call0_v16 (ix3 ⟨t.val / 4, by omega⟩ k d) := by
    intro k d; blk_ext [iblk1, idx t]
  have hv : ∀ (k : Fin 2048) (d : Fin 64), iblk1 V c 2 t (ix3 0 k d) = V c main_call0_v19 (ix3 ⟨t.val / 4, by omega⟩ k d) := by
    intro k d; blk_ext [iblk1, idx t]
  unfold attBlk ctxArr
  have hy0 := y0.isLt
  have hy1 := y1.isLt
  by_cases h : y1.val < 64
  · rw [dif_pos (show ((ix2 y0 y1 : S512x128.Idx) 1).val < 64 from h)]
    have eh : (i 1).val / 64 / 2 = t.val / 4 := by rw [h1]; omega
    have ex : (⟨(i 1).val % 64, Nat.mod_lt _ (by decide)⟩ : Fin 64) = ⟨y1.val, h⟩ := Fin.ext (by show (i 1).val % 64 = y1.val; rw [h1]; omega)
    rw [ex]
    refine div_row (V c main_call0_v13) (V c main_call0_v16) (V c main_call0_v19) _ _ _ (t.val % 4) (by omega) ⟨y0.val, by omega⟩ ⟨y1.val, h⟩ _ (i 0)
      (by show (i 0).val = _ + y0.val % 512; rw [h0]; omega) (fun d => ?_) (fun k d => (hk k d).trans ?_) (fun k d => (hv k d).trans ?_)
    · unfold qr
      rw [dif_pos (show y0.val < 512 from hy0), hq]
      congr 2
      · exact Fin.ext h0.symm
      · apply Fin.ext; show t.val / 4 * 128 + d.val = (i 1).val / 64 * 64 + d.val; rw [h1]; omega
    · simp only [eh]
    · simp only [eh]
  · rw [dif_neg (show ¬ ((ix2 y0 y1 : S512x128.Idx) 1).val < 64 from h)]
    have eh : (i 1).val / 64 / 2 = t.val / 4 := by rw [h1]; omega
    have ex : (⟨(i 1).val % 64, Nat.mod_lt _ (by decide)⟩ : Fin 64) = ⟨y1.val - 64, by omega⟩ := Fin.ext (by show (i 1).val % 64 = y1.val - 64; rw [h1]; omega)
    rw [ex]
    refine div_row (V c main_call0_v13) (V c main_call0_v16) (V c main_call0_v19) _ _ _ (t.val % 4) (by omega) ⟨512 + y0.val, by omega⟩ ⟨y1.val - 64, by omega⟩ _ (i 0)
      (by show (i 0).val = _ + (512 + y0.val) % 512; rw [h0]; omega) (fun d => ?_) (fun k d => (hk k d).trans ?_) (fun k d => (hv k d).trans ?_)
    · unfold qr
      rw [dif_neg (show ¬ 512 + y0.val < 512 by omega), hq]
      congr 2
      · apply Fin.ext; show t.val % 4 * 512 + (512 + y0.val - 512) = (i 0).val; rw [h0]; omega
      · apply Fin.ext; show t.val / 4 * 128 + (64 + d.val) = (i 1).val / 64 * 64 + d.val; rw [h1]; omega
    · simp only [eh]
    · simp only [eh]

end Cert.KernelIdeal.Att

end

end
-- ==== Proof.Ideal.MlpVal.lean ====
module

public import proofs.«01_k».proof.Proof.Ideal.Mlp
public import proofs.«01_k».proof.Proof.Ideal.Spec
public import Idealize.ShloMosaic.Lib.Pointwise
public import Idealize.ShloMosaic.Lib.Pipeline.ValueKit

/-! The gated layer's array after its region, entry by entry. -/

@[expose] public section

set_option maxRecDepth 16384

noncomputable section

namespace Cert.KernelIdeal.Mlp

open Cert.KernelIdeal Cert.KernelIdeal.Gen Idealize.ShloMosaic Idealize.ShloMosaic.TcCoe Idealize.SL.Sem Cert.Layer

variable (c : Dev nD) (t : Fin cfg2.N) (x0 : Vec Ideal S256x1024 .bf16) (x1 : Vec Ideal S256x1024 .f32) (x2 : Vec Ideal S1024x1024 .f32) (x3 : Vec Ideal S1x1024 .f32) (x4 x5 : Vec Ideal S1024x2048 .f32) (x6 : Vec Ideal S2048x1024 .f32) (x7 x8 : Vec Ideal S256x128 .f32)

theorem pay6_apply (ow : Vec Ideal S1024x1024 .bf16) (r : Fin 256) (d : Fin 1024) :
    k2_pay6 (F := Ideal) x1 x0 ow (ix2 r d) = hidRow (fun k => x1 (ix2 r k)) (fun k => x0 (ix2 r k)) (fun k d => ow (ix2 k d)) d := by
  pointwise [k2_pay6]
  rfl

theorem pay7_apply (ow : Vec Ideal S1024x1024 .bf16) (gu : Vec Ideal S1024x4096 .bf16) (dw : Vec Ideal S2048x1024 .bf16) (r : Fin 256) (d : Fin 1024) :
    k2_pay7 (F := Ideal) x1 x0 ow x3 gu dw (ix2 r d) = ∑ j : Fin 2048, act (fun k => k2_pay6 (F := Ideal) x1 x0 ow (ix2 r k)) (fun k => x3 (ix2 0 k))
      (fun k => gu (ix2 k ⟨j.val, by omega⟩)) (fun k => gu (ix2 k ⟨2048 + j.val, by omega⟩)) * dw (ix2 j d) := by
  unfold k2_pay7
  generalize hH : k2_pay6 (F := Ideal) x1 x0 ow = H
  pointwise
  rfl

theorem pay1_apply (H M : Vec Ideal S256x1024 .f32) (r : Fin 256) (d : Fin 1024) :
    k2_pay1 (F := Ideal) H M x7 x8 (ix2 r d) = H (ix2 r d) + x7 (ix2 r 0) * scl (x8 (ix2 r 0)) * M (ix2 r d) := by
  pointwise [k2_pay1]
  rfl

/-- The block the body stores from the weights in the scratches. -/
def mlpBlk (ow : Vec Ideal S1024x1024 .bf16) (gu : Vec Ideal S1024x4096 .bf16) (dw : Vec Ideal S2048x1024 .bf16) : Vec Ideal S256x1024 .f32 :=
  k2_pay1 (F := Ideal) (k2_pay6 (F := Ideal) x1 x0 ow) (k2_pay7 (F := Ideal) x1 x0 ow x3 gu dw) x7 x8

theorem mlpBlk_apply (ow : Vec Ideal S1024x1024 .bf16) (gu : Vec Ideal S1024x4096 .bf16) (dw : Vec Ideal S2048x1024 .bf16) (r : Fin 256) (d : Fin 1024) :
    mlpBlk x0 x1 x3 x7 x8 ow gu dw (ix2 r d) = gated (hidRow (fun k => x1 (ix2 r k)) (fun k => x0 (ix2 r k)) (fun k d => ow (ix2 k d))) (fun k => x3 (ix2 0 k))
      (fun k j => gu (ix2 k ⟨j.val, by omega⟩)) (fun k j => gu (ix2 k ⟨2048 + j.val, by omega⟩)) (fun j d => dw (ix2 j d)) (x7 (ix2 r 0)) (x8 (ix2 r 0)) d := by
  unfold mlpBlk
  rw [pay1_apply, pay7_apply, pay6_apply]
  unfold gated
  simp only [pay6_apply]

/-- The gate's and the up projection's weights side by side. -/
def gcat : Vec Ideal S1024x4096 .bf16 := fun i =>
  if h : (i 1).val < 2048 then x4 (ix2 (i 0) ⟨(i 1).val, h⟩)
  else x5 (ix2 (i 0) ⟨(i 1).val - 2048, by have := (i 1).isLt; change _ < 4096 at this; omega⟩)

theorem out_B (h0 : ¬ t.val % 8 = 0) (xs0 : Vec Ideal S1024x1024 .bf16) (xs1 : Vec Ideal S1024x4096 .bf16) (xs2 : Vec Ideal S2048x1024 .bf16) :
    out2_B (F := Ideal) c t h0 x0 x1 x2 x3 x4 x5 x6 x7 x8 xs0 xs1 xs2 = mlpBlk x0 x1 x3 x7 x8 xs0 xs1 xs2 := by
  unfold out2_B run2_B
  frame_out
  have e0 := (Memref.isWhole_whole cc2_scratch0).read_unread (Val := Elt Ideal) xs0
  change View.read _ (View.whole cc2_scratch0) _ = _ at e0
  have e1 := (Memref.isWhole_whole cc2_scratch1).read_unread (Val := Elt Ideal) xs1
  change View.read _ (View.whole cc2_scratch1) _ = _ at e1
  have e2 := (Memref.isWhole_whole cc2_scratch2).read_unread (Val := Elt Ideal) xs2
  change View.read _ (View.whole cc2_scratch2) _ = _ at e2
  simp only [e0, e1, e2]
  rfl

abbrev gpieces : List (View.Piece (Elt Ideal) S1024x4096 .bf16) :=
  [⟨Rect.unit ![0, 2048] ![1024, 2048] inb_S1024x4096_S1024x2048_0_2048, k2_pay4 x5⟩,
    ⟨Rect.unit ![0, 0] ![1024, 2048] inb_S1024x4096_S1024x2048_0_0, k2_pay3 x4⟩]

theorem gcover (y : S1024x4096.Idx) : ∃ p ∈ gpieces x4 x5, y ∈ p.1.set :=
  View.cover_of_tiledBy (gpieces x4 x5) ![1024, 2048] (by sl_kernel_rfl) y

theorem gcanon : View.canon (gpieces x4 x5) = gcat x4 x5 := by
  funext y
  unfold gpieces
  canon_tiles y h using (gcover x4 x5 y)
  · idx_vars y
    pointwise [k2_pay4]
    unfold gcat
    rw [dif_neg (by rw [h1]; omega)]
    congr 1
    blk_ext
  · idx_vars y
    pointwise [k2_pay3]
    unfold gcat
    rw [dif_pos (by rw [h1]; omega)]
    congr 1
    blk_ext

theorem pay2_eq : k2_pay2 (F := Ideal) x2 = x2 := by
  funext y; idx_vars y; pointwise [k2_pay2]
theorem pay5_eq : k2_pay5 (F := Ideal) x6 = x6 := by
  funext y; idx_vars y; pointwise [k2_pay5]

theorem sout_A_0 (h0 : t.val % 8 = 0) : sout2_A_0 (F := Ideal) c t h0 x0 x1 x2 x3 x4 x5 x6 x7 x8 = x2 := by
  unfold sout2_A_0 run2_A
  frame_out
  exact pay2_eq x2
theorem sout_A_1 (h0 : t.val % 8 = 0) : sout2_A_1 (F := Ideal) c t h0 x0 x1 x2 x3 x4 x5 x6 x7 x8 = gcat x4 x5 := by
  unfold sout2_A_1 run2_A
  frame_out
  exact gcanon x4 x5
theorem sout_A_2 (h0 : t.val % 8 = 0) : sout2_A_2 (F := Ideal) c t h0 x0 x1 x2 x3 x4 x5 x6 x7 x8 = x6 := by
  unfold sout2_A_2 run2_A
  frame_out
  exact pay5_eq x6

theorem out_A (h0 : t.val % 8 = 0) :
    out2_A (F := Ideal) c t h0 x0 x1 x2 x3 x4 x5 x6 x7 x8 = mlpBlk x0 x1 x3 x7 x8 x2 (gcat x4 x5) x6 := by
  unfold out2_A run2_A
  frame_out
  have e := View.readCov_eq_canon_ld scM2_1.view _ (Rect.unit ![0, 0] ![1024, 4096] inb_S1024x4096_S1024x4096_0_0) (gcover x4 x5)
  rw [gcanon, View.ld_unit_lit _ _ (by decide)] at e
  unfold gpieces at e
  change (View.whole cc2_scratch1).readCov _ _ = _ at e
  simp only [e, pay2_eq, pay5_eq]
  rfl

variable (V : (c : Dev nD) → (b : Ref sig .tc) → Buf (Elt Ideal) ((c : Thread nD τ).loc b))

/-- The array the region leaves. -/
def mlpArr (cx : S2048x1024.Idx → EReal) (hs : S2048x1024.Idx → EReal) (ow : S1024x1024.Idx → EReal) (ln : S1x1024.Idx → EReal)
    (gw uw : S1024x2048.Idx → EReal) (dw : S2048x1024.Idx → EReal) (m s : S2048x128.Idx → EReal) : S2048x1024.Idx → EReal := fun i =>
  gated (hidRow (fun k => hs (ix2 (i 0) k)) (fun k => cx (ix2 (i 0) k)) (fun k d => ow (ix2 k d))) (fun k => ln (ix2 0 k))
    (fun k j => gw (ix2 k j)) (fun k j => uw (ix2 k j)) (fun j d => dw (ix2 j d)) (m (ix2 (i 0) 0)) (s (ix2 (i 0) 0)) (i 1)

theorem idx : ∀ t : Fin cfg2.N, win2_0.index t = ![t.val, 0] ∧ win2_1.index t = ![t.val, 0] ∧ win2_2.index t = ![0, 0] ∧ win2_3.index t = ![0, 0]
    ∧ win2_4.index t = ![0, 0] ∧ win2_5.index t = ![0, 0] ∧ win2_6.index t = ![0, 0] ∧ win2_7.index t = ![t.val, 0] ∧ win2_8.index t = ![t.val, 0] ∧ win2_9.index t = ![t.val, 0] :=
  (by decide +kernel : ∀ t : Fin grid2.N, win2_0.index t = ![t.val, 0] ∧ win2_1.index t = ![t.val, 0] ∧ win2_2.index t = ![0, 0] ∧ win2_3.index t = ![0, 0]
    ∧ win2_4.index t = ![0, 0] ∧ win2_5.index t = ![0, 0] ∧ win2_6.index t = ![0, 0] ∧ win2_7.index t = ![t.val, 0] ∧ win2_8.index t = ![t.val, 0] ∧ win2_9.index t = ![t.val, 0])

theorem b2 : iblk2 V c 2 t = V c main_arg8 := by funext y; blk_ext [iblk2, idx t]
theorem b4 : iblk2 V c 4 t = V c main_arg10 := by funext y; blk_ext [iblk2, idx t]
theorem b5 : iblk2 V c 5 t = V c main_arg11 := by funext y; blk_ext [iblk2, idx t]
theorem b6 : iblk2 V c 6 t = V c main_arg12 := by funext y; blk_ext [iblk2, idx t]

theorem outAt_eq : outAt2 V c t = mlpBlk (iblk2 V c 0 t) (iblk2 V c 1 t) (iblk2 V c 3 t) (iblk2 V c 7 t) (iblk2 V c 8 t)
    (V c main_arg8) (gcat (V c main_arg10) (V c main_arg11)) (V c main_arg12) := by
  unfold outAt2
  by_cases h : t.val % 8 = 0
  · rw [dif_pos h]
    refine (out_A c t _ _ _ _ _ _ _ _ _ h).trans ?_
    rw [b2, b4, b5, b6]
  · rw [dif_neg h]
    have e0 : sc2_0 V c = V c main_arg8 := (sout_A_0 c t2 _ _ _ _ _ _ _ _ _ rfl).trans (b2 c t2 V)
    have e1 : sc2_1 V c = gcat (V c main_arg10) (V c main_arg11) := (sout_A_1 c t2 _ _ _ _ _ _ _ _ _ rfl).trans (by rw [b4, b5])
    have e2 : sc2_2 V c = V c main_arg12 := (sout_A_2 c t2 _ _ _ _ _ _ _ _ _ rfl).trans (b6 c t2 V)
    rw [e0, e1, e2]
    exact out_B c t _ _ _ _ _ _ _ _ _ h _ _ _

theorem gcat_lo (k : Fin 1024) (j : Fin 2048) : gcat x4 x5 (ix2 k ⟨j.val, by omega⟩) = x4 (ix2 k j) := by
  unfold gcat; rw [dif_pos (show ((ix2 k (⟨j.val, by omega⟩ : Fin 4096) : S1024x4096.Idx) 1).val < 2048 from j.isLt)]
  rfl
theorem gcat_hi (k : Fin 1024) (j : Fin 2048) : gcat x4 x5 (ix2 k ⟨2048 + j.val, by omega⟩) = x5 (ix2 k j) := by
  unfold gcat
  rw [dif_neg (show ¬ ((ix2 k (⟨2048 + j.val, by omega⟩ : Fin 4096) : S1024x4096.Idx) 1).val < 2048 from by show ¬ 2048 + j.val < 2048; omega)]
  refine congrArg x5 (congrArg (ix2 k) (Fin.ext ?_))
  show 2048 + j.val - 2048 = j.val
  omega

theorem arr : (dat2 V c).arrAt 9 cfg2.N = mlpArr (V c main_call0_v20) (V c main_call0_v0) (V c main_arg8) (V c main_call0_v21) (V c main_arg10) (V c main_arg11) (V c main_arg12) (V c main_call0_v8) (V c main_call0_v11) := by
  refine (dat2 V c).arrAt_eq_of_covers 9 _ (by decide +kernel) fun t _ y => ?_
  blk_simp
  rw [after2_9, outAt_eq]
  idx_vars y
  generalize hi : ((View.whole main_call0_v22).slice (win2_9.rect t)).emb (ix2 y0 y1) = i
  have h0 : (i 0).val = t.val * 256 + y0.val := by rw [← hi]; blk_simp [idx t]
  have h1 : i 1 = y1 := by rw [← hi]; apply Fin.ext; blk_simp [idx t]
  have eA : (fun k => iblk2 V c 0 t (ix2 y0 k)) = fun k => V c main_call0_v20 (ix2 (i 0) k) := by funext k; blk_ext [iblk2, idx t]
  have eB : (fun k => iblk2 V c 1 t (ix2 y0 k)) = fun k => V c main_call0_v0 (ix2 (i 0) k) := by funext k; blk_ext [iblk2, idx t]
  have eC : (fun k => iblk2 V c 3 t (ix2 0 k)) = fun k => V c main_call0_v21 (ix2 0 k) := by funext k; blk_ext [iblk2, idx t]
  have e7 : iblk2 V c 7 t (ix2 y0 0) = V c main_call0_v8 (ix2 (i 0) 0) := by blk_ext [iblk2, idx t]
  have e8 : iblk2 V c 8 t (ix2 y0 0) = V c main_call0_v11 (ix2 (i 0) 0) := by blk_ext [iblk2, idx t]
  refine (mlpBlk_apply _ _ _ _ _ _ _ _ y0 y1).trans ?_
  unfold mlpArr
  simp only [gcat_lo, gcat_hi]
  rw [h1, eA, eB, eC, e7, e8]

end Cert.KernelIdeal.Mlp

end

end
-- ==== Proof.Ideal.HostVal.lean ====
module

public import proofs.«01_k».proof.Proof.Ideal.Whole
public import proofs.«01_k».proof.Proof.Ideal.QkvVal
public import proofs.«01_k».proof.Proof.Ideal.AttnArr
public import proofs.«01_k».proof.Proof.Ideal.MlpVal
public import Idealize.ShloMosaic.Lib.Pointwise
public import Idealize.ShloMosaic.Lib.Claim

/-! The whole program's result as a function of its arguments: the host operations between the three calls read entry by entry. -/

@[expose] public section

set_option maxRecDepth 16384

noncomputable section

namespace Cert.KernelIdeal.All

open Cert.KernelIdeal Cert.KernelIdeal.Gen Idealize.ShloMosaic Idealize.ShloMosaic.TcCoe Idealize.SL.Sem Cert.Layer

variable (m : (ℓ : Loc nD τ sig) → Buf (Elt Ideal) ℓ) (ρ : Dev nD → PrngReg) (c : Dev nD)

/-- The projections of a row, rotated, from the arguments. -/
def qkvF (hs : S1x2048x1024.Idx → EReal) (pos : S1x2048.Idx → BitVec 32) (ln : S1024.Idx → EReal) (qw : S1024x1024.Idx → EReal) (kw vw : S1024x512.Idx → EReal) :
    S2048x2048.Idx → EReal := fun i =>
  Qkv.qkvAt (fun d => proj (fun k => hs (ix3 0 (i 0) k)) (fun k => ln (ix1 k)) (fun k => Qkv.wcat qw kw vw (ix2 k d)))
    (fun l => Ideal.cos (FloatOps.sitofp (F := Ideal) FTy.f32 (pos (ix2 0 (i 0))) * Qkv.freq l))
    (fun l => Ideal.sin (FloatOps.sitofp (F := Ideal) FTy.f32 (pos (ix2 0 (i 0))) * Qkv.freq l)) (i 1)

/-- The keys head by head, or the values: eight columns blocks from column `o` on. -/
def headsF (q : S2048x2048.Idx → EReal) (o : ℕ) (ho : o + 512 ≤ 2048) : S8x2048x64.Idx → EReal := fun i =>
  q (ix2 (i 1) ⟨o + (i 0).val * 64 + (i 2).val, by
    have h0 : (i 0).val < 8 := (i 0).isLt
    have h2 : (i 2).val < 64 := (i 2).isLt
    omega⟩)

/-- The result from the arguments. -/
def outF (hs : S1x2048x1024.Idx → EReal) (pos : S1x2048.Idx → BitVec 32) (mask : S1x2048.Idx → BitVec 1) (sco : S1x2048.Idx → EReal) (ln : S1024.Idx → EReal)
    (qw : S1024x1024.Idx → EReal) (kw vw : S1024x512.Idx → EReal) (ow : S1024x1024.Idx → EReal) (pln : S1024.Idx → EReal) (gw uw : S1024x2048.Idx → EReal) (dw : S2048x1024.Idx → EReal) :
    S1x2048x1024.Idx → EReal := fun i =>
  gated (hidRow (fun k => hs (ix3 0 (i 1) k))
      (fun k => Att.ctxArr (qkvF hs pos ln qw kw vw) (headsF (qkvF hs pos ln qw kw vw) 1024 (by decide)) (headsF (qkvF hs pos ln qw kw vw) 1536 (by decide)) (ix2 (i 1) k))
      (fun k d => ow (ix2 k d))) (fun k => pln (ix1 k))
    (fun k j => gw (ix2 k j)) (fun k j => uw (ix2 k j)) (fun j d => dw (ix2 j d)) (FloatOps.uitofp (F := Ideal) FTy.f32 (mask (ix2 0 (i 1)))) (sco (ix2 0 (i 1))) (i 2)

abbrev A (r : Ref sig .tc) := m ((c : Thread nD τ).loc r)

theorem v0_eq : W1 m ρ c (Proc.devRef .tc main_call0_v0) = (shapeCast (α := EReal) S2048x1024 (A m c main_arg0) shapeCasts_S1x2048x1024_S2048x1024 : S2048x1024.Idx → EReal) := by
  unfold_abbrev_sides; after_results; rfl
theorem v4_eq : W1 m ρ c (Proc.devRef .tc main_call0_v4) = (broadcastInDim S2048x128 ![0, 1] bcast_S2048x1_S2048x128_0_1
    (shapeCast S2048x1 (sitofp (F := Ideal) .f32 (shapeCast S2048 (A m c main_arg1) shapeCasts_S1x2048_S2048)) shapeCasts_S2048_S2048x1) : FVec Ideal S2048x128 .f32) := by
  unfold_abbrev_sides; after_results; rfl
theorem v8_eq : W1 m ρ c (Proc.devRef .tc main_call0_v8) = (broadcastInDim S2048x128 ![0, 1] bcast_S2048x1_S2048x128_0_1
    (shapeCast S2048x1 (uitofp (F := Ideal) .f32 (shapeCast S2048 (A m c main_arg2) shapeCasts_S1x2048_S2048)) shapeCasts_S2048_S2048x1) : FVec Ideal S2048x128 .f32) := by
  unfold_abbrev_sides; after_results; rfl
theorem v11_eq : W1 m ρ c (Proc.devRef .tc main_call0_v11) = (broadcastInDim S2048x128 ![0, 1] bcast_S2048x1_S2048x128_0_1
    (shapeCast S2048x1 (shapeCast S2048 (A m c main_arg3) shapeCasts_S1x2048_S2048) shapeCasts_S2048_S2048x1) : FVec Ideal S2048x128 .f32) := by
  unfold_abbrev_sides; after_results; rfl
theorem v12_eq : W1 m ρ c (Proc.devRef .tc main_call0_v12) = (shapeCast (α := EReal) S1x1024 (A m c main_arg4) shapeCasts_S1024_S1x1024 : S1x1024.Idx → EReal) := by
  unfold_abbrev_sides; after_results; rfl
theorem v16_eq : W3 m ρ c (Proc.devRef .tc main_call0_v16) = (transpose S8x2048x64 [1, 0, 2] (shapeCast (α := EReal) S2048x8x64
    (extractStridedSlice S2048x512 ![0, 1024] (W2 m ρ c (Proc.devRef .tc main_call0_v13)) slices_S2048x2048_S2048x512_0_1024) shapeCasts_S2048x512_S2048x8x64)
    transposes_S2048x8x64_S8x2048x64_1_0_2 : S8x2048x64.Idx → EReal) := by
  unfold_abbrev_sides; after_results; rfl
theorem v19_eq : W3 m ρ c (Proc.devRef .tc main_call0_v19) = (transpose S8x2048x64 [1, 0, 2] (shapeCast (α := EReal) S2048x8x64
    (extractStridedSlice S2048x512 ![0, 1536] (W2 m ρ c (Proc.devRef .tc main_call0_v13)) slices_S2048x2048_S2048x512_0_1536) shapeCasts_S2048x512_S2048x8x64)
    transposes_S2048x8x64_S8x2048x64_1_0_2 : S8x2048x64.Idx → EReal) := by
  unfold_abbrev_sides; after_results; rfl
theorem v21_eq : W5 m ρ c (Proc.devRef .tc main_call0_v21) = (shapeCast (α := EReal) S1x1024 (W4 m ρ c (Proc.devRef .tc main_arg9)) shapeCasts_S1024_S1x1024 : S1x1024.Idx → EReal) := by
  unfold_abbrev_sides; after_results; rfl
theorem out_eq : W7 m ρ c (Proc.devRef .tc main_v0) = (broadcastInDim S1x2048x1024 ![1, 2] bcast_S2048x1024_S1x2048x1024_1_2 (W6 m ρ c (Proc.devRef .tc main_call0_v22)) : S1x2048x1024.Idx → EReal) := by
  unfold_abbrev_sides; after_results; rfl

theorem cast3 (X : S1x2048x1024.Idx → EReal) (r : Fin 2048) (d : Fin 1024) :
    shapeCast (α := EReal) S2048x1024 X shapeCasts_S1x2048x1024_S2048x1024 (ix2 r d) = X (ix3 0 r d) := by
  pointwise

theorem v0_at (r : Fin 2048) (d : Fin 1024) : (W1 m ρ c (Proc.devRef .tc main_call0_v0) : S2048x1024.Idx → EReal) (ix2 r d) = A m c main_arg0 (ix3 0 r d) := by
  exact (congrFun (v0_eq m ρ c) _).trans (cast3 _ r d)
theorem v4_at (r : Fin 2048) : (W1 m ρ c (Proc.devRef .tc main_call0_v4) : S2048x128.Idx → EReal) (ix2 r 0) = FloatOps.sitofp (F := Ideal) FTy.f32 (A m c main_arg1 (ix2 0 r)) := by
  rw [v4_eq]; generalize A m c main_arg1 = X; pointwise
theorem v8_at (r : Fin 2048) : (W1 m ρ c (Proc.devRef .tc main_call0_v8) : S2048x128.Idx → EReal) (ix2 r 0) = FloatOps.uitofp (F := Ideal) FTy.f32 (A m c main_arg2 (ix2 0 r)) := by
  rw [v8_eq]; generalize A m c main_arg2 = X; pointwise
theorem v11_at (r : Fin 2048) : (W1 m ρ c (Proc.devRef .tc main_call0_v11) : S2048x128.Idx → EReal) (ix2 r 0) = A m c main_arg3 (ix2 0 r) := by
  rw [v11_eq]; generalize A m c main_arg3 = X; pointwise
theorem v12_at (d : Fin 1024) : (W1 m ρ c (Proc.devRef .tc main_call0_v12) : S1x1024.Idx → EReal) (ix2 0 d) = A m c main_arg4 (ix1 d) := by
  rw [v12_eq]; generalize A m c main_arg4 = X; pointwise

theorem slice_k (q : S2048x2048.Idx → EReal) : transpose S8x2048x64 [1, 0, 2] (shapeCast (α := EReal) S2048x8x64
    (extractStridedSlice S2048x512 ![0, 1024] q slices_S2048x2048_S2048x512_0_1024) shapeCasts_S2048x512_S2048x8x64)
    transposes_S2048x8x64_S8x2048x64_1_0_2 = headsF q 1024 (by decide) := by
  funext y
  idx_vars y
  pointwise
  unfold headsF
  refine congrArg q (congrArg (ix2 y1) (Fin.ext ?_))
  show 1024 + (y0.val * 64 + y2.val) = 1024 + y0.val * 64 + y2.val
  omega

theorem slice_v (q : S2048x2048.Idx → EReal) : transpose S8x2048x64 [1, 0, 2] (shapeCast (α := EReal) S2048x8x64
    (extractStridedSlice S2048x512 ![0, 1536] q slices_S2048x2048_S2048x512_0_1536) shapeCasts_S2048x512_S2048x8x64)
    transposes_S2048x8x64_S8x2048x64_1_0_2 = headsF q 1536 (by decide) := by
  funext y
  idx_vars y
  pointwise
  unfold headsF
  refine congrArg q (congrArg (ix2 y1) (Fin.ext ?_))
  show 1536 + (y0.val * 64 + y2.val) = 1536 + y0.val * 64 + y2.val
  omega

theorem qkv_eq : (W2 m ρ c (Proc.devRef .tc main_call0_v13) : S2048x2048.Idx → EReal)
    = qkvF (A m c main_arg0) (A m c main_arg1) (A m c main_arg4) (A m c main_arg5) (A m c main_arg6) (A m c main_arg7) := by
  refine ((W2_arr m ρ c 6).trans (Qkv.arr c (U1 m ρ))).trans ?_
  funext i
  have e5 : U1 m ρ c main_arg5 = A m c main_arg5 := W1_args m ρ c _ (by decide)
  have e6 : U1 m ρ c main_arg6 = A m c main_arg6 := W1_args m ρ c _ (by decide)
  have e7 : U1 m ρ c main_arg7 = A m c main_arg7 := W1_args m ρ c _ (by decide)
  rw [e5, e6, e7]
  unfold Qkv.qkvArr qkvF
  have h0 : (fun k => (U1 m ρ c main_call0_v0 : S2048x1024.Idx → EReal) (ix2 (i 0) k)) = fun k => A m c main_arg0 (ix3 0 (i 0) k) := funext fun k => v0_at m ρ c _ k
  have h12 : (fun k => (U1 m ρ c main_call0_v12 : S1x1024.Idx → EReal) (ix2 0 k)) = fun k => A m c main_arg4 (ix1 k) := funext fun k => v12_at m ρ c k
  have h4 : (U1 m ρ c main_call0_v4 : S2048x128.Idx → EReal) (ix2 (i 0) 0) = _ := v4_at m ρ c (i 0)
  rw [h0, h12, h4]

theorem ctx_eq : (W4 m ρ c (Proc.devRef .tc main_call0_v20) : S2048x1024.Idx → EReal)
    = Att.ctxArr (W2 m ρ c (Proc.devRef .tc main_call0_v13)) (headsF (W2 m ρ c (Proc.devRef .tc main_call0_v13)) 1024 (by decide))
      (headsF (W2 m ρ c (Proc.devRef .tc main_call0_v13)) 1536 (by decide)) := by
  refine ((W4_arr m ρ c 3).trans (Att.arr (U3 m ρ) c)).trans ?_
  have h13 : U3 m ρ c main_call0_v13 = W2 m ρ c (Proc.devRef .tc main_call0_v13) := W3_of m ρ c _ (by decide)
  have h16 : U3 m ρ c main_call0_v16 = _ := (v16_eq m ρ c).trans (slice_k _)
  have h19 : U3 m ρ c main_call0_v19 = _ := (v19_eq m ρ c).trans (slice_v _)
  rw [h13, h16, h19]

theorem keep5 (r : Ref sig .tc) (h2 : r ∉ hostOps2_W) (h1 : r ∉ hostOps1_W) (hw1 : ∀ w : Fin cfg1.W, Pipeline.arrRef spec1 w = r → (cfg1.win w).isOut = false)
    (hw0 : ∀ w : Fin cfg0.W, Pipeline.arrRef spec0 w = r → (cfg0.win w).isOut = false) : W5 m ρ c (Proc.devRef .tc r) = W1 m ρ c (Proc.devRef .tc r) :=
  (W5_of m ρ c r h2).trans ((W4_of m ρ c r hw1).trans ((W3_of m ρ c r h1).trans (W2_of m ρ c r hw0)))

theorem result : (W7 m ρ c (Proc.devRef .tc main_v0) : S1x2048x1024.Idx → EReal)
    = outF (A m c main_arg0) (A m c main_arg1) (A m c main_arg2) (A m c main_arg3) (A m c main_arg4) (A m c main_arg5) (A m c main_arg6) (A m c main_arg7) (A m c main_arg8)
      (A m c main_arg9) (A m c main_arg10) (A m c main_arg11) (A m c main_arg12) := by
  refine (out_eq m ρ c).trans ?_
  have e := (W6_arr m ρ c 9).trans (Mlp.arr c (U5 m ρ))
  have h20 : U5 m ρ c main_call0_v20 = _ := (W5_of m ρ c main_call0_v20 (by decide)).trans (ctx_eq m ρ c)
  rw [qkv_eq] at h20
  have h0 : ∀ r k, (U5 m ρ c main_call0_v0 : S2048x1024.Idx → EReal) (ix2 r k) = A m c main_arg0 (ix3 0 r k) := fun r k =>
    (congrFun (keep5 m ρ c main_call0_v0 (by decide) (by decide) (by decide) (by decide)) _).trans (v0_at m ρ c r k)
  have h8 : ∀ r, (U5 m ρ c main_call0_v8 : S2048x128.Idx → EReal) (ix2 r 0) = _ := fun r =>
    (congrFun (keep5 m ρ c main_call0_v8 (by decide) (by decide) (by decide) (by decide)) _).trans (v8_at m ρ c r)
  have h11 : ∀ r, (U5 m ρ c main_call0_v11 : S2048x128.Idx → EReal) (ix2 r 0) = _ := fun r =>
    (congrFun (keep5 m ρ c main_call0_v11 (by decide) (by decide) (by decide) (by decide)) _).trans (v11_at m ρ c r)
  have h9 : W4 m ρ c (Proc.devRef .tc main_arg9) = A m c main_arg9 := W4_args m ρ c _ (by decide)
  have h21 : ∀ k : Fin 1024, (U5 m ρ c main_call0_v21 : S1x1024.Idx → EReal) (ix2 0 k) = A m c main_arg9 (ix1 k) := by
    intro k
    refine (congrFun (v21_eq m ρ c) _).trans ?_
    rw [h9]
    generalize A m c main_arg9 = X
    pointwise
  have a8 : U5 m ρ c main_arg8 = A m c main_arg8 := W5_args m ρ c _ (by decide)
  have a10 : U5 m ρ c main_arg10 = A m c main_arg10 := W5_args m ρ c _ (by decide)
  have a11 : U5 m ρ c main_arg11 = A m c main_arg11 := W5_args m ρ c _ (by decide)
  have a12 : U5 m ρ c main_arg12 = A m c main_arg12 := W5_args m ρ c _ (by decide)
  rw [a8, a10, a11, a12, h20] at e
  have e' : (W6 m ρ c (Proc.devRef .tc main_call0_v22) : S2048x1024.Idx → EReal) = _ := e
  rw [e']
  funext y
  idx_vars y
  obtain rfl : y0 = 0 := Subsingleton.elim _ _
  generalize hT : Mlp.mlpArr _ _ _ _ _ _ _ _ _ = T
  have hb : broadcastInDim (α := EReal) S1x2048x1024 ![1, 2] bcast_S2048x1024_S1x2048x1024_1_2 T (ix3 0 y1 y2) = T (ix2 y1 y2) := by pointwise
  refine hb.trans ?_
  rw [← hT]
  unfold Mlp.mlpArr outF
  have g0 : (fun k => (U5 m ρ c main_call0_v0 : S2048x1024.Idx → EReal) (ix2 y1 k)) = fun k => A m c main_arg0 (ix3 0 y1 k) := funext fun k => h0 y1 k
  have g21 : (fun k => (U5 m ρ c main_call0_v21 : S1x1024.Idx → EReal) (ix2 0 k)) = fun k => A m c main_arg9 (ix1 k) := funext h21
  have g8 := h8 y1
  have g11 := h11 y1
  show gated (hidRow (fun k => (U5 m ρ c main_call0_v0 : S2048x1024.Idx → EReal) (ix2 y1 k)) _ _) (fun k => (U5 m ρ c main_call0_v21 : S1x1024.Idx → EReal) (ix2 0 k)) _ _ _
    ((U5 m ρ c main_call0_v8 : S2048x128.Idx → EReal) (ix2 y1 0)) ((U5 m ρ c main_call0_v11 : S2048x128.Idx → EReal) (ix2 y1 0)) y2 = _
  rw [g0, g21, g8, g11]
  rfl

end Cert.KernelIdeal.All

end

end
-- ==== Proof.Ideal.RefProj.lean ====
module

public import proofs.«01_k».proof.Proof.Gen.ReferenceIdeal.Read
public import proofs.«01_k».proof.Proof.Ideal.Spec
public import Idealize.ShloMosaic.Lib.Pointwise

/-! The reference's normalised rows and their three projections, entry by entry. -/

@[expose] public section

set_option maxRecDepth 16384

noncomputable section

namespace Cert.ReferenceIdeal.Val

open Cert.ReferenceIdeal Cert.ReferenceIdeal.Gen Cert.ReferenceIdeal.Read Idealize.ShloMosaic Cert.Layer

variable (x0 : S1x2048x1024.Idx → EReal) (x4 : S1024.Idx → EReal) (x5 : S1024x1024.Idx → EReal) (x6 x7 : S1024x512.Idx → EReal)

/-- A row of the input. -/
abbrev row (r : Fin 2048) : Fin 1024 → EReal := fun k => x0 (ix3 0 r k)
/-- The weights of the first normalisation. -/
abbrev lnw : Fin 1024 → EReal := fun k => x4 (ix1 k)

/-- A normalised entry. -/
theorem norm_at (r : Fin 2048) (k : Fin 1024) : val_main_v12 (F := Ideal) x0 x4 (ix3 0 r k) = nrm (row x0 r) (lnw x4) k := by
  pointwise [val_main_v12, val_main_v11, val_main_v10, val_main_v9, val_main_v8, val_main_v7, val_main_v6, val_main_v5, val_main_v4, val_main_v3, val_main_v2, val_main_v1, val_main_v0,
    val_main_cst, val_main_cst_0, val_main_cst_1]
  rfl

theorem qdot_at (r : Fin 2048) (d : Fin 1024) : val_main_v13 (F := Ideal) x0 x4 x5 (ix3 0 r d) = proj (row x0 r) (lnw x4) (fun k => x5 (ix2 k d)) := by
  rw [val_main_v13_apply]
  refine Finset.sum_congr rfl fun k _ => ?_
  rw [show lidx_main_v13 (ix3 0 r d) k = ix3 0 r k from eq_ix3 _, show ridx_main_v13 (ix3 0 r d) k = ix2 k d from eq_ix2 _, norm_at]
theorem kdot_at (r : Fin 2048) (d : Fin 512) : val_main_v16 (F := Ideal) x0 x4 x6 (ix3 0 r d) = proj (row x0 r) (lnw x4) (fun k => x6 (ix2 k d)) := by
  rw [val_main_v16_apply]
  refine Finset.sum_congr rfl fun k _ => ?_
  rw [show lidx_main_v16 (ix3 0 r d) k = ix3 0 r k from eq_ix3 _, show ridx_main_v16 (ix3 0 r d) k = ix2 k d from eq_ix2 _, norm_at]
theorem vdot_at (r : Fin 2048) (d : Fin 512) : val_main_v19 (F := Ideal) x0 x4 x7 (ix3 0 r d) = proj (row x0 r) (lnw x4) (fun k => x7 (ix2 k d)) := by
  rw [val_main_v19_apply]
  refine Finset.sum_congr rfl fun k _ => ?_
  rw [show lidx_main_v19 (ix3 0 r d) k = ix3 0 r k from eq_ix3 _, show ridx_main_v19 (ix3 0 r d) k = ix2 k d from eq_ix2 _, norm_at]

/-- A query head's entry before the rotation. -/
theorem q_at (h : Fin 16) (r : Fin 2048) (d : Fin 64) :
    val_main_v15 (F := Ideal) x0 x4 x5 (ix4 0 h r d) = proj (row x0 r) (lnw x4) (fun k => x5 (ix2 k ⟨h.val * 64 + d.val, by omega⟩)) := by
  rw [val_main_v15_apply, val_main_v14_apply, ← qdot_at]
  refine congrArg _ ((eq_ix3 _).trans ?_)
  congr 1 <;> exact Fin.ext (by simp; omega)
/-- A key head's entry before the rotation. -/
theorem k_at (h : Fin 8) (r : Fin 2048) (d : Fin 64) :
    val_main_v18 (F := Ideal) x0 x4 x6 (ix4 0 h r d) = proj (row x0 r) (lnw x4) (fun k => x6 (ix2 k ⟨h.val * 64 + d.val, by omega⟩)) := by
  rw [val_main_v18_apply, val_main_v17_apply, ← kdot_at]
  refine congrArg _ ((eq_ix3 _).trans ?_)
  congr 1 <;> exact Fin.ext (by simp; omega)
/-- A value head's entry. -/
theorem v_at (h : Fin 8) (r : Fin 2048) (d : Fin 64) :
    val_main_v21 (F := Ideal) x0 x4 x7 (ix4 0 h r d) = proj (row x0 r) (lnw x4) (fun k => x7 (ix2 k ⟨h.val * 64 + d.val, by omega⟩)) := by
  rw [val_main_v21_apply, val_main_v20_apply, ← vdot_at]
  refine congrArg _ ((eq_ix3 _).trans ?_)
  congr 1 <;> exact Fin.ext (by simp; omega)

end Cert.ReferenceIdeal.Val

end

end
-- ==== Proof.Ideal.RefRope.lean ====
module

public import proofs.«01_k».proof.Proof.Ideal.RefProj
public import proofs.«01_k».proof.Proof.Ideal.QkvVal
public import Idealize.ShloMosaic.Lib.IdealHost

/-! The reference's rotation of the queries and keys, entry by entry. -/

@[expose] public section

set_option maxRecDepth 16384

noncomputable section

namespace Cert.ReferenceIdeal.Val

open Cert.ReferenceIdeal Cert.ReferenceIdeal.Gen Cert.ReferenceIdeal.Read Idealize.ShloMosaic Cert.Layer

variable (x0 : S1x2048x1024.Idx → EReal) (x1 : S1x2048.Idx → BitVec 32) (x4 : S1024.Idx → EReal) (x5 : S1024x1024.Idx → EReal) (x6 x7 : S1024x512.Idx → EReal)

theorem lane_toInt : ∀ l : Fin 32, (BitVec.ofNat 32 l.val).toInt = (l.val : ℤ) := by decide

/-- The frequency's real value. -/
def freqR (l : Fin 32) : ℝ := Real.exp ((l.val : ℝ) * ((-1/32) * Real.log 10000))

theorem kfreq (l : Fin 32) : Cert.KernelIdeal.Qkv.freq l = (freqR l : EReal) := by
  unfold Cert.KernelIdeal.Qkv.freq freqR
  rw [show (Named.named (F := Ideal) Cert.KernelIdeal.κ "rope" 3197328782#32 : Ideal .f32) = (((-1/32) * (Real.log 10000) : ℝ) : EReal) from
    IdealRules.named_const.ideal_named_scalar _ _ _ _ rfl]
  show Ideal.exp ((((BitVec.ofNat 32 l.val).toInt : ℝ) : EReal) * _) = _
  rw [lane_toInt, ← EReal.coe_mul]
  show ((Real.exp _ : ℝ) : EReal) = _
  norm_num

theorem lit_two : Ideal.ofBits .f32 0x40000000#32 = ((2 : ℝ) : EReal) := by
  simp [Ideal.ofBits, Ideal.ieee, -EReal.coe_mul]; norm_num
theorem lit_64 : Ideal.ofBits .f32 0x42800000#32 = ((64 : ℝ) : EReal) := by
  simp [Ideal.ofBits, Ideal.ieee, -EReal.coe_mul]; norm_num
theorem lit_1e4 : Ideal.ofBits .f32 0x461C4000#32 = ((10000 : ℝ) : EReal) := by
  simp [Ideal.ofBits, Ideal.ieee, -EReal.coe_mul]; norm_num
theorem lit_8 : Ideal.ofBits .f32 0x41000000#32 = ((8 : ℝ) : EReal) := by
  simp [Ideal.ofBits, Ideal.ieee, -EReal.coe_mul]; norm_num

theorem div_coe {a b : ℝ} (hb : b ≠ 0) : Ideal.div (a : EReal) (b : EReal) = ((a / b : ℝ) : EReal) := by
  unfold Ideal.div
  rw [if_neg (by exact_mod_cast hb), ← EReal.coe_inv, ← EReal.coe_mul, div_eq_mul_inv]

/-- The reference's inverse frequency of a lane is the same number. -/
theorem freq_at (l : Fin 32) : val_main_v32 (F := Ideal) (ix1 l) = (freqR l : EReal) := by
  pointwise [val_main_v32, val_main_v31, val_main_v30, val_main_v29, val_main_v28, val_main_v27, val_main_v26, val_main_v25, val_main_v24, val_main_v23, val_main_v22,
    val_main_cst_2, val_main_cst_3, val_main_cst_4, val_main_cst_5, val_main_cst_6]
  show Ideal.div ((1 : ℝ) : EReal) (Ideal.pow (Ideal.ofBits FTy.f32 1176256512#32) (Ideal.div (Ideal.ofBits FTy.f32 1073741824#32 * (((BitVec.ofNat 32 l.val).toInt : ℝ) : EReal))
    (Ideal.ofBits FTy.f32 1115684864#32))) = _
  rw [lit_1e4, lit_two, lit_64, lane_toInt, ← EReal.coe_mul, div_coe (by norm_num)]
  show Ideal.div ((1 : ℝ) : EReal) ((Real.rpow 10000 _ : ℝ) : EReal) = _
  have e : Real.rpow 10000 (2 * ((l.val : ℤ) : ℝ) / 64) = Real.exp (Real.log 10000 * (2 * ((l.val : ℤ) : ℝ) / 64)) := Real.rpow_def_of_pos (by norm_num) _
  rw [e, div_coe (Real.exp_ne_zero _)]
  refine congrArg _ ?_
  unfold freqR
  rw [one_div, ← Real.exp_neg]
  congr 1
  push_cast
  ring

/-- The angle of a position in a lane. -/
abbrev ang (r : Fin 2048) (l : Fin 32) : EReal := FloatOps.sitofp (F := Ideal) FTy.f32 (x1 (ix2 0 r)) * (freqR l : EReal)

theorem ang_at (r : Fin 2048) (l : Fin 32) : val_main_v38 (F := Ideal) x1 (ix3 0 r l) = ang x1 r l := by
  unfold ang
  rw [← freq_at]
  generalize hz : val_main_v32 (F := Ideal) = z
  pointwise [val_main_v38, val_main_v37, val_main_v36, val_main_v35, val_main_v34, val_main_v33]
  simp only [hz]

theorem emb_lo (r : Fin 2048) (l : Fin 32) : val_main_v39 (F := Ideal) x1 (ix3 0 r ⟨l.val, by omega⟩) = ang x1 r l := by
  unfold val_main_v39
  rw [← ang_at]
  exact concatenate_apply_piece (t := S1x2048x64) 2 _ _ _ 0 (by simp) S1x2048x32 (val_main_v38 (F := Ideal) x1) rfl rfl 0 rfl (ix3 0 r l)
    (fun b hb => match b with | ⟨0, _⟩ => rfl | ⟨1, _⟩ => rfl | ⟨2, _⟩ => absurd rfl hb) (Nat.zero_add _)
theorem emb_hi (r : Fin 2048) (l : Fin 32) : val_main_v39 (F := Ideal) x1 (ix3 0 r ⟨32 + l.val, by omega⟩) = ang x1 r l := by
  unfold val_main_v39
  rw [← ang_at]
  exact concatenate_apply_piece (t := S1x2048x64) 2 _ _ _ 1 (by simp) S1x2048x32 (val_main_v38 (F := Ideal) x1) rfl rfl 32 rfl (ix3 0 r l)
    (fun b hb => match b with | ⟨0, _⟩ => rfl | ⟨1, _⟩ => rfl | ⟨2, _⟩ => absurd rfl hb) rfl

theorem cosq_at (h : Fin 16) (r : Fin 2048) (d : Fin 64) : val_main_v44 (F := Ideal) x1 (ix4 0 h r d) = Ideal.cos (val_main_v39 (F := Ideal) x1 (ix3 0 r d)) := by
  rw [val_main_v44_apply, val_main_v41_apply, val_main_v40_apply]
  exact congrArg (fun i => Ideal.cos (val_main_v39 (F := Ideal) x1 i)) (eq_ix3 _)
theorem sinq_at (h : Fin 16) (r : Fin 2048) (d : Fin 64) : val_main_v50 (F := Ideal) x1 (ix4 0 h r d) = Ideal.sin (val_main_v39 (F := Ideal) x1 (ix3 0 r d)) := by
  rw [val_main_v50_apply, val_main_v43_apply, val_main_v42_apply]
  exact congrArg (fun i => Ideal.sin (val_main_v39 (F := Ideal) x1 i)) (eq_ix3 _)
theorem cosk_at (h : Fin 8) (r : Fin 2048) (d : Fin 64) : val_main_v53 (F := Ideal) x1 (ix4 0 h r d) = Ideal.cos (val_main_v39 (F := Ideal) x1 (ix3 0 r d)) := by
  rw [val_main_v53_apply, val_main_v41_apply, val_main_v40_apply]
  exact congrArg (fun i => Ideal.cos (val_main_v39 (F := Ideal) x1 i)) (eq_ix3 _)
theorem sink_at (h : Fin 8) (r : Fin 2048) (d : Fin 64) : val_main_v59 (F := Ideal) x1 (ix4 0 h r d) = Ideal.sin (val_main_v39 (F := Ideal) x1 (ix3 0 r d)) := by
  rw [val_main_v59_apply, val_main_v43_apply, val_main_v42_apply]
  exact congrArg (fun i => Ideal.sin (val_main_v39 (F := Ideal) x1 i)) (eq_ix3 _)

/-- The first half of the rotated-by-a-quarter queries: the second half negated. -/
theorem turnq_lo (h : Fin 16) (r : Fin 2048) (l : Fin 32) :
    val_main_v49 (F := Ideal) x0 x4 x5 (ix4 0 h r ⟨l.val, by omega⟩) = -val_main_v15 (F := Ideal) x0 x4 x5 (ix4 0 h r ⟨32 + l.val, by omega⟩) := by
  unfold val_main_v49
  rw [concatenate_apply_piece (t := S1x16x2048x64) 3 _ _ _ 0 (by simp) S1x16x2048x32 (val_main_v48 (F := Ideal) x0 x4 x5) rfl rfl 0 rfl (ix4 0 h r l)
    (fun b hb => match b with | ⟨0, _⟩ => rfl | ⟨1, _⟩ => rfl | ⟨2, _⟩ => rfl | ⟨3, _⟩ => absurd rfl hb) (Nat.zero_add _), val_main_v48_apply, val_main_v47_apply]
  exact congrArg (fun i => -val_main_v15 (F := Ideal) x0 x4 x5 i) (eq_ix4 _)
/-- The second half of the rotated-by-a-quarter queries: the first half. -/
theorem turnq_hi (h : Fin 16) (r : Fin 2048) (l : Fin 32) :
    val_main_v49 (F := Ideal) x0 x4 x5 (ix4 0 h r ⟨32 + l.val, by omega⟩) = val_main_v15 (F := Ideal) x0 x4 x5 (ix4 0 h r ⟨l.val, by omega⟩) := by
  unfold val_main_v49
  rw [concatenate_apply_piece (t := S1x16x2048x64) 3 _ _ _ 1 (by simp) S1x16x2048x32 (val_main_v46 (F := Ideal) x0 x4 x5) rfl rfl 32 rfl (ix4 0 h r l)
    (fun b hb => match b with | ⟨0, _⟩ => rfl | ⟨1, _⟩ => rfl | ⟨2, _⟩ => rfl | ⟨3, _⟩ => absurd rfl hb) rfl, val_main_v46_apply]
  exact congrArg (fun i => val_main_v15 (F := Ideal) x0 x4 x5 i) (eq_ix4 _)
/-- The first half of the rotated-by-a-quarter keys: the second half negated. -/
theorem turnk_lo (h : Fin 8) (r : Fin 2048) (l : Fin 32) :
    val_main_v58 (F := Ideal) x0 x4 x6 (ix4 0 h r ⟨l.val, by omega⟩) = -val_main_v18 (F := Ideal) x0 x4 x6 (ix4 0 h r ⟨32 + l.val, by omega⟩) := by
  unfold val_main_v58
  rw [concatenate_apply_piece (t := S1x8x2048x64) 3 _ _ _ 0 (by simp) S1x8x2048x32 (val_main_v57 (F := Ideal) x0 x4 x6) rfl rfl 0 rfl (ix4 0 h r l)
    (fun b hb => match b with | ⟨0, _⟩ => rfl | ⟨1, _⟩ => rfl | ⟨2, _⟩ => rfl | ⟨3, _⟩ => absurd rfl hb) (Nat.zero_add _), val_main_v57_apply, val_main_v56_apply]
  exact congrArg (fun i => -val_main_v18 (F := Ideal) x0 x4 x6 i) (eq_ix4 _)
/-- The second half of the rotated-by-a-quarter keys: the first half. -/
theorem turnk_hi (h : Fin 8) (r : Fin 2048) (l : Fin 32) :
    val_main_v58 (F := Ideal) x0 x4 x6 (ix4 0 h r ⟨32 + l.val, by omega⟩) = val_main_v18 (F := Ideal) x0 x4 x6 (ix4 0 h r ⟨l.val, by omega⟩) := by
  unfold val_main_v58
  rw [concatenate_apply_piece (t := S1x8x2048x64) 3 _ _ _ 1 (by simp) S1x8x2048x32 (val_main_v55 (F := Ideal) x0 x4 x6) rfl rfl 32 rfl (ix4 0 h r l)
    (fun b hb => match b with | ⟨0, _⟩ => rfl | ⟨1, _⟩ => rfl | ⟨2, _⟩ => rfl | ⟨3, _⟩ => absurd rfl hb) rfl, val_main_v55_apply]
  exact congrArg (fun i => val_main_v18 (F := Ideal) x0 x4 x6 i) (eq_ix4 _)

/-- A rotated query's entry in the first half of its head. -/
theorem rotq_lo (h : Fin 16) (r : Fin 2048) (l : Fin 32) :
    val_main_v52 (F := Ideal) x0 x1 x4 x5 (ix4 0 h r ⟨l.val, by omega⟩)
      = val_main_v15 (F := Ideal) x0 x4 x5 (ix4 0 h r ⟨l.val, by omega⟩) * Ideal.cos (ang x1 r l)
        + -val_main_v15 (F := Ideal) x0 x4 x5 (ix4 0 h r ⟨32 + l.val, by omega⟩) * Ideal.sin (ang x1 r l) := by
  rw [val_main_v52_apply, val_main_v45_apply, val_main_v51_apply, cosq_at, sinq_at, emb_lo, turnq_lo]; rfl
/-- A rotated query's entry in the second half of its head. -/
theorem rotq_hi (h : Fin 16) (r : Fin 2048) (l : Fin 32) :
    val_main_v52 (F := Ideal) x0 x1 x4 x5 (ix4 0 h r ⟨32 + l.val, by omega⟩)
      = val_main_v15 (F := Ideal) x0 x4 x5 (ix4 0 h r ⟨32 + l.val, by omega⟩) * Ideal.cos (ang x1 r l)
        + val_main_v15 (F := Ideal) x0 x4 x5 (ix4 0 h r ⟨l.val, by omega⟩) * Ideal.sin (ang x1 r l) := by
  rw [val_main_v52_apply, val_main_v45_apply, val_main_v51_apply, cosq_at, sinq_at, emb_hi, turnq_hi]; rfl
/-- A rotated key's entry in the first half of its head. -/
theorem rotk_lo (h : Fin 8) (r : Fin 2048) (l : Fin 32) :
    val_main_v61 (F := Ideal) x0 x1 x4 x6 (ix4 0 h r ⟨l.val, by omega⟩)
      = val_main_v18 (F := Ideal) x0 x4 x6 (ix4 0 h r ⟨l.val, by omega⟩) * Ideal.cos (ang x1 r l)
        + -val_main_v18 (F := Ideal) x0 x4 x6 (ix4 0 h r ⟨32 + l.val, by omega⟩) * Ideal.sin (ang x1 r l) := by
  rw [val_main_v61_apply, val_main_v54_apply, val_main_v60_apply, cosk_at, sink_at, emb_lo, turnk_lo]; rfl
/-- A rotated key's entry in the second half of its head. -/
theorem rotk_hi (h : Fin 8) (r : Fin 2048) (l : Fin 32) :
    val_main_v61 (F := Ideal) x0 x1 x4 x6 (ix4 0 h r ⟨32 + l.val, by omega⟩)
      = val_main_v18 (F := Ideal) x0 x4 x6 (ix4 0 h r ⟨32 + l.val, by omega⟩) * Ideal.cos (ang x1 r l)
        + val_main_v18 (F := Ideal) x0 x4 x6 (ix4 0 h r ⟨l.val, by omega⟩) * Ideal.sin (ang x1 r l) := by
  rw [val_main_v61_apply, val_main_v54_apply, val_main_v60_apply, cosk_at, sink_at, emb_hi, turnk_hi]; rfl

end Cert.ReferenceIdeal.Val

end

end
-- ==== Proof.Ideal.RefAttn.lean ====
module

public import proofs.«01_k».proof.Proof.Ideal.RefRope
public import proofs.«01_k».proof.Proof.Ideal.AttnPay

/-! The reference's attention, entry by entry: the masked scores, their softmax, the context. -/

@[expose] public section

set_option maxRecDepth 16384

noncomputable section

namespace Cert.ReferenceIdeal.Val

open Cert.ReferenceIdeal Cert.ReferenceIdeal.Gen Cert.ReferenceIdeal.Read Idealize.ShloMosaic Cert.Layer

variable (x0 : S1x2048x1024.Idx → EReal) (x1 : S1x2048.Idx → BitVec 32) (x4 : S1024.Idx → EReal) (x5 : S1024x1024.Idx → EReal) (x6 x7 : S1024x512.Idx → EReal)

/-- The key head a query head reads. -/
abbrev half (h : Fin 16) : Fin 8 := ⟨h.val / 2, by omega⟩

theorem krep_at (h : Fin 16) (r : Fin 2048) (d : Fin 64) :
    val_main_v63 (F := Ideal) x0 x1 x4 x6 (ix4 0 h r d) = val_main_v61 (F := Ideal) x0 x1 x4 x6 (ix4 0 (half h) r d) := by
  rw [val_main_v63_apply, val_main_v62_apply]
  refine congrArg _ ((eq_ix4 _).trans ?_)
  congr 1 <;> exact Fin.ext (by simp <;> omega)
theorem vrep_at (h : Fin 16) (r : Fin 2048) (d : Fin 64) :
    val_main_v65 (F := Ideal) x0 x4 x7 (ix4 0 h r d) = val_main_v21 (F := Ideal) x0 x4 x7 (ix4 0 (half h) r d) := by
  rw [val_main_v65_apply, val_main_v64_apply]
  refine congrArg _ ((eq_ix4 _).trans ?_)
  congr 1 <;> exact Fin.ext (by simp <;> omega)

/-- A query against a key. -/
abbrev dotR (h : Fin 16) (R key : Fin 2048) : EReal :=
  ∑ d : Fin 64, val_main_v52 (F := Ideal) x0 x1 x4 x5 (ix4 0 h R d) * val_main_v61 (F := Ideal) x0 x1 x4 x6 (ix4 0 (half h) key d)

theorem dot_at (h : Fin 16) (R key : Fin 2048) : val_main_v66 (F := Ideal) x0 x1 x4 x5 x6 (ix4 0 h R key) = dotR x0 x1 x4 x5 x6 h R key := by
  rw [val_main_v66_apply]
  refine Finset.sum_congr rfl fun d _ => ?_
  rw [← krep_at]
  exact congr (congrArg HMul.hMul (congrArg (val_main_v52 (F := Ideal) x0 x1 x4 x5) (eq_ix4 _))) (congrArg (val_main_v63 (F := Ideal) x0 x1 x4 x6) (eq_ix4 _))

theorem le_words : ∀ a b : Fin 2048, IntOp.cmpi .sge (IntOp.addi (BitVec.ofNat 32 a.val) 0#32) (BitVec.ofNat 32 b.val) = if b ≤ a then 1#1 else 0#1 := by
  intro a b
  have ha := a.isLt
  have hb := b.isLt
  rw [show IntOp.addi (BitVec.ofNat 32 a.val) 0#32 = BitVec.ofNat 32 a.val from BitVec.add_zero _, Idealize.ShloMosaic.WordCmp.cmpi_sge_ofNat (by omega) (by omega)]
  by_cases h : b ≤ a
  · rw [if_pos h, decide_eq_true (show b.val ≤ a.val from h)]; rfl
  · rw [if_neg h, decide_eq_false (show ¬ b.val ≤ a.val from h)]; rfl

/-- The causal mask. -/
theorem tril_at (a b : Fin 2048) : val_main_v70 (F := Ideal) (ix2 a b) = if b ≤ a then 1#1 else 0#1 := by
  rw [val_main_v70_apply, val_main_call0_v4_apply, val_main_call0_v2_apply, val_main_call0_v0_apply, val_main_call0_v1_apply, val_main_call0_c_apply, val_main_call0_v3_apply,
    val_main_v69_apply, val_main_c_apply, val_main_call0_v5_apply, val_main_call0_c_0_apply]
  show Scalar.select (IntOp.cmpi .sge (IntOp.addi (BitVec.ofNat 32 a.val) 0#32) (BitVec.ofNat 32 b.val)) _ _ = _
  rw [le_words]
  split <;> rfl

/-- The bottom the masked scores carry. -/
theorem lit_bot : Ideal.ofBits .f32 0xFF800000#32 = ⊥ := by
  simp [Ideal.ofBits, Ideal.ieee]

/-- A masked score. -/
abbrev maskedR (h : Fin 16) (R key : Fin 2048) : EReal :=
  if key ≤ R then Ideal.div (dotR x0 x1 x4 x5 x6 h R key) ((8 : ℝ) : EReal) else ⊥

theorem masked_at (h : Fin 16) (R key : Fin 2048) : val_main_v72 (F := Ideal) x0 x1 x4 x5 x6 (ix4 0 h R key) = maskedR x0 x1 x4 x5 x6 h R key := by
  rw [val_main_v72_apply, val_main_call1_v1_apply, val_main_v71_apply, val_main_call1_v2_apply, val_main_call1_v0_apply, val_main_cst_8_apply, val_main_v68_apply, val_main_v67_apply,
    val_main_cst_7_apply, dot_at, show idx_main_v71 (idx_main_call1_v1 (ix4 0 h R key)) = ix2 R key from eq_ix2 _, tril_at]
  simp only [Ideal.ofBits_def, Ideal.hostDivf_def, lit_bot, lit_8]
  unfold maskedR
  split <;> rfl

/-- The greatest masked score of a row. -/
abbrev maxR (h : Fin 16) (R : Fin 2048) : EReal := Finset.univ.fold max ⊥ fun key : Fin 2048 => maskedR x0 x1 x4 x5 x6 h R key

theorem max_at (h : Fin 16) (R : Fin 2048) : val_main_v75 (F := Ideal) x0 x1 x4 x5 x6 (ix3 0 h R) = maxR x0 x1 x4 x5 x6 h R := by
  rw [val_main_v75_apply, val_main_v74_apply, val_main_cst_10_apply]
  have e : val_main_v73 (F := Ideal) x0 x1 x4 x5 x6 (ix3 0 h R)
      = Finset.univ.fold max (Ideal.ofBits .f32 0xFF800000#32) fun key : Fin 2048 => val_main_v72 (F := Ideal) x0 x1 x4 x5 x6 (ix4 0 h R key) := by
    unfold val_main_v73
    generalize val_main_v72 (F := Ideal) x0 x1 x4 x5 x6 = y
    pointwise [val_main_cst_9]
  rw [e]
  simp only [Ideal.ofBits_def, Ideal.maximumf_def, lit_bot, masked_at]
  exact max_eq_right bot_le

theorem exp_at (h : Fin 16) (R key : Fin 2048) : val_main_v79 (F := Ideal) x0 x1 x4 x5 x6 (ix4 0 h R key)
    = Ideal.exp (maskedR x0 x1 x4 x5 x6 h R key - maxR x0 x1 x4 x5 x6 h R) := by
  rw [val_main_v79_apply, val_main_v78_apply, val_main_v77_apply, val_main_v76_apply, masked_at,
    show idx_main_v76 (idx_main_v77 (ix4 0 h R key)) = ix3 0 h R from eq_ix3 _, max_at]
  rfl

theorem soft_at (h : Fin 16) (R key : Fin 2048) : val_main_v83 (F := Ideal) x0 x1 x4 x5 x6 (ix4 0 h R key)
    = Ideal.div (Ideal.exp (maskedR x0 x1 x4 x5 x6 h R key - maxR x0 x1 x4 x5 x6 h R))
        (∑ key : Fin 2048, Ideal.exp (maskedR x0 x1 x4 x5 x6 h R key - maxR x0 x1 x4 x5 x6 h R)) := by
  rw [val_main_v83_apply, exp_at, val_main_v82_apply, val_main_v81_apply, val_main_v80_apply, val_main_cst_11_apply]
  simp only [Ideal.ofBits_def, Ideal.hostDivf_def, Ideal.ofBits_zero_f32, zero_add]
  refine congrArg _ (Finset.sum_congr rfl fun k _ => ?_)
  rw [← exp_at]
  exact congrArg _ (eq_ix4 _)

/-- An entry of the context: a head's softmax against its values. -/
theorem ctx_at (h : Fin 16) (R : Fin 2048) (x : Fin 64) : val_main_v84 (F := Ideal) x0 x1 x4 x5 x6 x7 (ix4 0 h R x)
    = ∑ key : Fin 2048, Ideal.div (Ideal.exp (maskedR x0 x1 x4 x5 x6 h R key - maxR x0 x1 x4 x5 x6 h R))
        (∑ key : Fin 2048, Ideal.exp (maskedR x0 x1 x4 x5 x6 h R key - maxR x0 x1 x4 x5 x6 h R)) * val_main_v21 (F := Ideal) x0 x4 x7 (ix4 0 (half h) key x) := by
  rw [val_main_v84_apply]
  refine Finset.sum_congr rfl fun key _ => ?_
  rw [← soft_at, ← vrep_at]
  exact congr (congrArg HMul.hMul (congrArg (val_main_v83 (F := Ideal) x0 x1 x4 x5 x6) (eq_ix4 _))) (congrArg (val_main_v65 (F := Ideal) x0 x4 x7) (eq_ix4 _))

/-- The context as a row of all heads. -/
theorem ctxrow_at (R : Fin 2048) (c : Fin 1024) : val_main_v86 (F := Ideal) x0 x1 x4 x5 x6 x7 (ix3 0 R c)
    = val_main_v84 (F := Ideal) x0 x1 x4 x5 x6 x7 (ix4 0 ⟨c.val / 64, by omega⟩ R ⟨c.val % 64, by omega⟩) := by
  rw [val_main_v86_apply, val_main_v85_apply]
  refine congrArg _ ((eq_ix4 _).trans ?_)
  congr 1 <;> exact Fin.ext (by simp <;> omega)

end Cert.ReferenceIdeal.Val

end

end
-- ==== Proof.Ideal.RefMlp.lean ====
module

public import proofs.«01_k».proof.Proof.Ideal.RefAttn

/-! The reference's hidden rows, its gated layer and its result, entry by entry. -/

@[expose] public section

set_option maxRecDepth 16384

noncomputable section

namespace Cert.ReferenceIdeal.Val

open Cert.ReferenceIdeal Cert.ReferenceIdeal.Gen Cert.ReferenceIdeal.Read Idealize.ShloMosaic Cert.Layer

variable (x0 : S1x2048x1024.Idx → EReal) (x1 : S1x2048.Idx → BitVec 32) (x2 : S1x2048.Idx → BitVec 1) (x3 : S1x2048.Idx → EReal) (x4 : S1024.Idx → EReal)
  (x5 : S1024x1024.Idx → EReal) (x6 x7 : S1024x512.Idx → EReal) (x8 : S1024x1024.Idx → EReal) (x9 : S1024.Idx → EReal) (x10 x11 : S1024x2048.Idx → EReal)
  (x12 : S2048x1024.Idx → EReal)

/-- The hidden row after the attention. -/
abbrev hidR (r : Fin 2048) : Fin 1024 → EReal :=
  hidRow (row x0 r) (fun k : Fin 1024 => val_main_v86 (F := Ideal) x0 x1 x4 x5 x6 x7 (ix3 0 r k)) (fun k d => x8 (ix2 k d))

theorem hid_at (r : Fin 2048) (d : Fin 1024) : val_main_v88 (F := Ideal) x0 x1 x4 x5 x6 x7 x8 (ix3 0 r d) = hidR x0 x1 x4 x5 x6 x7 x8 r d := by
  rw [val_main_v88_apply, val_main_v87_apply]
  refine congrArg (x0 (ix3 0 r d) + ·) (Finset.sum_congr rfl fun k _ => ?_)
  exact congr (congrArg HMul.hMul (congrArg (val_main_v86 (F := Ideal) x0 x1 x4 x5 x6 x7) (eq_ix3 _))) (congrArg x8 (eq_ix2 _))

/-- A hidden row normalised. -/
theorem norm2_at (r : Fin 2048) (k : Fin 1024) : val_main_v101 (F := Ideal) x0 x1 x4 x5 x6 x7 x8 x9 (ix3 0 r k)
    = nrm (hidR x0 x1 x4 x5 x6 x7 x8 r) (lnw x9) k := by
  have e : hidR x0 x1 x4 x5 x6 x7 x8 r = fun d => val_main_v88 (F := Ideal) x0 x1 x4 x5 x6 x7 x8 (ix3 0 r d) := funext fun d => (hid_at x0 x1 x4 x5 x6 x7 x8 r d).symm
  rw [e]
  unfold val_main_v101 val_main_v98 val_main_v97 val_main_v96 val_main_v95 val_main_v93 val_main_v91 val_main_v90 val_main_v89
  generalize val_main_v88 (F := Ideal) x0 x1 x4 x5 x6 x7 x8 = y
  pointwise [val_main_v100, val_main_v99, val_main_v94, val_main_v92, val_main_cst_12, val_main_cst_13, val_main_cst_14]
  rfl

theorem gate_at (r j : Fin 2048) : val_main_v102 (F := Ideal) x0 x1 x4 x5 x6 x7 x8 x9 x10 (ix3 0 r j)
    = proj (hidR x0 x1 x4 x5 x6 x7 x8 r) (lnw x9) (fun k => x10 (ix2 k j)) := by
  rw [val_main_v102_apply]
  refine Finset.sum_congr rfl fun k _ => ?_
  rw [show lidx_main_v102 (ix3 0 r j) k = ix3 0 r k from eq_ix3 _, show ridx_main_v102 (ix3 0 r j) k = ix2 k j from eq_ix2 _, norm2_at]
theorem up_at (r j : Fin 2048) : val_main_v104 (F := Ideal) x0 x1 x4 x5 x6 x7 x8 x9 x11 (ix3 0 r j)
    = proj (hidR x0 x1 x4 x5 x6 x7 x8 r) (lnw x9) (fun k => x11 (ix2 k j)) := by
  rw [val_main_v104_apply]
  refine Finset.sum_congr rfl fun k _ => ?_
  rw [show lidx_main_v104 (ix3 0 r j) k = ix3 0 r k from eq_ix3 _, show ridx_main_v104 (ix3 0 r j) k = ix2 k j from eq_ix2 _, norm2_at]

/-- The gated activation. -/
theorem act_at (r j : Fin 2048) : val_main_v105 (F := Ideal) x0 x1 x4 x5 x6 x7 x8 x9 x10 x11 (ix3 0 r j)
    = act (hidR x0 x1 x4 x5 x6 x7 x8 r) (lnw x9) (fun k => x10 (ix2 k j)) (fun k => x11 (ix2 k j)) := by
  rw [val_main_v105_apply, val_main_v103_apply, val_main_call2_v5_apply, val_main_call2_v4_apply, val_main_call2_cst_0_apply, val_main_call2_v3_apply, val_main_call2_v2_apply,
    val_main_call2_cst_apply, val_main_call2_v1_apply, val_main_call2_v0_apply, gate_at, up_at]
  simp only [Ideal.ofBits_def, Ideal.ofBits_one_f32]
  rfl

/-- The layer's output before mask and scale. -/
theorem down_at (r : Fin 2048) (d : Fin 1024) : val_main_v106 (F := Ideal) x0 x1 x4 x5 x6 x7 x8 x9 x10 x11 x12 (ix3 0 r d)
    = ∑ j : Fin 2048, act (hidR x0 x1 x4 x5 x6 x7 x8 r) (lnw x9) (fun k => x10 (ix2 k j)) (fun k => x11 (ix2 k j)) * x12 (ix2 j d) := by
  rw [val_main_v106_apply]
  refine Finset.sum_congr rfl fun j _ => ?_
  rw [show lidx_main_v106 (ix3 0 r d) j = ix3 0 r j from eq_ix3 _, show ridx_main_v106 (ix3 0 r d) j = ix2 j d from eq_ix2 _, act_at]

theorem scale_at (r : Fin 2048) (d : Fin 1024) : val_main_v115 (F := Ideal) x3 (ix3 0 r d) = scl (x3 (ix2 0 r)) := by
  pointwise [val_main_v115, val_main_v114, val_main_v112, val_main_v111, val_main_v110, val_main_v109, val_main_v108, val_main_v107, val_main_cst_15, val_main_cst_16, val_main_cst_17]
  rfl

theorem sel_at (r : Fin 2048) (d : Fin 1024) : val_main_call3_v1 (F := Ideal) x2 (ix3 0 r d) = x2 (ix2 0 r) := by
  pointwise [val_main_call3_v1, val_main_v113]

theorem mask_mul (m : BitVec 1) (s y : EReal) : Scalar.select m (y * s) (0 : EReal) = FloatOps.uitofp (F := Ideal) FTy.f32 m * s * y := by
  rcases (by revert m; decide : m = 0#1 ∨ m = 1#1) with rfl | rfl
  · show (0 : EReal) = (((0#1 : BitVec 1).toNat : ℝ) : EReal) * s * y
    simp
  · show y * s = (((1#1 : BitVec 1).toNat : ℝ) : EReal) * s * y
    simp [mul_comm]

/-- The result's entry. -/
theorem out_at (r : Fin 2048) (d : Fin 1024) : val_main_v118 (F := Ideal) x0 x1 x2 x3 x4 x5 x6 x7 x8 x9 x10 x11 x12 (ix3 0 r d)
    = gated (hidR x0 x1 x4 x5 x6 x7 x8 r) (lnw x9) (fun k j => x10 (ix2 k j)) (fun k j => x11 (ix2 k j)) (fun j d => x12 (ix2 j d))
        (FloatOps.uitofp (F := Ideal) FTy.f32 (x2 (ix2 0 r))) (x3 (ix2 0 r)) d := by
  rw [val_main_v118_apply, val_main_v117_apply, val_main_v116_apply, hid_at, down_at, scale_at, sel_at, val_main_call3_v2_apply, val_main_call3_v0_apply, val_main_cst_18_apply]
  simp only [Ideal.ofBits_def, Ideal.ofBits_zero_f32]
  exact congrArg (hidR x0 x1 x4 x5 x6 x7 x8 r d + ·) (mask_mul _ _ _)

end Cert.ReferenceIdeal.Val

end

end
-- ==== Proof.Ideal.Softmax.lean ====
module

public import Idealize.ShloMosaic.PureOps.Ideal.Laws
public import Mathlib.Analysis.SpecialFunctions.Pow.Real

/-! A masked softmax against values: with the greatest score taken off, or with the plain exponentials. -/

@[expose] public section

noncomputable section

namespace Cert.Softmax

open Idealize.ShloMosaic

/-- A real sum of extended reals. -/
theorem coe_sum {ι : Type} (s : Finset ι) (f : ι → ℝ) : (∑ i ∈ s, ((f i : ℝ) : EReal)) = ((∑ i ∈ s, f i : ℝ) : EReal) := by
  classical
  induction s using Finset.induction_on with
  | empty => simp
  | insert a s ha ih => rw [Finset.sum_insert ha, Finset.sum_insert ha, ih, EReal.coe_add]

/-- A nonnegative real factor goes through a sum. -/
theorem sum_mul_coe {ι : Type} (s : Finset ι) (f : ι → EReal) (c : ℝ) (hc : 0 ≤ c) : (∑ i ∈ s, f i * (c : EReal)) = (∑ i ∈ s, f i) * (c : EReal) := by
  classical
  induction s using Finset.induction_on with
  | empty => simp
  | insert a s ha ih =>
    rw [Finset.sum_insert ha, Finset.sum_insert ha, ih, EReal.right_distrib_of_nonneg_of_ne_top (by exact_mod_cast hc) (EReal.coe_ne_top c)]

theorem div_coe {b : ℝ} (a : EReal) (hb : b ≠ 0) : Ideal.div a (b : EReal) = a * ((b⁻¹ : ℝ) : EReal) := by
  unfold Ideal.div
  rw [if_neg (by exact_mod_cast hb), ← EReal.coe_inv]

variable {n : ℕ} (s : Fin n → ℝ) (R : Fin n)

/-- The exponential of an unmasked score. -/
def wR (key : Fin n) : ℝ := if key ≤ R then Real.exp (s key) else 0

theorem wR_nonneg (key : Fin n) : 0 ≤ wR s R key := by
  unfold wR; split
  · exact (Real.exp_pos _).le
  · exact le_rfl

theorem sum_wR_pos : 0 < ∑ key, wR s R key := by
  refine Finset.sum_pos' (fun k _ => wR_nonneg s R k) ⟨R, Finset.mem_univ _, ?_⟩
  unfold wR; rw [if_pos le_rfl]; exact Real.exp_pos _

/-- The greatest of the masked scores is a real number. -/
theorem max_real : ∃ μ : ℝ, (Finset.univ.fold max ⊥ fun key : Fin n => if key ≤ R then ((s key : ℝ) : EReal) else ⊥) = (μ : EReal) := by
  generalize hM : (Finset.univ.fold max ⊥ fun key : Fin n => if key ≤ R then ((s key : ℝ) : EReal) else ⊥) = M
  have h1 : M ≠ ⊤ := by
    rw [← hM]
    refine ne_of_lt ((Finset.fold_max_lt _).2 ⟨bot_lt_top, fun k _ => ?_⟩)
    split
    · exact EReal.coe_lt_top _
    · exact bot_lt_top
  have h2 : M ≠ ⊥ := by
    rw [← hM]
    refine ne_of_gt (lt_of_lt_of_le (EReal.bot_lt_coe (s R)) ((Finset.le_fold_max _).2 (Or.inr ⟨R, Finset.mem_univ _, ?_⟩)))
    rw [if_pos le_rfl]
  exact ⟨M.toReal, (EReal.coe_toReal h1 h2).symm⟩

/-- The softmax against values is the quotient of the weighted values by the weights. -/
theorem softmax_eq (v : Fin n → EReal) :
    (∑ key, Ideal.div (Ideal.exp ((if key ≤ R then ((s key : ℝ) : EReal) else ⊥) - Finset.univ.fold max ⊥ fun key : Fin n => if key ≤ R then ((s key : ℝ) : EReal) else ⊥))
        (∑ key, Ideal.exp ((if key ≤ R then ((s key : ℝ) : EReal) else ⊥) - Finset.univ.fold max ⊥ fun key : Fin n => if key ≤ R then ((s key : ℝ) : EReal) else ⊥)) * v key)
      = Ideal.div (∑ key, ((wR s R key : ℝ) : EReal) * v key) (∑ key, ((wR s R key : ℝ) : EReal)) := by
  obtain ⟨μ, hμ⟩ := max_real s R
  rw [hμ]
  have e : ∀ key, Ideal.exp ((if key ≤ R then ((s key : ℝ) : EReal) else ⊥) - (μ : EReal)) = ((wR s R key * Real.exp (-μ) : ℝ) : EReal) := by
    intro key
    unfold wR
    by_cases h : key ≤ R
    · rw [if_pos h, if_pos h, ← EReal.coe_sub, ← Real.exp_add, ← sub_eq_add_neg]; rfl
    · rw [if_neg h, if_neg h, zero_mul, EReal.bot_sub]; rfl
  simp only [e]
  have hW := sum_wR_pos s R
  have hc := Real.exp_pos (-μ)
  rw [coe_sum, coe_sum, ← Finset.sum_mul]
  rw [div_coe _ hW.ne', ← sum_mul_coe _ _ _ (inv_nonneg.2 hW.le)]
  refine Finset.sum_congr rfl fun key _ => ?_
  rw [div_coe _ (mul_pos hW hc).ne', ← EReal.coe_mul,
    show wR s R key * Real.exp (-μ) * ((∑ key, wR s R key) * Real.exp (-μ))⁻¹ = wR s R key * (∑ key, wR s R key)⁻¹ by field_simp]
  rw [EReal.coe_mul, mul_assoc, mul_assoc, mul_comm (v key)]

end Cert.Softmax

end

end
-- ==== Proof.Ideal.Eq.lean ====
module

public import proofs.«01_k».proof.Proof.Ideal.HostVal
public import proofs.«01_k».proof.Proof.Ideal.RefMlp
public import proofs.«01_k».proof.Proof.Ideal.Softmax

/-! The equation: the kernel's result is the reference's, where the first normalisation's weights and the query and key weights are finite. -/

@[expose] public section

set_option maxRecDepth 16384

noncomputable section

namespace Cert.ReferenceIdeal.Val

open Cert.ReferenceIdeal Cert.ReferenceIdeal.Gen Cert.ReferenceIdeal.Read Idealize.ShloMosaic Cert.Layer Cert.Softmax

/-- A real number among the extended reals. -/
def IsReal (x : EReal) : Prop := ∃ a : ℝ, x = (a : EReal)

theorem IsReal.coe (a : ℝ) : IsReal (a : EReal) := ⟨a, rfl⟩
theorem IsReal.mul {x y : EReal} (hx : IsReal x) (hy : IsReal y) : IsReal (x * y) := by
  obtain ⟨a, rfl⟩ := hx; obtain ⟨b, rfl⟩ := hy; exact ⟨a * b, (EReal.coe_mul a b).symm⟩
theorem IsReal.add {x y : EReal} (hx : IsReal x) (hy : IsReal y) : IsReal (x + y) := by
  obtain ⟨a, rfl⟩ := hx; obtain ⟨b, rfl⟩ := hy; exact ⟨a + b, (EReal.coe_add a b).symm⟩
theorem IsReal.neg {x : EReal} (hx : IsReal x) : IsReal (-x) := by
  obtain ⟨a, rfl⟩ := hx; exact ⟨-a, (EReal.coe_neg a).symm⟩
theorem IsReal.sum {ι : Type} (s : Finset ι) (f : ι → EReal) (h : ∀ i, IsReal (f i)) : IsReal (∑ i ∈ s, f i) := by
  choose g hg using h
  exact ⟨∑ i ∈ s, g i, by rw [← coe_sum]; exact Finset.sum_congr rfl fun i _ => hg i⟩

theorem lit_1024 : Ideal.ofBits .f32 0x44800000#32 = ((1024 : ℝ) : EReal) := by
  simp [Ideal.ofBits, Ideal.ieee, -EReal.coe_mul]; norm_num
theorem lit_eps : ∃ e : ℝ, 0 < e ∧ Ideal.ofBits .f32 0x3727C5AC#32 = ((e : ℝ) : EReal) := by
  refine ⟨_, ?_, by simp [Ideal.ofBits, Ideal.ieee, -EReal.coe_mul]; rfl⟩
  norm_num

theorem sq_nonneg (x : EReal) : 0 ≤ x * x := by
  induction x with
  | bot => simp
  | top => simp
  | coe a => rw [← EReal.coe_mul]; exact_mod_cast mul_self_nonneg a

/-- A normalised row is real wherever its weight is: an infinite entry makes the whole row zero. -/
theorem nrm_real (x w : Fin 1024 → EReal) (k : Fin 1024) (hw : IsReal (w k)) : IsReal (nrm x w k) := by
  refine IsReal.mul ?_ hw
  obtain ⟨e, he, hl⟩ := lit_eps
  unfold rs
  rw [lit_1024, hl]
  by_cases hx : ∀ i, IsReal (x i)
  · refine (hx k).mul ?_
    choose g hg using hx
    have es : (∑ k, x k * x k) = ((∑ k, g k * g k : ℝ) : EReal) := by
      rw [← coe_sum]; exact Finset.sum_congr rfl fun i _ => by rw [hg i, EReal.coe_mul]
    have h0 : 0 ≤ ∑ k, g k * g k := Finset.sum_nonneg fun i _ => mul_self_nonneg _
    rw [es, Cert.Softmax.div_coe _ (by norm_num), ← EReal.coe_mul, ← EReal.coe_add]
    have hp : 0 < (∑ k, g k * g k) * (1024 : ℝ)⁻¹ + e := by positivity
    show IsReal (if _ < 0 then ⊥ else if _ = 0 then ⊤ else _)
    rw [if_neg (not_lt.2 hp.le), if_neg hp.ne']
    exact IsReal.coe _
  · obtain ⟨j, hj⟩ := not_forall.1 hx
    have hjj : x j * x j = ⊤ := by
      revert hj
      generalize x j = y
      intro hj
      induction y with
      | bot => rfl
      | top => rfl
      | coe a => exact absurd (IsReal.coe a) hj
    have es : (∑ k, x k * x k) = ⊤ := by
      rw [← Finset.add_sum_erase _ _ (Finset.mem_univ j), hjj]
      exact EReal.top_add_of_ne_bot (ne_of_gt (lt_of_lt_of_le EReal.bot_lt_zero (Finset.sum_nonneg fun i _ => sq_nonneg _)))
    rw [es, Cert.Softmax.div_coe _ (by norm_num), EReal.top_mul_coe_of_pos (by norm_num), EReal.top_add_coe]
    show IsReal (x k * 0)
    rw [mul_zero]
    exact IsReal.coe 0

theorem proj_real (x w W : Fin 1024 → EReal) (hw : ∀ k, IsReal (w k)) (hW : ∀ k, IsReal (W k)) : IsReal (proj x w W) :=
  IsReal.sum _ _ fun k => (nrm_real x w k (hw k)).mul (hW k)

/-- A lane of a head lies in its first half or in its second. -/
theorem lanes {P : Fin 64 → Prop} (lo : ∀ l : Fin 32, P ⟨l.val, by omega⟩) (hi : ∀ l : Fin 32, P ⟨32 + l.val, by omega⟩) (d : Fin 64) : P d := by
  by_cases h : d.val < 32
  · exact lo ⟨d.val, h⟩
  · have e : d = ⟨32 + (⟨d.val - 32, by omega⟩ : Fin 32).val, by have := d.isLt; simp; omega⟩ := Fin.ext (by simp; omega)
    rw [e]; exact hi _

variable (x0 : S1x2048x1024.Idx → EReal) (x1 : S1x2048.Idx → BitVec 32) (x2 : S1x2048.Idx → BitVec 1) (x3 : S1x2048.Idx → EReal) (x4 : S1024.Idx → EReal)
  (x5 : S1024x1024.Idx → EReal) (x6 x7 : S1024x512.Idx → EReal) (x8 : S1024x1024.Idx → EReal) (x9 : S1024.Idx → EReal) (x10 x11 : S1024x2048.Idx → EReal)
  (x12 : S2048x1024.Idx → EReal)

open Cert.KernelIdeal.All Cert.KernelIdeal.Qkv

theorem wcat_q (k : Fin 1024) (c : Fin 2048) (h : c.val < 1024) : wcat x5 x6 x7 (ix2 k c) = x5 (ix2 k ⟨c.val, h⟩) := by
  unfold wcat; exact dif_pos h
theorem wcat_k (k : Fin 1024) (c : Fin 2048) (h : ¬ c.val < 1024) (h' : c.val < 1536) : wcat x5 x6 x7 (ix2 k c) = x6 (ix2 k ⟨c.val - 1024, by omega⟩) := by
  unfold wcat; exact (dif_neg h).trans (dif_pos h')
theorem wcat_v (k : Fin 1024) (c : Fin 2048) (h : ¬ c.val < 1536) : wcat x5 x6 x7 (ix2 k c) = x7 (ix2 k ⟨c.val - 1536, by omega⟩) := by
  unfold wcat; exact (dif_neg (show ¬ c.val < 1024 by omega)).trans (dif_neg h)

/-- The kernel's projections of a row. -/
abbrev colK (r : Fin 2048) : Fin 2048 → EReal := fun d => proj (row x0 r) (lnw x4) (fun k => wcat x5 x6 x7 (ix2 k d))

theorem colK_q (h : Fin 16) (r : Fin 2048) (d : Fin 64) (c : Fin 2048) (hc : c.val = h.val * 64 + d.val) :
    colK x0 x4 x5 x6 x7 r c = val_main_v15 (F := Ideal) x0 x4 x5 (ix4 0 h r d) := by
  rw [q_at]
  refine congrArg (proj _ _) (funext fun k => ?_)
  rw [wcat_q x5 x6 x7 k c (by omega)]
  exact congrArg (fun z => x5 (ix2 k z)) (Fin.ext hc)
theorem colK_k (h : Fin 8) (r : Fin 2048) (d : Fin 64) (c : Fin 2048) (hc : c.val = 1024 + h.val * 64 + d.val) :
    colK x0 x4 x5 x6 x7 r c = val_main_v18 (F := Ideal) x0 x4 x6 (ix4 0 h r d) := by
  rw [k_at]
  refine congrArg (proj _ _) (funext fun k => ?_)
  rw [wcat_k x5 x6 x7 k c (by omega) (by omega)]
  exact congrArg (fun z => x6 (ix2 k z)) (Fin.ext (by show c.val - 1024 = h.val * 64 + d.val; omega))
theorem colK_v (h : Fin 8) (r : Fin 2048) (d : Fin 64) (c : Fin 2048) (hc : c.val = 1536 + h.val * 64 + d.val) :
    colK x0 x4 x5 x6 x7 r c = val_main_v21 (F := Ideal) x0 x4 x7 (ix4 0 h r d) := by
  rw [v_at]
  refine congrArg (proj _ _) (funext fun k => ?_)
  rw [wcat_v x5 x6 x7 k c (by omega)]
  exact congrArg (fun z => x7 (ix2 k z)) (Fin.ext (by show c.val - 1536 = h.val * 64 + d.val; omega))

theorem qkvF_eq (r c : Fin 2048) : qkvF x0 x1 x4 x5 x6 x7 (ix2 r c)
    = qkvAt (colK x0 x4 x5 x6 x7 r) (fun l => Ideal.cos (ang x1 r l)) (fun l => Ideal.sin (ang x1 r l)) c := by
  unfold qkvF ang
  simp only [← kfreq]
  rfl

/-- The kernel's queries are the reference's, scaled. -/
theorem qK (h : Fin 16) (r : Fin 2048) (d : Fin 64) :
    qkvF x0 x1 x4 x5 x6 x7 (ix2 r ⟨h.val * 64 + d.val, by omega⟩) = val_main_v52 (F := Ideal) x0 x1 x4 x5 (ix4 0 h r d) * lg8 := by
  rw [qkvF_eq, qkvAt_q _ _ _ _ (show h.val * 64 + d.val < 1024 by omega)]
  refine congrArg (· * lg8) ?_
  revert d
  refine lanes (fun l => ?_) (fun l => ?_)
  · rw [rotq_lo, rotAt_lo _ _ _ h.val l _ ⟨h.val * 64 + (32 + l.val), by omega⟩ (by show h.val * 64 + l.val = _; omega) (by show h.val * 64 + (32 + l.val) = _; omega),
      colK_q x0 x4 x5 x6 x7 h r ⟨l.val, by omega⟩ _ rfl, colK_q x0 x4 x5 x6 x7 h r ⟨32 + l.val, by omega⟩ _ rfl, sub_eq_add_neg, EReal.neg_mul]
  · rw [rotq_hi, rotAt_hi _ _ _ h.val l _ ⟨h.val * 64 + l.val, by omega⟩ (by show h.val * 64 + (32 + l.val) = _; omega) (by show h.val * 64 + l.val = _; omega),
      colK_q x0 x4 x5 x6 x7 h r ⟨32 + l.val, by omega⟩ _ rfl, colK_q x0 x4 x5 x6 x7 h r ⟨l.val, by omega⟩ _ rfl]

/-- The kernel's keys are the reference's. -/
theorem kK (h : Fin 8) (r : Fin 2048) (d : Fin 64) :
    headsF (qkvF x0 x1 x4 x5 x6 x7) 1024 (by decide) (ix3 h r d) = val_main_v61 (F := Ideal) x0 x1 x4 x6 (ix4 0 h r d) := by
  show qkvF x0 x1 x4 x5 x6 x7 (ix2 r ⟨1024 + h.val * 64 + d.val, _⟩) = _
  rw [qkvF_eq, qkvAt_k _ _ _ _ (show 1024 ≤ 1024 + h.val * 64 + d.val by omega) (show 1024 + h.val * 64 + d.val < 1536 by omega)]
  revert d
  refine lanes (fun l => ?_) (fun l => ?_)
  · rw [rotk_lo, rotAt_lo _ _ _ (16 + h.val) l _ ⟨1024 + h.val * 64 + (32 + l.val), by omega⟩ (by show 1024 + h.val * 64 + l.val = _; omega) (by show 1024 + h.val * 64 + (32 + l.val) = _; omega),
      colK_k x0 x4 x5 x6 x7 h r ⟨l.val, by omega⟩ _ rfl, colK_k x0 x4 x5 x6 x7 h r ⟨32 + l.val, by omega⟩ _ rfl, sub_eq_add_neg, EReal.neg_mul]
  · rw [rotk_hi, rotAt_hi _ _ _ (16 + h.val) l _ ⟨1024 + h.val * 64 + l.val, by omega⟩ (by show 1024 + h.val * 64 + (32 + l.val) = _; omega) (by show 1024 + h.val * 64 + l.val = _; omega),
      colK_k x0 x4 x5 x6 x7 h r ⟨32 + l.val, by omega⟩ _ rfl, colK_k x0 x4 x5 x6 x7 h r ⟨l.val, by omega⟩ _ rfl]

/-- The kernel's values are the reference's. -/
theorem vK (h : Fin 8) (r : Fin 2048) (d : Fin 64) :
    headsF (qkvF x0 x1 x4 x5 x6 x7) 1536 (by decide) (ix3 h r d) = val_main_v21 (F := Ideal) x0 x4 x7 (ix4 0 h r d) := by
  show qkvF x0 x1 x4 x5 x6 x7 (ix2 r ⟨1536 + h.val * 64 + d.val, _⟩) = _
  rw [qkvF_eq, qkvAt_v _ _ _ _ (show 1536 ≤ 1536 + h.val * 64 + d.val by omega)]
  exact colK_v x0 x4 x5 x6 x7 h r d _ rfl

variable (h4 : ∀ k, IsReal (x4 (ix1 k))) (h5 : ∀ k d, IsReal (x5 (ix2 k d))) (h6 : ∀ k d, IsReal (x6 (ix2 k d)))

theorem cos_real (r : Fin 2048) (l : Fin 32) : IsReal (Ideal.cos (ang x1 r l)) := by
  unfold ang
  show IsReal (Ideal.cos (((((x1 (ix2 0 r)).toInt : ℝ)) : EReal) * _))
  rw [← EReal.coe_mul]; exact IsReal.coe _
theorem sin_real (r : Fin 2048) (l : Fin 32) : IsReal (Ideal.sin (ang x1 r l)) := by
  unfold ang
  show IsReal (Ideal.sin (((((x1 (ix2 0 r)).toInt : ℝ)) : EReal) * _))
  rw [← EReal.coe_mul]; exact IsReal.coe _

include h4 h5 in
theorem q_real (h : Fin 16) (r : Fin 2048) (d : Fin 64) : IsReal (val_main_v52 (F := Ideal) x0 x1 x4 x5 (ix4 0 h r d)) := by
  have e : ∀ d, IsReal (val_main_v15 (F := Ideal) x0 x4 x5 (ix4 0 h r d)) := fun d => by
    rw [q_at]; exact proj_real _ _ _ h4 fun k => h5 _ _
  revert d
  refine lanes (fun l => ?_) (fun l => ?_)
  · rw [rotq_lo]; exact ((e _).mul (cos_real x1 r l)).add ((e _).neg.mul (sin_real x1 r l))
  · rw [rotq_hi]; exact ((e _).mul (cos_real x1 r l)).add ((e _).mul (sin_real x1 r l))

include h4 h6 in
theorem k_real (h : Fin 8) (r : Fin 2048) (d : Fin 64) : IsReal (val_main_v61 (F := Ideal) x0 x1 x4 x6 (ix4 0 h r d)) := by
  have e : ∀ d, IsReal (val_main_v18 (F := Ideal) x0 x4 x6 (ix4 0 h r d)) := fun d => by
    rw [k_at]; exact proj_real _ _ _ h4 fun k => h6 _ _
  revert d
  refine lanes (fun l => ?_) (fun l => ?_)
  · rw [rotk_lo]; exact ((e _).mul (cos_real x1 r l)).add ((e _).neg.mul (sin_real x1 r l))
  · rw [rotk_hi]; exact ((e _).mul (cos_real x1 r l)).add ((e _).mul (sin_real x1 r l))

include h4 h5 h6 in
theorem dot_real (h : Fin 16) (R key : Fin 2048) : IsReal (dotR x0 x1 x4 x5 x6 h R key) :=
  IsReal.sum _ _ fun d => (q_real x0 x1 x4 x5 h4 h5 h R d).mul (k_real x0 x1 x4 x6 h4 h6 (half h) key d)

/-- The kernel's score is the reference's product, scaled. -/
theorem score_eq (h : Fin 16) (R key : Fin 2048) :
    Cert.KernelIdeal.Att.score (qkvF x0 x1 x4 x5 x6 x7) (headsF (qkvF x0 x1 x4 x5 x6 x7) 1024 (by decide)) h R key = dotR x0 x1 x4 x5 x6 h R key * lg8 := by
  unfold Cert.KernelIdeal.Att.score dotR
  have hc : (0 : ℝ) ≤ (8 * Real.log 2)⁻¹ := inv_nonneg.2 (mul_nonneg (by norm_num) (Real.log_nonneg (by norm_num)))
  rw [lg8, ← sum_mul_coe _ _ _ hc]
  refine Finset.sum_congr rfl fun d _ => ?_
  rw [qK, kK, lg8, mul_assoc, mul_assoc, mul_comm (_ : EReal) (val_main_v61 (F := Ideal) _ _ _ _ _)]

theorem exp2_eq (t : ℝ) : Ideal.exp2 ((t : EReal) * lg8) = ((Real.exp (t / 8) : ℝ) : EReal) := by
  unfold lg8
  rw [← EReal.coe_mul]
  show ((Real.rpow 2 _ : ℝ) : EReal) = _
  refine congrArg _ ?_
  have hl : Real.log 2 ≠ 0 := (Real.log_pos (by norm_num)).ne'
  rw [show Real.rpow 2 (t * (8 * Real.log 2)⁻¹) = Real.exp (Real.log 2 * (t * (8 * Real.log 2)⁻¹)) from Real.rpow_def_of_pos (by norm_num) _]
  congr 1
  field_simp

include h4 h5 h6 in
/-- A head of the kernel's context is the reference's softmax against its values. -/
theorem head_eq (h : Fin 16) (R : Fin 2048) (x : Fin 64) :
    Cert.KernelIdeal.Att.head (qkvF x0 x1 x4 x5 x6 x7) (headsF (qkvF x0 x1 x4 x5 x6 x7) 1024 (by decide)) (headsF (qkvF x0 x1 x4 x5 x6 x7) 1536 (by decide)) h R x
      = val_main_v84 (F := Ideal) x0 x1 x4 x5 x6 x7 (ix4 0 h R x) := by
  have hd := fun key => dot_real x0 x1 x4 x5 x6 h4 h5 h6 h R key
  choose t ht using hd
  have em : ∀ key, maskedR x0 x1 x4 x5 x6 h R key = if key ≤ R then ((t key / 8 : ℝ) : EReal) else ⊥ := fun key => by
    unfold maskedR
    rw [ht key, div_coe (by norm_num)]
  rw [ctx_at]
  simp only [em, maxR]
  rw [softmax_eq (fun key => t key / 8) R]
  have ew : ∀ key, Cert.KernelIdeal.Att.wgt (Cert.KernelIdeal.Att.score (qkvF x0 x1 x4 x5 x6 x7) (headsF (qkvF x0 x1 x4 x5 x6 x7) 1024 (by decide)) h R) R key
      = ((wR (fun key => t key / 8) R key : ℝ) : EReal) := fun key => by
    unfold Cert.KernelIdeal.Att.wgt wR
    rw [score_eq, ht key, exp2_eq]
    by_cases hk : key ≤ R
    · rw [if_pos hk, if_pos (show key.val ≤ R.val from hk)]
    · rw [if_neg hk, if_neg (show ¬ key.val ≤ R.val from hk)]; rfl
  unfold Cert.KernelIdeal.Att.head
  simp only [ew]
  refine congrArg (fun z => Ideal.div z _) (Finset.sum_congr rfl fun key _ => ?_)
  rw [vK]

include h4 h5 h6 in
/-- The two programs' results are equal. -/
theorem out_eq : outF x0 x1 x2 x3 x4 x5 x6 x7 x8 x9 x10 x11 x12 = val_main_v118 (F := Ideal) x0 x1 x2 x3 x4 x5 x6 x7 x8 x9 x10 x11 x12 := by
  funext i
  obtain ⟨r, d, rfl⟩ : ∃ (r : Fin 2048) (d : Fin 1024), i = ix3 0 r d :=
    ⟨i 1, i 2, (eq_ix3 i).trans (congrArg (fun z => ix3 z (i 1) (i 2)) (Subsingleton.elim _ _))⟩
  rw [out_at]
  unfold hidR outF
  have ec : (fun k : Fin 1024 => Cert.KernelIdeal.Att.ctxArr (qkvF x0 x1 x4 x5 x6 x7) (headsF (qkvF x0 x1 x4 x5 x6 x7) 1024 (by decide))
      (headsF (qkvF x0 x1 x4 x5 x6 x7) 1536 (by decide)) (ix2 r k)) = fun k => val_main_v86 (F := Ideal) x0 x1 x4 x5 x6 x7 (ix3 0 r k) := by
    funext k
    rw [ctxrow_at, ← head_eq x0 x1 x4 x5 x6 x7 h4 h5 h6]
    rfl
  rw [← ec]
  rfl

end Cert.ReferenceIdeal.Val

end

end
-- ==== Proof.Ideal.PreVal.lean ====
module

public import proofs.«01_k».proof.Pre_finite_weights
public import proofs.«01_k».proof.Proof.Ideal.Eq

/-! What the precondition says: the weights it names are real numbers. -/

@[expose] public section

set_option maxRecDepth 16384

noncomputable section

namespace Cert.Pre_finite_weights

open Idealize.ShloMosaic Cert.ReferenceIdeal.Val

/-- The shape relations the precondition's operations take. -/
theorem facts : Facts where
  concatenates_S1024x1024_S1024x512_S1024x1536_d1 := by decide
  bcast_S_S1024x1536 := by decide
  bcast_S1024_S1024x1_0 := by decide
  bcast_S_S1024x1 := by decide
  bcast_S1024x1_S1024x1536_0_1 := by decide

/-- The word of plus infinity. -/
theorem lit_inf : Ideal.ofBits .f32 0x7F800000#32 = ⊤ := by
  simp [Ideal.ofBits, Ideal.ieee]

/-- A number whose size is below infinity is real. -/
theorem real_of_abs (x : EReal) (h : max x (-x) < ⊤) : IsReal x := by
  induction x with
  | bot => simp at h
  | top => simp at h
  | coe a => exact IsReal.coe a

/-- Two tests met at once are each met. -/
theorem both (p q : Prop) [Decidable p] [Decidable q] (h : IntOp.andi (BitVec.ofBool (decide p)) (BitVec.ofBool (decide q)) = 1#1) : p ∧ q := by
  by_cases hp : p <;> by_cases hq : q <;> simp [hp, hq, IntOp.andi] at h ⊢

variable [Facts] (x0 : S1x2048x1024.Idx → EReal) (x1 : S1x2048.Idx → BitVec 32) (x2 : S1x2048.Idx → BitVec 1) (x3 : S1x2048.Idx → EReal) (x4 : S1024.Idx → EReal)
  (x5 : S1024x1024.Idx → EReal) (x6 x7 : S1024x512.Idx → EReal) (x8 : S1024x1024.Idx → EReal) (x9 : S1024.Idx → EReal) (x10 x11 : S1024x2048.Idx → EReal)
  (x12 : S2048x1024.Idx → EReal)

/-- Where the precondition holds, every entry of the query and key weights side by side, and of the first norm's weight, is real. -/
theorem read (h : fn (F := Ideal) x0 x1 x2 x3 x4 x5 x6 x7 x8 x9 x10 x11 x12 = fun _ => 1#1) (k : Fin 1024) (d : Fin 1536) :
    IsReal (if h : d.val < 1024 then x5 (ix2 k ⟨d.val, h⟩) else x6 (ix2 k ⟨d.val - 1024, by omega⟩)) ∧ IsReal (x4 (ix1 k)) := by
  have e := congrFun h (ix2 k d)
  revert e
  pointwise [fn]
  intro e
  rw [lit_inf] at e
  obtain ⟨a, b⟩ := both _ _ e
  exact ⟨real_of_abs _ a, real_of_abs _ b⟩

/-- The first norm's weight is real. -/
theorem ln_real (h : fn (F := Ideal) x0 x1 x2 x3 x4 x5 x6 x7 x8 x9 x10 x11 x12 = fun _ => 1#1) (k : Fin 1024) : IsReal (x4 (ix1 k)) :=
  (read x0 x1 x2 x3 x4 x5 x6 x7 x8 x9 x10 x11 x12 h k 0).2

/-- The query weight is real. -/
theorem q_real (h : fn (F := Ideal) x0 x1 x2 x3 x4 x5 x6 x7 x8 x9 x10 x11 x12 = fun _ => 1#1) (k : Fin 1024) (d : Fin 1024) : IsReal (x5 (ix2 k d)) := by
  have r := (read x0 x1 x2 x3 x4 x5 x6 x7 x8 x9 x10 x11 x12 h k ⟨d.val, by omega⟩).1
  rwa [dif_pos d.isLt] at r

/-- The key weight is real. -/
theorem k_real (h : fn (F := Ideal) x0 x1 x2 x3 x4 x5 x6 x7 x8 x9 x10 x11 x12 = fun _ => 1#1) (k : Fin 1024) (d : Fin 512) : IsReal (x6 (ix2 k d)) := by
  have r := (read x0 x1 x2 x3 x4 x5 x6 x7 x8 x9 x10 x11 x12 h k ⟨1024 + d.val, by omega⟩).1
  rw [dif_neg (by simp)] at r
  have e : (⟨1024 + d.val - 1024, by omega⟩ : Fin 512) = d := Fin.ext (by simp)
  simpa only [e] using r

end Cert.Pre_finite_weights

end

end
-- ==== Proof.Ideal.Algebraic.lean ====
module

public import proofs.«01_k».proof.Defs
public import proofs.«01_k».proof.Proof.Ideal.Whole
public import proofs.«01_k».proof.Proof.Ideal.HostVal
public import proofs.«01_k».proof.Proof.Ideal.PreVal
public import proofs.«01_k».proof.Proof.Gen.ReferenceIdeal.Run
public import proofs.«01_k».proof.Proof.Gen.ReferenceIdeal.Read
public import Idealize.ShloMosaic.Lib.Claim

/-! The value claim: the kernel and the reference, run on the same arguments, return the same array. -/

@[expose] public section

set_option maxRecDepth 16384

noncomputable section

namespace Cert.KernelIdeal.All

open Idealize.ShloMosaic Idealize.ShloMosaic.StableHlo Idealize.SL.Sem Cert.KernelIdeal Cert.KernelIdeal.Gen

/-- The kernel's run: the result is the layer's function of the arguments, and the arguments stay. -/
theorem value_run (m : (ℓ : Loc nD τ sig) → Buf (Elt Ideal) ℓ) (ρ : Dev nD → PrngReg) :
    θ_run (defs (F := Ideal)) (onTc (τ := τ) (main (F := Ideal))) ⟨m, fun _ => 0, ρ⟩ (fun r => ∀ c : Dev nD,
      r.2.mem ((c.tc : Thread nD τ).loc main_v0)
        = outF (A m c main_arg0) (A m c main_arg1) (A m c main_arg2) (A m c main_arg3) (A m c main_arg4) (A m c main_arg5) (A m c main_arg6)
            (A m c main_arg7) (A m c main_arg8) (A m c main_arg9) (A m c main_arg10) (A m c main_arg11) (A m c main_arg12)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)) :=
  (θ_run _ _ _).mono (fun r h c => ⟨(h.1 c _ (mem_uc main_v0 (by decide))).trans (result m ρ c),
    kept_of m ρ c main_arg0 (by decide) (by decide) r.2.mem (h.1 c),
    kept_of m ρ c main_arg1 (by decide) (by decide) r.2.mem (h.1 c),
    kept_of m ρ c main_arg2 (by decide) (by decide) r.2.mem (h.1 c),
    kept_of m ρ c main_arg3 (by decide) (by decide) r.2.mem (h.1 c),
    kept_of m ρ c main_arg4 (by decide) (by decide) r.2.mem (h.1 c),
    kept_of m ρ c main_arg5 (by decide) (by decide) r.2.mem (h.1 c),
    kept_of m ρ c main_arg6 (by decide) (by decide) r.2.mem (h.1 c),
    kept_of m ρ c main_arg7 (by decide) (by decide) r.2.mem (h.1 c),
    kept_of m ρ c main_arg8 (by decide) (by decide) r.2.mem (h.1 c),
    kept_of m ρ c main_arg9 (by decide) (by decide) r.2.mem (h.1 c),
    kept_of m ρ c main_arg10 (by decide) (by decide) r.2.mem (h.1 c),
    kept_of m ρ c main_arg11 (by decide) (by decide) r.2.mem (h.1 c),
    kept_of m ρ c main_arg12 (by decide) (by decide) r.2.mem (h.1 c)⟩) (whole_run m ρ)

end Cert.KernelIdeal.All

namespace Cert.ReferenceIdeal.Val

open Idealize.ShloMosaic Idealize.ShloMosaic.StableHlo Idealize.SL.Sem Cert.ReferenceIdeal Cert.ReferenceIdeal.Read

/-- The reference's result at launch is its last stage of the arguments. -/
theorem ref_result (m : (ℓ : Loc nD τ sig) → Buf (Elt Ideal) ℓ) (c : Dev nD) :
    val_main_v118 (F := Ideal) (launchContents m c (Proc.devRef .tc main_arg0)) (launchContents m c (Proc.devRef .tc main_arg1))
      (launchContents m c (Proc.devRef .tc main_arg2)) (launchContents m c (Proc.devRef .tc main_arg3)) (launchContents m c (Proc.devRef .tc main_arg4))
      (launchContents m c (Proc.devRef .tc main_arg5)) (launchContents m c (Proc.devRef .tc main_arg6)) (launchContents m c (Proc.devRef .tc main_arg7))
      (launchContents m c (Proc.devRef .tc main_arg8)) (launchContents m c (Proc.devRef .tc main_arg9)) (launchContents m c (Proc.devRef .tc main_arg10))
      (launchContents m c (Proc.devRef .tc main_arg11)) (launchContents m c (Proc.devRef .tc main_arg12))
    = val_main_v118 (F := Ideal) (m ((c.tc : Thread nD τ).loc main_arg0)) (m ((c.tc : Thread nD τ).loc main_arg1)) (m ((c.tc : Thread nD τ).loc main_arg2))
      (m ((c.tc : Thread nD τ).loc main_arg3)) (m ((c.tc : Thread nD τ).loc main_arg4)) (m ((c.tc : Thread nD τ).loc main_arg5))
      (m ((c.tc : Thread nD τ).loc main_arg6)) (m ((c.tc : Thread nD τ).loc main_arg7)) (m ((c.tc : Thread nD τ).loc main_arg8))
      (m ((c.tc : Thread nD τ).loc main_arg9)) (m ((c.tc : Thread nD τ).loc main_arg10)) (m ((c.tc : Thread nD τ).loc main_arg11))
      (m ((c.tc : Thread nD τ).loc main_arg12)) := by
  simp only [launchContents_devRef]

end Cert.ReferenceIdeal.Val

namespace Cert.Proof

open Idealize.ShloMosaic Idealize.ShloMosaic.StableHlo Idealize.SL.Sem

/-- Where the query and key side's weights are finite, kernel and reference return equal arrays on equal arguments. -/
theorem algebraic [Cert.Pre_finite_weights.Facts] : Cert.algebraic_KernelIdeal_ReferenceIdeal_pre_finite_weights := by
  intro m g m' g' hpre hagree
  refine ⟨_, Cert.KernelIdeal.All.value_run m g, (θ_run _ _ _).mono (fun r h c => ⟨(h c).1.trans ?_, (h c).2⟩) (Cert.ReferenceIdeal.Value.run m' g')⟩
  refine (Cert.ReferenceIdeal.Read.val_main_v118_eq (launchContents m' c)).trans ((Cert.ReferenceIdeal.Val.ref_result m' c).trans ?_)
  obtain ⟨e0, e1, e2, e3, e4, e5, e6, e7, e8, e9, e10, e11, e12⟩ := hagree c
  rw [e0, e1, e2, e3, e4, e5, e6, e7, e8, e9, e10, e11, e12]
  have hp := hpre c
  exact (Cert.ReferenceIdeal.Val.out_eq _ _ _ _ _ _ _ _ _ _ _ _ _
    (Cert.Pre_finite_weights.ln_real _ _ _ _ _ _ _ _ _ _ _ _ _ hp)
    (Cert.Pre_finite_weights.q_real _ _ _ _ _ _ _ _ _ _ _ _ _ hp)
    (Cert.Pre_finite_weights.k_real _ _ _ _ _ _ _ _ _ _ _ _ _ hp)).symm

end Cert.Proof

end

end
-- ==== Proof.lean ====
/- The claims about the decoder layer: both printed kernels and the reference run and leave their arguments alone,
   the named constants of the idealized kernel are within rounding of the printed ones, and the idealized kernel and the reference return equal arrays. -/
module

public import proofs.«01_k».proof.Defs
public import proofs.«01_k».proof.Proof.Bits.Whole
public import proofs.«01_k».proof.Proof.Ideal.Whole
public import proofs.«01_k».proof.Proof.Gen.ReferenceIdeal
public import proofs.«01_k».proof.Proof.Gen.ReferenceIdeal.Run
public import proofs.«01_k».proof.Proof.Ideal.RefFrame
public import proofs.«01_k».proof.Proof.Gen.ReferenceIdeal.Read
public import proofs.«01_k».proof.Proof.Ideal.Algebraic
public import Idealize.ShloMosaic.Adequacy
public import Idealize.ShloMosaic.Init

@[expose] public section

noncomputable section

namespace Cert.Proof

open Idealize.ShloMosaic Idealize.SL.Sem Cert.Kernel

/-- Every claim of the certificate. -/
theorem claim : Cert.Claim := ⟨Cert.Kernel.Gen.facts, Cert.KernelIdeal.Gen.facts, Cert.ReferenceIdeal.Gen.facts, Cert.Pre_finite_weights.facts,
  fun m ρ _ => Cert.Kernel.Gen.whole_frame m ρ, fun m ρ _ => Cert.KernelIdeal.Gen.whole_frame m ρ,
  fun m ρ _ => Cert.KernelIdeal.Gen.whole_frame m ρ, fun m ρ _ => Cert.ReferenceIdeal.Gen.frame m ρ,
  fun m ρ _ => Cert.ReferenceIdeal.Gen.frame m ρ,
  ⟨IdealRules.named_const.statement Cert.KernelIdeal.κ "rope" .f32 0xBE935D8E#32 (((-1 / 32) * (Real.log 10000) : ℝ) : EReal) rfl,
    IdealRules.named_const.statement Cert.KernelIdeal.κ "log2e_8" .f32 0x3E38AA3B#32 (((8 * (Real.log 2))⁻¹ : ℝ) : EReal) rfl⟩,
  @Cert.Proof.algebraic Cert.Pre_finite_weights.facts⟩

end Cert.Proof

end
